-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "exp2_scale" .f32 0x3DD53B95#32 (((Real.sqrt 192)⁻¹ * (Real.log 2)⁻¹ : ℝ) : EReal)
  ∧ IdealRules.named_const.Statement Cert.KernelIdeal.κ "sm_scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_v27) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)) (v4 : (c : Dev Cert.Kernel3Ideal.nD) → Buf (Elt Ideal) ((c.tc : Thread Cert.Kernel3Ideal.nD Cert.Kernel3Ideal.τ).loc Cert.Kernel3Ideal.main_v8_4)) (v5 : (c : Dev Cert.Kernel3Ideal.nD) → Buf (Elt Ideal) ((c.tc : Thread Cert.Kernel3Ideal.nD Cert.Kernel3Ideal.τ).loc Cert.Kernel3Ideal.main_v8_5)) (v6 : (c : Dev Cert.Kernel3Ideal.nD) → Buf (Elt Ideal) ((c.tc : Thread Cert.Kernel3Ideal.nD Cert.Kernel3Ideal.τ).loc Cert.Kernel3Ideal.main_v8_6)) (v7 : (c : Dev Cert.Kernel3Ideal.nD) → Buf (Elt Ideal) ((c.tc : Thread Cert.Kernel3Ideal.nD Cert.Kernel3Ideal.τ).loc Cert.Kernel3Ideal.main_v8_7)) (v8 : (c : Dev Cert.Kernel3Ideal.nD) → Buf (Elt Ideal) ((c.tc : Thread Cert.Kernel3Ideal.nD Cert.Kernel3Ideal.τ).loc Cert.Kernel3Ideal.main_v8_8)) (v9 : (c : Dev Cert.Kernel3Ideal.nD) → Buf (Elt Ideal) ((c.tc : Thread Cert.Kernel3Ideal.nD Cert.Kernel3Ideal.τ).loc Cert.Kernel3Ideal.main_v8_9)) (v10 : (c : Dev Cert.Kernel3Ideal.nD) → Buf (Elt Ideal) ((c.tc : Thread Cert.Kernel3Ideal.nD Cert.Kernel3Ideal.τ).loc Cert.Kernel3Ideal.main_v8_10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_v8_4) = v4 c
          ∧ r.2.mem ((c.tc : Thread Cert.Kernel3Ideal.nD Cert.Kernel3Ideal.τ).loc Cert.Kernel3Ideal.main_v8_5) = v5 c
          ∧ r.2.mem ((c.tc : Thread Cert.Kernel3Ideal.nD Cert.Kernel3Ideal.τ).loc Cert.Kernel3Ideal.main_v8_6) = v6 c
          ∧ r.2.mem ((c.tc : Thread Cert.Kernel3Ideal.nD Cert.Kernel3Ideal.τ).loc Cert.Kernel3Ideal.main_v8_7) = v7 c
          ∧ r.2.mem ((c.tc : Thread Cert.Kernel3Ideal.nD Cert.Kernel3Ideal.τ).loc Cert.Kernel3Ideal.main_v8_8) = v8 c
          ∧ r.2.mem ((c.tc : Thread Cert.Kernel3Ideal.nD Cert.Kernel3Ideal.τ).loc Cert.Kernel3Ideal.main_v8_9) = v9 c
          ∧ r.2.mem ((c.tc : Thread Cert.Kernel3Ideal.nD Cert.Kernel3Ideal.τ).loc Cert.Kernel3Ideal.main_v8_10) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v110) = v0 c
          ∧ r.2.mem ((c.tc : Thread Cert.Reference3Ideal.nD Cert.Reference3Ideal.τ).loc Cert.Reference3Ideal.main_v111) = v1 c
          ∧ r.2.mem ((c.tc : Thread Cert.Reference3Ideal.nD Cert.Reference3Ideal.τ).loc Cert.Reference3Ideal.main_v112) = v2 c
          ∧ r.2.mem ((c.tc : Thread Cert.Reference3Ideal.nD Cert.Reference3Ideal.τ).loc Cert.Reference3Ideal.main_v113) = v3 c
          ∧ r.2.mem ((c.tc : Thread Cert.Reference3Ideal.nD Cert.Reference3Ideal.τ).loc Cert.Reference3Ideal.main_v114) = v4 c
          ∧ r.2.mem ((c.tc : Thread Cert.Reference3Ideal.nD Cert.Reference3Ideal.τ).loc Cert.Reference3Ideal.main_v116) = v5 c
          ∧ r.2.mem ((c.tc : Thread Cert.Reference3Ideal.nD Cert.Reference3Ideal.τ).loc Cert.Reference3Ideal.main_v104) = v6 c
          ∧ r.2.mem ((c.tc : Thread Cert.Reference3Ideal.nD Cert.Reference3Ideal.τ).loc Cert.Reference3Ideal.main_v117) = v7 c
          ∧ r.2.mem ((c.tc : Thread Cert.Reference3Ideal.nD Cert.Reference3Ideal.τ).loc Cert.Reference3Ideal.main_v119) = v8 c
          ∧ r.2.mem ((c.tc : Thread Cert.Reference3Ideal.nD Cert.Reference3Ideal.τ).loc Cert.Reference3Ideal.main_v121) = v9 c
          ∧ r.2.mem ((c.tc : Thread Cert.Reference3Ideal.nD Cert.Reference3Ideal.τ).loc Cert.Reference3Ideal.main_v122) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S4096x4x128 : Shape := ⟨3, ![4096, 4, 128]⟩
abbrev S4096x4x64 : Shape := ⟨3, ![4096, 4, 64]⟩
abbrev S4096x128 : Shape := ⟨2, ![4096, 128]⟩
abbrev S4096x64 : Shape := ⟨2, ![4096, 64]⟩
abbrev S_ : Shape := ⟨0, ![]⟩

class Facts : Prop where
  bcast_S_S4096x4x128 : S_.BroadcastsInDim S4096x4x128 (![] : Fin 0 → Fin S4096x4x128.rank)
  bcast_S_S4096x4x64 : S_.BroadcastsInDim S4096x4x64 (![] : Fin 0 → Fin S4096x4x64.rank)
  bcast_S_S4096x128 : S_.BroadcastsInDim S4096x128 (![] : Fin 0 → Fin S4096x128.rank)
  bcast_S_S4096x64 : S_.BroadcastsInDim S4096x64 (![] : Fin 0 → Fin S4096x64.rank)

variable [Facts]

def fn {F : FTy → Type} [FloatOps F] (main_arg0 : FVec F S4096x4x128 .f32) (main_arg1 : FVec F S4096x4x64 .f32) (main_arg2 : FVec F S4096x128 .f32) (main_arg3 : FVec F S4096x64 .f32) (main_arg4 : FVec F S4096x4x128 .f32) : IVec S4096x4x128 1 × IVec S4096x4x64 1 × IVec S4096x128 1 × IVec S4096x64 1 × IVec S4096x4x128 1 :=
  let main_v0 : FVec F S4096x4x128 .f32 := Host.absf main_arg0
  let main_cst : FVec F S_ .f32 := constant S_ .f32 0x7F800000#32
  let main_v1 : FVec F S4096x4x128 .f32 := broadcastInDim S4096x4x128 ![] bcast_S_S4096x4x128 main_cst
  let main_v2 : IVec S4096x4x128 1 := cmpf .olt main_v0 main_v1
  let main_v3 : FVec F S4096x4x64 .f32 := Host.absf main_arg1
  let main_cst_0 : FVec F S_ .f32 := constant S_ .f32 0x7F800000#32
  let main_v4 : FVec F S4096x4x64 .f32 := broadcastInDim S4096x4x64 ![] bcast_S_S4096x4x64 main_cst_0
  let main_v5 : IVec S4096x4x64 1 := cmpf .olt main_v3 main_v4
  let main_v6 : FVec F S4096x128 .f32 := Host.absf main_arg2
  let main_cst_1 : FVec F S_ .f32 := constant S_ .f32 0x7F800000#32
  let main_v7 : FVec F S4096x128 .f32 := broadcastInDim S4096x128 ![] bcast_S_S4096x128 main_cst_1
  let main_v8 : IVec S4096x128 1 := cmpf .olt main_v6 main_v7
  let main_v9 : FVec F S4096x64 .f32 := Host.absf main_arg3
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_v12 : FVec F S4096x4x128 .f32 := Host.absf main_arg4
  let main_cst_3 : FVec F S_ .f32 := constant S_ .f32 0x7F800000#32
  let main_v13 : FVec F S4096x4x128 .f32 := broadcastInDim S4096x4x128 ![] bcast_S_S4096x4x128 main_cst_3
  let main_v14 : IVec S4096x4x128 1 := cmpf .olt main_v12 main_v13
  (main_v2, main_v5, main_v8, main_v11, main_v14)
-- ==== Kernel.lean ====
abbrev S4096x4x128 : Shape := ⟨3, ![4096, 4, 128]⟩
abbrev S4096x4x64 : Shape := ⟨3, ![4096, 4, 64]⟩
abbrev S4096x128 : Shape := ⟨2, ![4096, 128]⟩
abbrev S4096x64 : Shape := ⟨2, ![4096, 64]⟩
abbrev S4096x4096x4 : Shape := ⟨3, ![4096, 4096, 4]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S4x4096 : Shape := ⟨2, ![4, 4096]⟩
abbrev S4x4096x1 : Shape := ⟨3, ![4, 4096, 1]⟩
abbrev S128x4x4096 : Shape := ⟨3, ![128, 4, 4096]⟩
abbrev S4096x4 : Shape := ⟨2, ![4096, 4]⟩
abbrev S4096x4x256 : Shape := ⟨3, ![4096, 4, 256]⟩
abbrev S8x512x4x256 : Shape := ⟨4, ![8, 512, 4, 256]⟩
abbrev S8x4x512x256 : Shape := ⟨4, ![8, 4, 512, 256]⟩
abbrev S8x2048x256 : Shape := ⟨3, ![8, 2048, 256]⟩
abbrev S4096x256 : Shape := ⟨2, ![4096, 256]⟩
abbrev S8x512x4x128 : Shape := ⟨4, ![8, 512, 4, 128]⟩
abbrev S8x4x512x128 : Shape := ⟨4, ![8, 4, 512, 128]⟩
abbrev S8x2048x128 : Shape := ⟨3, ![8, 2048, 128]⟩
abbrev S4x8x512 : Shape := ⟨3, ![4, 8, 512]⟩
abbrev S8x4x512 : Shape := ⟨3, ![8, 4, 512]⟩
abbrev S8x1x2048 : Shape := ⟨3, ![8, 1, 2048]⟩
abbrev S8x8x2048 : Shape := ⟨3, ![8, 8, 2048]⟩
abbrev S8x256x2048 : Shape := ⟨3, ![8, 256, 2048]⟩
abbrev S512x256 : Shape := ⟨2, ![512, 256]⟩
abbrev S1x256x2048 : Shape := ⟨3, ![1, 256, 2048]⟩
abbrev S512x2048 : Shape := ⟨2, ![512, 2048]⟩
abbrev S512x128 : Shape := ⟨2, ![512, 128]⟩
abbrev S256x512 : Shape := ⟨2, ![256, 512]⟩
abbrev S1x2048x256 : Shape := ⟨3, ![1, 2048, 256]⟩
abbrev S2048x256 : Shape := ⟨2, ![2048, 256]⟩
abbrev S1x2048x128 : Shape := ⟨3, ![1, 2048, 128]⟩
abbrev S2048x128 : Shape := ⟨2, ![2048, 128]⟩
abbrev S1x1x2048 : Shape := ⟨3, ![1, 1, 2048]⟩
abbrev S1x2048 : Shape := ⟨2, ![1, 2048]⟩
abbrev S16x2048 : Shape := ⟨2, ![16, 2048]⟩
abbrev S256x2048 : Shape := ⟨2, ![256, 2048]⟩

abbrev nBuf : Space → Nat
  | .hbm => 89
  | .vmem => 13
  | .smem => 0
  | _ => 0

abbrev bufTy : (tb : Table) → Fin (tcTables nBuf tb) → BufTy
  | .hbm, ⟨0, _⟩ => ⟨S4096x4x128, .f32⟩
  | .hbm, ⟨1, _⟩ => ⟨S4096x4x64, .f32⟩
  | .hbm, ⟨2, _⟩ => ⟨S4096x128, .f32⟩
  | .hbm, ⟨3, _⟩ => ⟨S4096x64, .f32⟩
  | .hbm, ⟨4, _⟩ => ⟨S4096x4x128, .f32⟩
  | .hbm, ⟨5, _⟩ => ⟨S4096x4096x4, .f32⟩
  | .hbm, ⟨6, _⟩ => ⟨S4x4096x4096, .f32⟩
  | .hbm, ⟨7, _⟩ => ⟨S4096x4096x4, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4096, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S1x4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S1x4096x4096, .i1⟩
  | .hbm, ⟨39, _⟩ => ⟨S_, .f32⟩
  | .hbm, ⟨40, _⟩ => ⟨S_, .f32⟩
  | .hbm, ⟨41, _⟩ => ⟨S4x4096x4096, .i1⟩
  | .hbm, ⟨42, _⟩ => ⟨S4x4096x4096, .f32⟩
  | .hbm, ⟨43, _⟩ => ⟨S4x4096x4096, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S4x4096x1, .f32⟩
  | .hbm, ⟨54, _⟩ => ⟨S4x4096x1, .f32⟩
  | .hbm, ⟨55, _⟩ => ⟨S4x4096, .f32⟩
  | .hbm, ⟨56, _⟩ => ⟨S4x4096x4096, .f32⟩
  | .hbm, ⟨57, _⟩ => ⟨S4x4096x4096, .f32⟩
  | .hbm, ⟨58, _⟩ => ⟨S128x4x4096, .f32⟩
  | .hbm, ⟨59, _⟩ => ⟨S4096x4x128, .f32⟩
  | .hbm, ⟨60, _⟩ => ⟨S4096x4x128, .f32⟩
  | .hbm, ⟨61, _⟩ => ⟨S_, .f32⟩
  | .hbm, ⟨62, _⟩ => ⟨S4096x4, .f32⟩
  | .hbm, ⟨63, _⟩ => ⟨S_, .f32⟩
  | .hbm, ⟨64, _⟩ => ⟨S4096x4x64, .f32⟩
  | .hbm, ⟨65, _⟩ => ⟨S4096x4x256, .f32⟩
  | .hbm, ⟨66, _⟩ => ⟨S8x512x4x256, .f32⟩
  | .hbm, ⟨67, _⟩ => ⟨S8x4x512x256, .f32⟩
  | .hbm, ⟨68, _⟩ => ⟨S8x2048x256, .f32⟩
  | .hbm, ⟨69, _⟩ => ⟨S8x2048x256, .bf16⟩
  | .hbm, ⟨70, _⟩ => ⟨S_, .f32⟩
  | .hbm, ⟨71, _⟩ => ⟨S4096x64, .f32⟩
  | .hbm, ⟨72, _⟩ => ⟨S4096x256, .f32⟩
  | .hbm, ⟨73, _⟩ => ⟨S4096x256, .bf16⟩
  | .hbm, ⟨74, _⟩ => ⟨S8x512x4x128, .f32⟩
  | .hbm, ⟨75, _⟩ => ⟨S8x4x512x128, .f32⟩
  | .hbm, ⟨76, _⟩ => ⟨S8x2048x128, .f32⟩
  | .hbm, ⟨77, _⟩ => ⟨S8x2048x128, .bf16⟩
  | .hbm, ⟨78, _⟩ => ⟨S4x8x512, .f32⟩
  | .hbm, ⟨79, _⟩ => ⟨S8x4x512, .f32⟩
  | .hbm, ⟨80, _⟩ => ⟨S8x1x2048, .f32⟩
  | .hbm, ⟨81, _⟩ => ⟨S8x8x2048, .f32⟩
  | .hbm, ⟨82, _⟩ => ⟨S4x4096, .f32⟩
  | .hbm, ⟨83, _⟩ => ⟨S4x8x512, .f32⟩
  | .hbm, ⟨84, _⟩ => ⟨S8x4x512, .f32⟩
  | .hbm, ⟨85, _⟩ => ⟨S8x1x2048, .f32⟩
  | .hbm, ⟨86, _⟩ => ⟨S8x8x2048, .f32⟩
  | .hbm, ⟨87, _⟩ => ⟨S4096x256, .f32⟩
  | .hbm, ⟨88, _⟩ => ⟨S8x256x2048, .bf16⟩
  | .local _ .vmem, ⟨0, _⟩ => ⟨S8x2048x256, .bf16⟩
  | .local _ .vmem, ⟨1, _⟩ => ⟨S512x256, .bf16⟩
  | .local _ .vmem, ⟨2, _⟩ => ⟨S512x256, .bf16⟩
  | .local _ .vmem, ⟨3, _⟩ => ⟨S8x2048x128, .bf16⟩
  | .local _ .vmem, ⟨4, _⟩ => ⟨S8x8x2048, .f32⟩
  | .local _ .vmem, ⟨5, _⟩ => ⟨S8x8x2048, .f32⟩
  | .local _ .vmem, ⟨6, _⟩ => ⟨S512x256, .f32⟩
  | .local _ .vmem, ⟨7, _⟩ => ⟨S512x256, .f32⟩
  | .local _ .vmem, ⟨8, _⟩ => ⟨S1x256x2048, .bf16⟩
  | .local _ .vmem, ⟨9, _⟩ => ⟨S1x256x2048, .bf16⟩
  | .local _ .vmem, ⟨10, _⟩ => ⟨S8x256x2048, .f32⟩
  | .local _ .vmem, ⟨11, _⟩ => ⟨S512x2048, .bf16⟩
  | .local _ .vmem, ⟨12, _⟩ => ⟨S512x2048, .bf16⟩
  | _, _ => ⟨S4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v16 : Ref sig .tc := ⟨.hbm, 43, rfl⟩
abbrev main_cst_1 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_2 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_3 : Ref sig .tc := ⟨.hbm, 61, rfl⟩
abbrev main_v32 : Ref sig .tc := ⟨.hbm, 62, rfl⟩
abbrev main_cst_4 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_5 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55_0 : Ref sig .tc := ⟨.hbm, 87, rfl⟩
abbrev main_v55_1 : Ref sig .tc := ⟨.hbm, 88, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .slt arg0 c0_i32_3
  let v13 : BitVec 32 := Scalar.extui v12
  let v14 : BitVec 32 := Scalar.subi v11 v13
  let c1_i32 : BitVec 32 := 1#32
  let c0_i32_4 : BitVec 32 := 0#32
  let v15 : BitVec 1 := Scalar.cmpi .sgt c1_i32 c0_i32_4
  let v16 : BitVec 32 := Scalar.extui v15
  let c0_i32_5 : BitVec 32 := 0#32
  let v17 : BitVec 1 := Scalar.cmpi .slt c1_i32 c0_i32_5
  let v18 : BitVec 32 := Scalar.extui v17
  let v19 : BitVec 32 := Scalar.subi v16 v18
  let v20 : BitVec 1 := Scalar.cmpi .ne v14 v19
  let v21 : BitVec 32 := Scalar.remsi arg0 c1_i32
  let c0_i32_6 : BitVec 32 := 0#32
  let v22 : BitVec 1 := Scalar.cmpi .ne v21 c0_i32_6
  let v23 : BitVec 1 := Scalar.andi v20 v22
  let v9 : BitVec 32 := Scalar.divsi arg0 c1_i32
  let c1_i32_7 : BitVec 32 := 1#32
  let v24 : BitVec 32 := Scalar.subi v9 c1_i32_7
  let v25 : BitVec 32 := Scalar.select v23 v24 v9
  let v39 : Index := Scalar.indexCast v25
  let c0_15 : Index := 0#32
  let c0_16 : Index := 0#32
  ![v39.toNat, 0, 0]
def k0_off2 (i : grid0.Coords) : Fin 3 → Nat :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .slt arg0 c0_i32_3
  let v13 : BitVec 32 := Scalar.extui v12
  let v14 : BitVec 32 := Scalar.subi v11 v13
  let c1_i32 : BitVec 32 := 1#32
  let c0_i32_4 : BitVec 32 := 0#32
  let v15 : BitVec 1 := Scalar.cmpi .sgt c1_i32 c0_i32_4
  let v16 : BitVec 32 := Scalar.extui v15
  let c0_i32_5 : BitVec 32 := 0#32
  let v17 : BitVec 1 := Scalar.cmpi .slt c1_i32 c0_i32_5
  let v18 : BitVec 32 := Scalar.extui v17
  let v19 : BitVec 32 := Scalar.subi v16 v18
  let v20 : BitVec 1 := Scalar.cmpi .ne v14 v19
  let v21 : BitVec 32 := Scalar.remsi arg0 c1_i32
  let c0_i32_6 : BitVec 32 := 0#32
  let v22 : BitVec 1 := Scalar.cmpi .ne v21 c0_i32_6
  let v23 : BitVec 1 := Scalar.andi v20 v22
  let v9 : BitVec 32 := Scalar.divsi arg0 c1_i32
  let c1_i32_7 : BitVec 32 := 1#32
  let v24 : BitVec 32 := Scalar.subi v9 c1_i32_7
  let v25 : BitVec 32 := Scalar.select v23 v24 v9
  let v42 : Index := Scalar.indexCast v25
  let c0_17 : Index := 0#32
  let c0_18 : Index := 0#32
  ![v42.toNat, 0, 0]
def k0_off3 (i : grid0.Coords) : Fin 3 → Nat :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .slt arg0 c0_i32_3
  let v13 : BitVec 32 := Scalar.extui v12
  let v14 : BitVec 32 := Scalar.subi v11 v13
  let c1_i32 : BitVec 32 := 1#32
  let c0_i32_4 : BitVec 32 := 0#32
  let v15 : BitVec 1 := Scalar.cmpi .sgt c1_i32 c0_i32_4
  let v16 : BitVec 32 := Scalar.extui v15
  let c0_i32_5 : BitVec 32 := 0#32
  let v17 : BitVec 1 := Scalar.cmpi .slt c1_i32 c0_i32_5
  let v18 : BitVec 32 := Scalar.extui v17
  let v19 : BitVec 32 := Scalar.subi v16 v18
  let v20 : BitVec 1 := Scalar.cmpi .ne v14 v19
  let v21 : BitVec 32 := Scalar.remsi arg0 c1_i32
  let c0_i32_6 : BitVec 32 := 0#32
  let v22 : BitVec 1 := Scalar.cmpi .ne v21 c0_i32_6
  let v23 : BitVec 1 := Scalar.andi v20 v22
  let v9 : BitVec 32 := Scalar.divsi arg0 c1_i32
  let c1_i32_7 : BitVec 32 := 1#32
  let v24 : BitVec 32 := Scalar.subi v9 c1_i32_7
  let v25 : BitVec 32 := Scalar.select v23 v24 v9
  let v47 : Index := Scalar.indexCast v25
  let c0_21 : Index := 0#32
  let c0_22 : Index := 0#32
  ![v47.toNat, 0, 0]
def k0_off4 (i : grid0.Coords) : Fin 3 → Nat :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .slt arg0 c0_i32_3
  let v13 : BitVec 32 := Scalar.extui v12
  let v14 : BitVec 32 := Scalar.subi v11 v13
  let c1_i32 : BitVec 32 := 1#32
  let c0_i32_4 : BitVec 32 := 0#32
  let v15 : BitVec 1 := Scalar.cmpi .sgt c1_i32 c0_i32_4
  let v16 : BitVec 32 := Scalar.extui v15
  let c0_i32_5 : BitVec 32 := 0#32
  let v17 : BitVec 1 := Scalar.cmpi .slt c1_i32 c0_i32_5
  let v18 : BitVec 32 := Scalar.extui v17
  let v19 : BitVec 32 := Scalar.subi v16 v18
  let v20 : BitVec 1 := Scalar.cmpi .ne v14 v19
  let v21 : BitVec 32 := Scalar.remsi arg0 c1_i32
  let c0_i32_6 : BitVec 32 := 0#32
  let v22 : BitVec 1 := Scalar.cmpi .ne v21 c0_i32_6
  let v23 : BitVec 1 := Scalar.andi v20 v22
  let v9 : BitVec 32 := Scalar.divsi arg0 c1_i32
  let c1_i32_7 : BitVec 32 := 1#32
  let v24 : BitVec 32 := Scalar.subi v9 c1_i32_7
  let v25 : BitVec 32 := Scalar.select v23 v24 v9
  let v930 : Index := Scalar.indexCast v25
  let c0_252 : Index := 0#32
  let c0_253 : Index := 0#32
  ![v930.toNat, 0, 0]
@[reducible] def k0_t1_loop (i : grid0.Coords) : Scf.Loop 32 :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .slt arg0 c0_i32_3
  let v13 : BitVec 32 := Scalar.extui v12
  let v14 : BitVec 32 := Scalar.subi v11 v13
  let c1_i32 : BitVec 32 := 1#32
  let c0_i32_4 : BitVec 32 := 0#32
  let v15 : BitVec 1 := Scalar.cmpi .sgt c1_i32 c0_i32_4
  let v16 : BitVec 32 := Scalar.extui v15
  let c0_i32_5 : BitVec 32 := 0#32
  let v17 : BitVec 1 := Scalar.cmpi .slt c1_i32 c0_i32_5
  let v18 : BitVec 32 := Scalar.extui v17
  let v19 : BitVec 32 := Scalar.subi v16 v18
  let v20 : BitVec 1 := Scalar.cmpi .ne v14 v19
  let v21 : BitVec 32 := Scalar.remsi arg0 c1_i32
  let c0_i32_6 : BitVec 32 := 0#32
  let v22 : BitVec 1 := Scalar.cmpi .ne v21 c0_i32_6
  let v23 : BitVec 1 := Scalar.andi v20 v22
  let v9 : BitVec 32 := Scalar.divsi arg0 c1_i32
  let c1_i32_7 : BitVec 32 := 1#32
  let v24 : BitVec 32 := Scalar.subi v9 c1_i32_7
  let v25 : BitVec 32 := Scalar.select v23 v24 v9
  let c1_i32_257 : BitVec 32 := 1#32
  let v939 : BitVec 32 := Scalar.addi v25 c1_i32_257
  let c8_i32_258 : BitVec 32 := 8#32
  let v940 : BitVec 32 := Scalar.subi c8_i32_258 v939
  let c1_i32_259 : BitVec 32 := 1#32
  let v942 : BitVec 32 := Scalar.divsi v940 c1_i32_259
  let v943 : BitVec 32 := Scalar.muli v942 c1_i32_259
  let v944 : BitVec 32 := Scalar.addi v939 v943
  let c1_i32_260 : BitVec 32 := 1#32
  ⟨v939, v944, c1_i32_260⟩
def k0_off5 (i : grid0.Coords) (k0_t1 : Fin (k0_t1_loop i).trips) : Fin 3 → Nat :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .slt arg0 c0_i32_3
  let v13 : BitVec 32 := Scalar.extui v12
  let v14 : BitVec 32 := Scalar.subi v11 v13
  let c1_i32 : BitVec 32 := 1#32
  let c0_i32_4 : BitVec 32 := 0#32
  let v15 : BitVec 1 := Scalar.cmpi .sgt c1_i32 c0_i32_4
  let v16 : BitVec 32 := Scalar.extui v15
  let c0_i32_5 : BitVec 32 := 0#32
  let v17 : BitVec 1 := Scalar.cmpi .slt c1_i32 c0_i32_5
  let v18 : BitVec 32 := Scalar.extui v17
  let v19 : BitVec 32 := Scalar.subi v16 v18
  let v20 : BitVec 1 := Scalar.cmpi .ne v14 v19
  let v21 : BitVec 32 := Scalar.remsi arg0 c1_i32
  let c0_i32_6 : BitVec 32 := 0#32
  let v22 : BitVec 1 := Scalar.cmpi .ne v21 c0_i32_6
  let v23 : BitVec 1 := Scalar.andi v20 v22
  let v9 : BitVec 32 := Scalar.divsi arg0 c1_i32
  let c1_i32_7 : BitVec 32 := 1#32
  let v24 : BitVec 32 := Scalar.subi v9 c1_i32_7
  let v25 : BitVec 32 := Scalar.select v23 v24 v9
  let c1_i32_257 : BitVec 32 := 1#32
  let v939 : BitVec 32 := Scalar.addi v25 c1_i32_257
  let c1_i32_260 : BitVec 32 := 1#32
  let arg11 : BitVec 32 := Scf.iv v939 c1_i32_260 k0_t1
  let v958 : Index := Scalar.indexCast arg11
  let c0_270 : Index := 0#32
  let c0_271 : Index := 0#32
  ![v958.toNat, 0, 0]
def k0_off6 (i : grid0.Coords) (k0_t1 : Fin (k0_t1_loop i).trips) : Fin 3 → Nat :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .slt arg0 c0_i32_3
  let v13 : BitVec 32 := Scalar.extui v12
  let v14 : BitVec 32 := Scalar.subi v11 v13
  let c1_i32 : BitVec 32 := 1#32
  let c0_i32_4 : BitVec 32 := 0#32
  let v15 : BitVec 1 := Scalar.cmpi .sgt c1_i32 c0_i32_4
  let v16 : BitVec 32 := Scalar.extui v15
  let c0_i32_5 : BitVec 32 := 0#32
  let v17 : BitVec 1 := Scalar.cmpi .slt c1_i32 c0_i32_5
  let v18 : BitVec 32 := Scalar.extui v17
  let v19 : BitVec 32 := Scalar.subi v16 v18
  let v20 : BitVec 1 := Scalar.cmpi .ne v14 v19
  let v21 : BitVec 32 := Scalar.remsi arg0 c1_i32
  let c0_i32_6 : BitVec 32 := 0#32
  let v22 : BitVec 1 := Scalar.cmpi .ne v21 c0_i32_6
  let v23 : BitVec 1 := Scalar.andi v20 v22
  let v9 : BitVec 32 := Scalar.divsi arg0 c1_i32
  let c1_i32_7 : BitVec 32 := 1#32
  let v24 : BitVec 32 := Scalar.subi v9 c1_i32_7
  let v25 : BitVec 32 := Scalar.select v23 v24 v9
  let c1_i32_257 : BitVec 32 := 1#32
  let v939 : BitVec 32 := Scalar.addi v25 c1_i32_257
  let c1_i32_260 : BitVec 32 := 1#32
  let arg11 : BitVec 32 := Scf.iv v939 c1_i32_260 k0_t1
  let v961 : Index := Scalar.indexCast arg11
  let c0_272 : Index := 0#32
  let c0_273 : Index := 0#32
  ![v961.toNat, 0, 0]
def k0_off7 (i : grid0.Coords) (k0_t1 : Fin (k0_t1_loop i).trips) : Fin 3 → Nat :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .slt arg0 c0_i32_3
  let v13 : BitVec 32 := Scalar.extui v12
  let v14 : BitVec 32 := Scalar.subi v11 v13
  let c1_i32 : BitVec 32 := 1#32
  let c0_i32_4 : BitVec 32 := 0#32
  let v15 : BitVec 1 := Scalar.cmpi .sgt c1_i32 c0_i32_4
  let v16 : BitVec 32 := Scalar.extui v15
  let c0_i32_5 : BitVec 32 := 0#32
  let v17 : BitVec 1 := Scalar.cmpi .slt c1_i32 c0_i32_5
  let v18 : BitVec 32 := Scalar.extui v17
  let v19 : BitVec 32 := Scalar.subi v16 v18
  let v20 : BitVec 1 := Scalar.cmpi .ne v14 v19
  let v21 : BitVec 32 := Scalar.remsi arg0 c1_i32
  let c0_i32_6 : BitVec 32 := 0#32
  let v22 : BitVec 1 := Scalar.cmpi .ne v21 c0_i32_6
  let v23 : BitVec 1 := Scalar.andi v20 v22
  let v9 : BitVec 32 := Scalar.divsi arg0 c1_i32
  let c1_i32_7 : BitVec 32 := 1#32
  let v24 : BitVec 32 := Scalar.subi v9 c1_i32_7
  let v25 : BitVec 32 := Scalar.select v23 v24 v9
  let c1_i32_257 : BitVec 32 := 1#32
  let v939 : BitVec 32 := Scalar.addi v25 c1_i32_257
  let c1_i32_260 : BitVec 32 := 1#32
  let arg11 : BitVec 32 := Scf.iv v939 c1_i32_260 k0_t1
  let v966 : Index := Scalar.indexCast arg11
  let c0_276 : Index := 0#32
  let c0_277 : Index := 0#32
  ![v966.toNat, 0, 0]
def k0_off8 (i : grid0.Coords) (k0_t1 : Fin (k0_t1_loop i).trips) : Fin 3 → Nat :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .slt arg0 c0_i32_3
  let v13 : BitVec 32 := Scalar.extui v12
  let v14 : BitVec 32 := Scalar.subi v11 v13
  let c1_i32 : BitVec 32 := 1#32
  let c0_i32_4 : BitVec 32 := 0#32
  let v15 : BitVec 1 := Scalar.cmpi .sgt c1_i32 c0_i32_4
  let v16 : BitVec 32 := Scalar.extui v15
  let c0_i32_5 : BitVec 32 := 0#32
  let v17 : BitVec 1 := Scalar.cmpi .slt c1_i32 c0_i32_5
  let v18 : BitVec 32 := Scalar.extui v17
  let v19 : BitVec 32 := Scalar.subi v16 v18
  let v20 : BitVec 1 := Scalar.cmpi .ne v14 v19
  let v21 : BitVec 32 := Scalar.remsi arg0 c1_i32
  let c0_i32_6 : BitVec 32 := 0#32
  let v22 : BitVec 1 := Scalar.cmpi .ne v21 c0_i32_6
  let v23 : BitVec 1 := Scalar.andi v20 v22
  let v9 : BitVec 32 := Scalar.divsi arg0 c1_i32
  let c1_i32_7 : BitVec 32 := 1#32
  let v24 : BitVec 32 := Scalar.subi v9 c1_i32_7
  let v25 : BitVec 32 := Scalar.select v23 v24 v9
  let c1_i32_257 : BitVec 32 := 1#32
  let v939 : BitVec 32 := Scalar.addi v25 c1_i32_257
  let c1_i32_260 : BitVec 32 := 1#32
  let arg11 : BitVec 32 := Scf.iv v939 c1_i32_260 k0_t1
  let v1625 : Index := Scalar.indexCast arg11
  let c0_481 : Index := 0#32
  let c0_482 : Index := 0#32
  ![v1625.toNat, 0, 0]
@[reducible] def k0_t2_loop (i : grid0.Coords) : Scf.Loop 32 :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .slt arg0 c0_i32_3
  let v13 : BitVec 32 := Scalar.extui v12
  let v14 : BitVec 32 := Scalar.subi v11 v13
  let c1_i32 : BitVec 32 := 1#32
  let c0_i32_4 : BitVec 32 := 0#32
  let v15 : BitVec 1 := Scalar.cmpi .sgt c1_i32 c0_i32_4
  let v16 : BitVec 32 := Scalar.extui v15
  let c0_i32_5 : BitVec 32 := 0#32
  let v17 : BitVec 1 := Scalar.cmpi .slt c1_i32 c0_i32_5
  let v18 : BitVec 32 := Scalar.extui v17
  let v19 : BitVec 32 := Scalar.subi v16 v18
  let v20 : BitVec 1 := Scalar.cmpi .ne v14 v19
  let v21 : BitVec 32 := Scalar.remsi arg0 c1_i32
  let c0_i32_6 : BitVec 32 := 0#32
  let v22 : BitVec 1 := Scalar.cmpi .ne v21 c0_i32_6
  let v23 : BitVec 1 := Scalar.andi v20 v22
  let v9 : BitVec 32 := Scalar.divsi arg0 c1_i32
  let c1_i32_7 : BitVec 32 := 1#32
  let v24 : BitVec 32 := Scalar.subi v9 c1_i32_7
  let v25 : BitVec 32 := Scalar.select v23 v24 v9
  let c1_i32_257 : BitVec 32 := 1#32
  let v939 : BitVec 32 := Scalar.addi v25 c1_i32_257
  let c8_i32_258 : BitVec 32 := 8#32
  let v940 : BitVec 32 := Scalar.subi c8_i32_258 v939
  let c1_i32_259 : BitVec 32 := 1#32
  let v942 : BitVec 32 := Scalar.divsi v940 c1_i32_259
  let v943 : BitVec 32 := Scalar.muli v942 c1_i32_259
  let v944 : BitVec 32 := Scalar.addi v939 v943
  let v941 : BitVec 32 := Scalar.addi v939 v940
  let c1_i32_261 : BitVec 32 := 1#32
  ⟨v944, v941, c1_i32_261⟩
def k0_off9 (i : grid0.Coords) (k0_t2 : Fin (k0_t2_loop i).trips) : Fin 3 → Nat :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .slt arg0 c0_i32_3
  let v13 : BitVec 32 := Scalar.extui v12
  let v14 : BitVec 32 := Scalar.subi v11 v13
  let c1_i32 : BitVec 32 := 1#32
  let c0_i32_4 : BitVec 32 := 0#32
  let v15 : BitVec 1 := Scalar.cmpi .sgt c1_i32 c0_i32_4
  let v16 : BitVec 32 := Scalar.extui v15
  let c0_i32_5 : BitVec 32 := 0#32
  let v17 : BitVec 1 := Scalar.cmpi .slt c1_i32 c0_i32_5
  let v18 : BitVec 32 := Scalar.extui v17
  let v19 : BitVec 32 := Scalar.subi v16 v18
  let v20 : BitVec 1 := Scalar.cmpi .ne v14 v19
  let v21 : BitVec 32 := Scalar.remsi arg0 c1_i32
  let c0_i32_6 : BitVec 32 := 0#32
  let v22 : BitVec 1 := Scalar.cmpi .ne v21 c0_i32_6
  let v23 : BitVec 1 := Scalar.andi v20 v22
  let v9 : BitVec 32 := Scalar.divsi arg0 c1_i32
  let c1_i32_7 : BitVec 32 := 1#32
  let v24 : BitVec 32 := Scalar.subi v9 c1_i32_7
  let v25 : BitVec 32 := Scalar.select v23 v24 v9
  let c1_i32_257 : BitVec 32 := 1#32
  let v939 : BitVec 32 := Scalar.addi v25 c1_i32_257
  let c8_i32_258 : BitVec 32 := 8#32
  let v940 : BitVec 32 := Scalar.subi c8_i32_258 v939
  let c1_i32_259 : BitVec 32 := 1#32
  let v942 : BitVec 32 := Scalar.divsi v940 c1_i32_259
  let v943 : BitVec 32 := Scalar.muli v942 c1_i32_259
  let v944 : BitVec 32 := Scalar.addi v939 v943
  let c1_i32_261 : BitVec 32 := 1#32
  let arg11 : BitVec 32 := Scf.iv v944 c1_i32_261 k0_t2
  let v958 : Index := Scalar.indexCast arg11
  let c0_270 : Index := 0#32
  let c0_271 : Index := 0#32
  ![v958.toNat, 0, 0]
def k0_off10 (i : grid0.Coords) (k0_t2 : Fin (k0_t2_loop i).trips) : Fin 3 → Nat :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .slt arg0 c0_i32_3
  let v13 : BitVec 32 := Scalar.extui v12
  let v14 : BitVec 32 := Scalar.subi v11 v13
  let c1_i32 : BitVec 32 := 1#32
  let c0_i32_4 : BitVec 32 := 0#32
  let v15 : BitVec 1 := Scalar.cmpi .sgt c1_i32 c0_i32_4
  let v16 : BitVec 32 := Scalar.extui v15
  let c0_i32_5 : BitVec 32 := 0#32
  let v17 : BitVec 1 := Scalar.cmpi .slt c1_i32 c0_i32_5
  let v18 : BitVec 32 := Scalar.extui v17
  let v19 : BitVec 32 := Scalar.subi v16 v18
  let v20 : BitVec 1 := Scalar.cmpi .ne v14 v19
  let v21 : BitVec 32 := Scalar.remsi arg0 c1_i32
  let c0_i32_6 : BitVec 32 := 0#32
  let v22 : BitVec 1 := Scalar.cmpi .ne v21 c0_i32_6
  let v23 : BitVec 1 := Scalar.andi v20 v22
  let v9 : BitVec 32 := Scalar.divsi arg0 c1_i32
  let c1_i32_7 : BitVec 32 := 1#32
  let v24 : BitVec 32 := Scalar.subi v9 c1_i32_7
  let v25 : BitVec 32 := Scalar.select v23 v24 v9
  let c1_i32_257 : BitVec 32 := 1#32
  let v939 : BitVec 32 := Scalar.addi v25 c1_i32_257
  let c8_i32_258 : BitVec 32 := 8#32
  let v940 : BitVec 32 := Scalar.subi c8_i32_258 v939
  let c1_i32_259 : BitVec 32 := 1#32
  let v942 : BitVec 32 := Scalar.divsi v940 c1_i32_259
  let v943 : BitVec 32 := Scalar.muli v942 c1_i32_259
  let v944 : BitVec 32 := Scalar.addi v939 v943
  let c1_i32_261 : BitVec 32 := 1#32
  let arg11 : BitVec 32 := Scf.iv v944 c1_i32_261 k0_t2
  let v961 : Index := Scalar.indexCast arg11
  let c0_272 : Index := 0#32
  let c0_273 : Index := 0#32
  ![v961.toNat, 0, 0]
def k0_off11 (i : grid0.Coords) (k0_t2 : Fin (k0_t2_loop i).trips) : Fin 3 → Nat :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .slt arg0 c0_i32_3
  let v13 : BitVec 32 := Scalar.extui v12
  let v14 : BitVec 32 := Scalar.subi v11 v13
  let c1_i32 : BitVec 32 := 1#32
  let c0_i32_4 : BitVec 32 := 0#32
  let v15 : BitVec 1 := Scalar.cmpi .sgt c1_i32 c0_i32_4
  let v16 : BitVec 32 := Scalar.extui v15
  let c0_i32_5 : BitVec 32 := 0#32
  let v17 : BitVec 1 := Scalar.cmpi .slt c1_i32 c0_i32_5
  let v18 : BitVec 32 := Scalar.extui v17
  let v19 : BitVec 32 := Scalar.subi v16 v18
  let v20 : BitVec 1 := Scalar.cmpi .ne v14 v19
  let v21 : BitVec 32 := Scalar.remsi arg0 c1_i32
  let c0_i32_6 : BitVec 32 := 0#32
  let v22 : BitVec 1 := Scalar.cmpi .ne v21 c0_i32_6
  let v23 : BitVec 1 := Scalar.andi v20 v22
  let v9 : BitVec 32 := Scalar.divsi arg0 c1_i32
  let c1_i32_7 : BitVec 32 := 1#32
  let v24 : BitVec 32 := Scalar.subi v9 c1_i32_7
  let v25 : BitVec 32 := Scalar.select v23 v24 v9
  let c1_i32_257 : BitVec 32 := 1#32
  let v939 : BitVec 32 := Scalar.addi v25 c1_i32_257
  let c8_i32_258 : BitVec 32 := 8#32
  let v940 : BitVec 32 := Scalar.subi c8_i32_258 v939
  let c1_i32_259 : BitVec 32 := 1#32
  let v942 : BitVec 32 := Scalar.divsi v940 c1_i32_259
  let v943 : BitVec 32 := Scalar.muli v942 c1_i32_259
  let v944 : BitVec 32 := Scalar.addi v939 v943
  let c1_i32_261 : BitVec 32 := 1#32
  let arg11 : BitVec 32 := Scf.iv v944 c1_i32_261 k0_t2
  let v966 : Index := Scalar.indexCast arg11
  let c0_276 : Index := 0#32
  let c0_277 : Index := 0#32
  ![v966.toNat, 0, 0]
def k0_off12 (i : grid0.Coords) (k0_t2 : Fin (k0_t2_loop i).trips) : Fin 3 → Nat :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .slt arg0 c0_i32_3
  let v13 : BitVec 32 := Scalar.extui v12
  let v14 : BitVec 32 := Scalar.subi v11 v13
  let c1_i32 : BitVec 32 := 1#32
  let c0_i32_4 : BitVec 32 := 0#32
  let v15 : BitVec 1 := Scalar.cmpi .sgt c1_i32 c0_i32_4
  let v16 : BitVec 32 := Scalar.extui v15
  let c0_i32_5 : BitVec 32 := 0#32
  let v17 : BitVec 1 := Scalar.cmpi .slt c1_i32 c0_i32_5
  let v18 : BitVec 32 := Scalar.extui v17
  let v19 : BitVec 32 := Scalar.subi v16 v18
  let v20 : BitVec 1 := Scalar.cmpi .ne v14 v19
  let v21 : BitVec 32 := Scalar.remsi arg0 c1_i32
  let c0_i32_6 : BitVec 32 := 0#32
  let v22 : BitVec 1 := Scalar.cmpi .ne v21 c0_i32_6
  let v23 : BitVec 1 := Scalar.andi v20 v22
  let v9 : BitVec 32 := Scalar.divsi arg0 c1_i32
  let c1_i32_7 : BitVec 32 := 1#32
  let v24 : BitVec 32 := Scalar.subi v9 c1_i32_7
  let v25 : BitVec 32 := Scalar.select v23 v24 v9
  let c1_i32_257 : BitVec 32 := 1#32
  let v939 : BitVec 32 := Scalar.addi v25 c1_i32_257
  let c8_i32_258 : BitVec 32 := 8#32
  let v940 : BitVec 32 := Scalar.subi c8_i32_258 v939
  let c1_i32_259 : BitVec 32 := 1#32
  let v942 : BitVec 32 := Scalar.divsi v940 c1_i32_259
  let v943 : BitVec 32 := Scalar.muli v942 c1_i32_259
  let v944 : BitVec 32 := Scalar.addi v939 v943
  let c1_i32_261 : BitVec 32 := 1#32
  let arg11 : BitVec 32 := Scf.iv v944 c1_i32_261 k0_t2
  let v1625 : Index := Scalar.indexCast arg11
  let c0_481 : Index := 0#32
  let c0_482 : Index := 0#32
  ![v1625.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

abbrev stage0_0 : Fin 1 → Memref sig .tc .vmem S8x2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "exp2_scale" => some (((Real.sqrt 192)⁻¹ * (Real.log 2)⁻¹ : ℝ) : EReal)
  | "log2_e" => some (((Real.log 2)⁻¹ : ℝ) : EReal)
  | "sm_scale" => some (((Real.sqrt 192)⁻¹ : ℝ) : EReal)
  | _ => none
-- ==== ReferenceIdeal.lean ====
abbrev S4096x4x128 : Shape := ⟨3, ![4096, 4, 128]⟩
abbrev S4096x4x64 : Shape := ⟨3, ![4096, 4, 64]⟩
abbrev S4096x128 : Shape := ⟨2, ![4096, 128]⟩
abbrev S4096x64 : Shape := ⟨2, ![4096, 64]⟩
abbrev S4096x4096x4 : Shape := ⟨3, ![4096, 4096, 4]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S4x4096 : Shape := ⟨2, ![4, 4096]⟩
abbrev S4x4096x1 : Shape := ⟨3, ![4, 4096, 1]⟩
abbrev S128x4x4096 : Shape := ⟨3, ![128, 4, 4096]⟩
abbrev S128x4096 : Shape := ⟨2, ![128, 4096]⟩
abbrev S4096x256 : Shape := ⟨2, ![4096, 256]⟩
abbrev S4096x4x256 : Shape := ⟨3, ![4096, 4, 256]⟩
abbrev S8x512x4x256 : Shape := ⟨4, ![8, 512, 4, 256]⟩
abbrev S8x256x4x512 : Shape := ⟨4, ![8, 256, 4, 512]⟩
abbrev S8x256x2048 : Shape := ⟨3, ![8, 256, 2048]⟩

abbrev nBuf : Space → Nat
  | .hbm => 126
  | .vmem => 0
  | .smem => 0
  | _ => 0

abbrev bufTy : (tb : Table) → Fin (tcTables nBuf tb) → BufTy
  | .hbm, ⟨0, _⟩ => ⟨S4096x4x128, .f32⟩
  | .hbm, ⟨1, _⟩ => ⟨S4096x4x64, .f32⟩
  | .hbm, ⟨2, _⟩ => ⟨S4096x128, .f32⟩
  | .hbm, ⟨3, _⟩ => ⟨S4096x64, .f32⟩
  | .hbm, ⟨4, _⟩ => ⟨S4096x4x128, .f32⟩
  | .hbm, ⟨5, _⟩ => ⟨S4096x4096x4, .f32⟩
  | .hbm, ⟨6, _⟩ => ⟨S4x4096x4096, .f32⟩
  | .hbm, ⟨7, _⟩ => ⟨S4096x4096x4, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4096, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S1x4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S1x4096x4096, .i1⟩
  | .hbm, ⟨39, _⟩ => ⟨S_, .f32⟩
  | .hbm, ⟨40, _⟩ => ⟨S_, .f32⟩
  | .hbm, ⟨41, _⟩ => ⟨S4x4096x4096, .i1⟩
  | .hbm, ⟨42, _⟩ => ⟨S4x4096x4096, .f32⟩
  | .hbm, ⟨43, _⟩ => ⟨S4x4096x4096, .f32⟩
  | .hbm, ⟨44, _⟩ => ⟨S_, .f32⟩
  | .hbm, ⟨45, _⟩ => ⟨S4x4096x4096, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S4x4096x4096, .f32⟩
  | .hbm, ⟨50, _⟩ => ⟨S4x4096x4096, .i1⟩
  | .hbm, ⟨51, _⟩ => ⟨S4x4096x4096, .f32⟩
  | .hbm, ⟨52, _⟩ => ⟨S_, .f32⟩
  | .hbm, ⟨53, _⟩ => ⟨S4x4096, .f32⟩
  | .hbm, ⟨54, _⟩ => ⟨S_, .f32⟩
  | .hbm, ⟨55, _⟩ => ⟨S4x4096, .f32⟩
  | .hbm, ⟨56, _⟩ => ⟨S4x4096, .f32⟩
  | .hbm, ⟨57, _⟩ => ⟨S_, .f32⟩
  | .hbm, ⟨58, _⟩ => ⟨S4x4096, .f32⟩
  | .hbm, ⟨59, _⟩ => ⟨S4x4096, .i1⟩
  | .hbm, ⟨60, _⟩ => ⟨S_, .f32⟩
  | .hbm, ⟨61, _⟩ => ⟨S4x4096, .f32⟩
  | .hbm, ⟨62, _⟩ => ⟨S4x4096, .i1⟩
  | .hbm, ⟨63, _⟩ => ⟨S_, .f32⟩
  | .hbm, ⟨64, _⟩ => ⟨S4x4096, .f32⟩
  | .hbm, ⟨65, _⟩ => ⟨S_, .f32⟩
  | .hbm, ⟨66, _⟩ => ⟨S4x4096, .f32⟩
  | .hbm, ⟨67, _⟩ => ⟨S_, .f32⟩
  | .hbm, ⟨68, _⟩ => ⟨S4x4096, .f32⟩
  | .hbm, ⟨69, _⟩ => ⟨S4x4096, .f32⟩
  | .hbm, ⟨70, _⟩ => ⟨S4x4096, .f32⟩
  | .hbm, ⟨71, _⟩ => ⟨S4x4096x1, .f32⟩
  | .hbm, ⟨72, _⟩ => ⟨S4x4096x4096, .f32⟩
  | .hbm, ⟨73, _⟩ => ⟨S4x4096x4096, .f32⟩
  | .hbm, ⟨74, _⟩ => ⟨S4x4096x4096, .f32⟩
  | .hbm, ⟨75, _⟩ => ⟨S_, .f32⟩
  | .hbm, ⟨76, _⟩ => ⟨S4x4096, .f32⟩
  | .hbm, ⟨77, _⟩ => ⟨S4x4096x1, .f32⟩
  | .hbm, ⟨78, _⟩ => ⟨S4x4096x4096, .f32⟩
  | .hbm, ⟨79, _⟩ => ⟨S4x4096x4096, .f32⟩
  | .hbm, ⟨80, _⟩ => ⟨S4x4096x1, .f32⟩
  | .hbm, ⟨81, _⟩ => ⟨S_, .f32⟩
  | .hbm, ⟨82, _⟩ => ⟨S4x4096x1, .f32⟩
  | .hbm, ⟨83, _⟩ => ⟨S4x4096x1, .f32⟩
  | .hbm, ⟨84, _⟩ => ⟨S128x4x4096, .f32⟩
  | .hbm, ⟨85, _⟩ => ⟨S4096x4x128, .f32⟩
  | .hbm, ⟨86, _⟩ => ⟨S128x4x4096, .f32⟩
  | .hbm, ⟨87, _⟩ => ⟨S4x4096x4096, .f32⟩
  | .hbm, ⟨88, _⟩ => ⟨S128x4096, .f32⟩
  | .hbm, ⟨89, _⟩ => ⟨S4096x128, .f32⟩
  | .hbm, ⟨90, _⟩ => ⟨S4x4096x4096, .f32⟩
  | .hbm, ⟨91, _⟩ => ⟨S4x4096x4096, .f32⟩
  | .hbm, ⟨92, _⟩ => ⟨S4x4096x4096, .f32⟩
  | .hbm, ⟨93, _⟩ => ⟨S_, .f32⟩
  | .hbm, ⟨94, _⟩ => ⟨S4x4096, .f32⟩
  | .hbm, ⟨95, _⟩ => ⟨S4x4096x1, .f32⟩
  | .hbm, ⟨96, _⟩ => ⟨S4x4096x1, .f32⟩
  | .hbm, ⟨97, _⟩ => ⟨S4x4096x4096, .f32⟩
  | .hbm, ⟨98, _⟩ => ⟨S4x4096x4096, .f32⟩
  | .hbm, ⟨99, _⟩ => ⟨S_, .f32⟩
  | .hbm, ⟨100, _⟩ => ⟨S4x4096, .f32⟩
  | .hbm, ⟨101, _⟩ => ⟨S4x4096x4096, .f32⟩
  | .hbm, ⟨102, _⟩ => ⟨S4x4096x4096, .f32⟩
  | .hbm, ⟨103, _⟩ => ⟨S4x4096x4096, .f32⟩
  | .hbm, ⟨104, _⟩ => ⟨S_, .f32⟩
  | .hbm, ⟨105, _⟩ => ⟨S4x4096x4096, .f32⟩
  | .hbm, ⟨106, _⟩ => ⟨S4x4096x4096, .f32⟩
  | .hbm, ⟨107, _⟩ => ⟨S4x4096x4096, .f32⟩
  | .hbm, ⟨108, _⟩ => ⟨S4x4096x4096, .f32⟩
  | .hbm, ⟨109, _⟩ => ⟨S4096x4096x4, .f32⟩
  | .hbm, ⟨110, _⟩ => ⟨S4096x4x64, .f32⟩
  | .hbm, ⟨111, _⟩ => ⟨S4096x64, .f32⟩
  | .hbm, ⟨112, _⟩ => ⟨S4096x4096x4, .f32⟩
  | .hbm, ⟨113, _⟩ => ⟨S4096x4x128, .f32⟩
  | .hbm, ⟨114, _⟩ => ⟨S4096x128, .f32⟩
  | .hbm, ⟨115, _⟩ => ⟨S4096x128, .f32⟩
  | .hbm, ⟨116, _⟩ => ⟨S_, .f32⟩
  | .hbm, ⟨117, _⟩ => ⟨S4096x64, .f32⟩
  | .hbm, ⟨118, _⟩ => ⟨S4096x256, .f32⟩
  | .hbm, ⟨119, _⟩ => ⟨S_, .f32⟩
  | .hbm, ⟨120, _⟩ => ⟨S4096x4x64, .f32⟩
  | .hbm, ⟨121, _⟩ => ⟨S4096x4x256, .f32⟩
  | .hbm, ⟨122, _⟩ => ⟨S8x512x4x256, .f32⟩
  | .hbm, ⟨123, _⟩ => ⟨S8x256x4x512, .f32⟩
  | .hbm, ⟨124, _⟩ => ⟨S8x256x2048, .f32⟩
  | .hbm, ⟨125, _⟩ => ⟨S8x256x2048, .bf16⟩
  | _, _ => ⟨S4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_0 : Ref sig .tc := ⟨.hbm, 39, rfl⟩
abbrev main_call1_v0 : Ref sig .tc := ⟨.hbm, 40, rfl⟩
abbrev main_v16_1 : Ref sig .tc := ⟨.hbm, 41, rfl⟩
abbrev main_call1_v2 : Ref sig .tc := ⟨.hbm, 42, rfl⟩
abbrev main_v16_0 : Ref sig .tc := ⟨.hbm, 43, rfl⟩
abbrev main_call1_cst : Ref sig .tc := ⟨.hbm, 44, rfl⟩
abbrev main_v16_2 : Ref sig .tc := ⟨.hbm, 45, rfl⟩
abbrev main_cst_1 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_2 : Ref sig .tc := ⟨.hbm, 52, rfl⟩
abbrev main_v22 : Ref sig .tc := ⟨.hbm, 53, rfl⟩
abbrev main_cst_3 : Ref sig .tc := ⟨.hbm, 54, rfl⟩
abbrev main_v23 : Ref sig .tc := ⟨.hbm, 55, rfl⟩
abbrev main_v24 : Ref sig .tc := ⟨.hbm, 56, rfl⟩
abbrev main_cst_4 : Ref sig .tc := ⟨.hbm, 57, rfl⟩
abbrev main_v25 : Ref sig .tc := ⟨.hbm, 58, rfl⟩
abbrev main_v26 : Ref sig .tc := ⟨.hbm, 59, rfl⟩
abbrev main_cst_5 : Ref sig .tc := ⟨.hbm, 60, rfl⟩
abbrev main_v27 : Ref sig .tc := ⟨.hbm, 61, rfl⟩
abbrev main_v28 : Ref sig .tc := ⟨.hbm, 62, rfl⟩
abbrev main_cst_6 : Ref sig .tc := ⟨.hbm, 63, rfl⟩
abbrev main_v29 : Ref sig .tc := ⟨.hbm, 64, rfl⟩
abbrev main_cst_7 : Ref sig .tc := ⟨.hbm, 65, rfl⟩
abbrev main_v30 : Ref sig .tc := ⟨.hbm, 66, rfl⟩
abbrev main_cst_8 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_9 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_10 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_11 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_12 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_call2_cst : Ref sig .tc := ⟨.hbm, 104, rfl⟩
abbrev main_call2_v0 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_13 : Ref sig .tc := ⟨.hbm, 116, rfl⟩
abbrev main_v73 : Ref sig .tc := ⟨.hbm, 117, rfl⟩
abbrev main_v74 : Ref sig .tc := ⟨.hbm, 118, rfl⟩
abbrev main_cst_14 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩

abbrev nD : Nat := 1
abbrev τ : Topo := Topo.v7x

variable {F : FTy → Type} [FloatOps F]
-- ==== Kernel2.lean ====
abbrev S4096x1024 : Shape := ⟨2, ![4096, 1024]⟩
abbrev S1024x2816 : Shape := ⟨2, ![1024, 2816]⟩
abbrev S2816x1024 : Shape := ⟨2, ![2816, 1024]⟩
abbrev S1024x1024 : Shape := ⟨2, ![1024, 1024]⟩
abbrev S4096x2816 : Shape := ⟨2, ![4096, 2816]⟩
abbrev S_ : Shape := ⟨0, ![]⟩
abbrev S1024x4096 : Shape := ⟨2, ![1024, 4096]⟩
abbrev S4096x256 : Shape := ⟨2, ![4096, 256]⟩
abbrev S256x1024 : Shape := ⟨2, ![256, 1024]⟩
abbrev S1024x256 : Shape := ⟨2, ![1024, 256]⟩

abbrev nBuf : Space → Nat
  | .hbm => 47
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S1024x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S1024x4096, .f32⟩
  | .hbm, ⟨33, _⟩ => ⟨S1024x4096, .bf16⟩
  | .hbm, ⟨34, _⟩ => ⟨S1024x4096, .f32⟩
  | .hbm, ⟨35, _⟩ => ⟨S1024x4096, .bf16⟩
  | .hbm, ⟨36, _⟩ => ⟨S1024x4096, .f32⟩
  | .hbm, ⟨37, _⟩ => ⟨S1024x4096, .bf16⟩
  | .hbm, ⟨38, _⟩ => ⟨S4096x2816, .bf16⟩
  | .hbm, ⟨39, _⟩ => ⟨S4096x2816, .bf16⟩
  | .hbm, ⟨40, _⟩ => ⟨S4096x2816, .bf16⟩
  | .hbm, ⟨41, _⟩ => ⟨S4096x2816, .bf16⟩
  | .hbm, ⟨42, _⟩ => ⟨S4096x1024, .bf16⟩
  | .hbm, ⟨43, _⟩ => ⟨S2816x1024, .bf16⟩
  | .hbm, ⟨44, _⟩ => ⟨S2816x1024, .bf16⟩
  | .hbm, ⟨45, _⟩ => ⟨S2816x1024, .bf16⟩
  | .hbm, ⟨46, _⟩ => ⟨S1024x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S1024x256, .bf16⟩
  | .local _ .vmem, ⟨20, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v2_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v2_1 : Ref sig .tc := ⟨.hbm, 21, rfl⟩
abbrev main_v2_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20_0 : Ref sig .tc := ⟨.hbm, 43, rfl⟩
abbrev main_v20_1 : Ref sig .tc := ⟨.hbm, 44, rfl⟩
abbrev main_v20_2 : Ref sig .tc := ⟨.hbm, 45, rfl⟩
abbrev main_v20_3 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![15], ![false]⟩

def k0_cond1 (i : grid0.Coords) : BitVec 1 :=
  let arg0 : BitVec 32 := BitVec.ofNat 32 (i 0).val
  let c11_i32 : BitVec 32 := 11#32
  let v0 : BitVec 1 := Scalar.cmpi .slt arg0 c11_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c11_i32_0 : BitVec 32 := 11#32
  let v3 : BitVec 1 := Scalar.cmpi .sge arg0 c11_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4096x1024 : Shape := ⟨2, ![4096, 1024]⟩
abbrev S1024x2816 : Shape := ⟨2, ![1024, 2816]⟩
abbrev S2816x1024 : Shape := ⟨2, ![2816, 1024]⟩
abbrev S1024x1024 : Shape := ⟨2, ![1024, 1024]⟩
abbrev S4096x2816 : Shape := ⟨2, ![4096, 2816]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x1024, .f32⟩
  | .hbm, ⟨25, _⟩ => ⟨S1024x2816, .f32⟩
  | .hbm, ⟨26, _⟩ => ⟨S2816x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S2816x1024, .f32⟩
  | .hbm, ⟨35, _⟩ => ⟨S1024x2816, .f32⟩
  | .hbm, ⟨36, _⟩ => ⟨S4096x1024, .f32⟩
  | .hbm, ⟨37, _⟩ => ⟨S2816x1024, .f32⟩
  | .hbm, ⟨38, _⟩ => ⟨S1024x2816, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S1024x1024, .f32⟩
  | .hbm, ⟨43, _⟩ => ⟨S1024x1024, .f32⟩
  | .hbm, ⟨44, _⟩ => ⟨S4096x1024, .f32⟩
  | .hbm, ⟨45, _⟩ => ⟨S2816x1024, .f32⟩
  | .hbm, ⟨46, _⟩ => ⟨S2816x1024, .bf16⟩
  | .hbm, ⟨47, _⟩ => ⟨S2816x1024, .f32⟩
  | .hbm, ⟨48, _⟩ => ⟨S2816x1024, .bf16⟩
  | .hbm, ⟨49, _⟩ => ⟨S2816x1024, .bf16⟩
  | .hbm, ⟨50, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v2_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v2_1 : Ref sig .tc := ⟨.hbm, 21, rfl⟩
abbrev main_v2_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== Kernel3.lean ====
abbrev S4096x1024 : Shape := ⟨2, ![4096, 1024]⟩
abbrev S4096x512 : Shape := ⟨2, ![4096, 512]⟩
abbrev S1x6144 : Shape := ⟨2, ![1, 6144]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S1024x4096 : Shape := ⟨2, ![1024, 4096]⟩
abbrev S4096x2816 : Shape := ⟨2, ![4096, 2816]⟩
abbrev S8x128 : Shape := ⟨2, ![8, 128]⟩
abbrev S256x1024 : Shape := ⟨2, ![256, 1024]⟩
abbrev S256x512 : Shape := ⟨2, ![256, 512]⟩
abbrev S1024x256 : Shape := ⟨2, ![1024, 256]⟩
abbrev S256x2816 : Shape := ⟨2, ![256, 2816]⟩
abbrev S256 : Shape := ⟨1, ![256]⟩
abbrev S256x1 : Shape := ⟨2, ![256, 1]⟩
abbrev S256x256 : Shape := ⟨2, ![256, 256]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 37
  | .vmem => 45
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1x6144, .f32⟩
  | .hbm, ⟨4, _⟩ => ⟨S1024x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1x1024, .f32⟩
  | .hbm, ⟨10, _⟩ => ⟨S4096x1024, .f32⟩
  | .hbm, ⟨11, _⟩ => ⟨S4096x512, .bf16⟩
  | .hbm, ⟨12, _⟩ => ⟨S4096x512, .bf16⟩
  | .hbm, ⟨13, _⟩ => ⟨S1024x1024, .bf16⟩
  | .hbm, ⟨14, _⟩ => ⟨S2816x1024, .f32⟩
  | .hbm, ⟨15, _⟩ => ⟨S2816x1024, .bf16⟩
  | .hbm, ⟨16, _⟩ => ⟨S2816x1024, .f32⟩
  | .hbm, ⟨17, _⟩ => ⟨S2816x1024, .bf16⟩
  | .hbm, ⟨18, _⟩ => ⟨S2816x1024, .bf16⟩
  | .hbm, ⟨19, _⟩ => ⟨S1024x4096, .bf16⟩
  | .hbm, ⟨20, _⟩ => ⟨S4096x2816, .bf16⟩
  | .hbm, ⟨21, _⟩ => ⟨S4096x2816, .bf16⟩
  | .hbm, ⟨22, _⟩ => ⟨S4096x2816, .bf16⟩
  | .hbm, ⟨23, _⟩ => ⟨S4096x2816, .bf16⟩
  | .hbm, ⟨24, _⟩ => ⟨S1024x4096, .bf16⟩
  | .hbm, ⟨25, _⟩ => ⟨S4096x1024, .f32⟩
  | .hbm, ⟨26, _⟩ => ⟨S4096x1024, .bf16⟩
  | .hbm, ⟨27, _⟩ => ⟨S1024x4096, .bf16⟩
  | .hbm, ⟨28, _⟩ => ⟨S4096x512, .bf16⟩
  | .hbm, ⟨29, _⟩ => ⟨S4096x512, .f32⟩
  | .hbm, ⟨30, _⟩ => ⟨S8x128, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x6144, .f32⟩
  | .local _ .vmem, ⟨7, _⟩ => ⟨S1024x1024, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S1024x256, .bf16⟩
  | .local _ .vmem, ⟨16, _⟩ => ⟨S1024x256, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S256x2816, .bf16⟩
  | .local _ .vmem, ⟨25, _⟩ => ⟨S1024x256, .bf16⟩
  | .local _ .vmem, ⟨26, _⟩ => ⟨S1024x256, .bf16⟩
  | .local _ .vmem, ⟨27, _⟩ => ⟨S256x1024, .f32⟩
  | .local _ .vmem, ⟨28, _⟩ => ⟨S256x1024, .f32⟩
  | .local _ .vmem, ⟨29, _⟩ => ⟨S256x1024, .bf16⟩
  | .local _ .vmem, ⟨30, _⟩ => ⟨S256x1024, .bf16⟩
  | .local _ .vmem, ⟨31, _⟩ => ⟨S1024x256, .bf16⟩
  | .local _ .vmem, ⟨32, _⟩ => ⟨S1024x256, .bf16⟩
  | .local _ .vmem, ⟨33, _⟩ => ⟨S256x512, .bf16⟩
  | .local _ .vmem, ⟨34, _⟩ => ⟨S256x512, .bf16⟩
  | .local _ .vmem, ⟨35, _⟩ => ⟨S256x512, .f32⟩
  | .local _ .vmem, ⟨36, _⟩ => ⟨S256x512, .f32⟩
  | .local _ .vmem, ⟨37, _⟩ => ⟨S8x128, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S256x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev main_v8_6 : Ref sig .tc := ⟨.hbm, 25, rfl⟩
abbrev main_v8_7 : Ref sig .tc := ⟨.hbm, 26, rfl⟩
abbrev main_v8_8 : Ref sig .tc := ⟨.hbm, 27, rfl⟩
abbrev main_v8_9 : Ref sig .tc := ⟨.hbm, 28, rfl⟩
abbrev main_v8_10 : Ref sig .tc := ⟨.hbm, 29, rfl⟩
abbrev main_v8_11 : Ref sig .tc := ⟨.hbm, 30, rfl⟩
abbrev main_v8_12 : Ref sig .tc := ⟨.hbm, 31, rfl⟩
abbrev main_v8_13 : Ref sig .tc := ⟨.hbm, 32, rfl⟩
abbrev main_v8_14 : Ref sig .tc := ⟨.hbm, 33, rfl⟩
abbrev main_v8_15 : Ref sig .tc := ⟨.hbm, 34, rfl⟩
abbrev main_v8_16 : Ref sig .tc := ⟨.hbm, 35, rfl⟩
abbrev main_v8_17 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg23_0 : Ref sig .tc := ⟨.vmem, 38, rfl⟩
abbrev cc0_stg24_0 : Ref sig .tc := ⟨.vmem, 39, rfl⟩
abbrev cc0_stg25_0 : Ref sig .tc := ⟨.vmem, 40, rfl⟩
abbrev cc0_stg26_0 : Ref sig .tc := ⟨.vmem, 41, rfl⟩
abbrev cc0_stg27_0 : Ref sig .tc := ⟨.vmem, 42, rfl⟩
abbrev cc0_stg28_0 : Ref sig .tc := ⟨.vmem, 43, rfl⟩
abbrev cc0_scratch0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem23_0 : DmaSem sig := 38
abbrev cc0_sem24_0 : DmaSem sig := 39
abbrev cc0_sem25_0 : DmaSem sig := 40
abbrev cc0_sem26_0 : DmaSem sig := 41
abbrev cc0_sem27_0 : DmaSem sig := 42
abbrev cc0_sem28_0 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== Reference3Ideal.lean ====
abbrev S4096x1024 : Shape := ⟨2, ![4096, 1024]⟩
abbrev S4096x512 : Shape := ⟨2, ![4096, 512]⟩
abbrev S1x6144 : Shape := ⟨2, ![1, 6144]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024x4096 : Shape := ⟨2, ![1024, 4096]⟩

abbrev nBuf : Space → Nat
  | .hbm => 151
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S1x6144, .f32⟩
  | 4 => ⟨S1024x1024, .f32⟩
  | 5 => ⟨S1x1024, .f32⟩
  | 6 => ⟨S1024x2816, .f32⟩
  | 7 => ⟨S1024x2816, .f32⟩
  | 8 => ⟨S2816x1024, .f32⟩
  | 9 => ⟨S1x1024, .f32⟩
  | 10 => ⟨S4096x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S_, .f32⟩
  | 30 => ⟨S4096x1, .f32⟩
  | 31 => ⟨S4096x1, .f32⟩
  | 32 => ⟨S4096x1, .f32⟩
  | 33 => ⟨S4096x1024, .f32⟩
  | 34 => ⟨S4096x1024, .f32⟩
  | 35 => ⟨S4096x1024, .f32⟩
  | 36 => ⟨S4096x1024, .f32⟩
  | 37 => ⟨S_, .f32⟩
  | 38 => ⟨S1x1024, .f32⟩
  | 39 => ⟨S1x1024, .f32⟩
  | 40 => ⟨S4096x1024, .f32⟩
  | 41 => ⟨S4096x1024, .f32⟩
  | 42 => ⟨S4096x1024, .f32⟩
  | 43 => ⟨S4096x1024, .f32⟩
  | 44 => ⟨S4096x2816, .f32⟩
  | 45 => ⟨S4096x2816, .f32⟩
  | 46 => ⟨S4096x2816, .f32⟩
  | 47 => ⟨S4096x2816, .f32⟩
  | 48 => ⟨S_, .f32⟩
  | 49 => ⟨S4096x2816, .f32⟩
  | 50 => ⟨S4096x2816, .f32⟩
  | 51 => ⟨S_, .f32⟩
  | 52 => ⟨S4096x2816, .f32⟩
  | 53 => ⟨S4096x2816, .f32⟩
  | 54 => ⟨S4096x2816, .f32⟩
  | 55 => ⟨S4096x2816, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S_, .f32⟩
  | 62 => ⟨S4096, .f32⟩
  | 63 => ⟨S4096x1, .f32⟩
  | 64 => ⟨S_, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S_, .f32⟩
  | 83 => ⟨S4096, .f32⟩
  | 84 => ⟨S4096x1, .f32⟩
  | 85 => ⟨S_, .f32⟩
  | 86 => ⟨S4096x1, .f32⟩
  | 87 => ⟨S4096x1, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S1024x2816, .f32⟩
  | 96 => ⟨S4096x2816, .f32⟩
  | 97 => ⟨S4096x2816, .f32⟩
  | 98 => ⟨S_, .f32⟩
  | 99 => ⟨S4096x2816, .f32⟩
  | 100 => ⟨S4096x2816, .f32⟩
  | 101 => ⟨S4096x2816, .f32⟩
  | 102 => ⟨S_, .f32⟩
  | 103 => ⟨S4096x2816, .f32⟩
  | 104 => ⟨S4096x2816, .f32⟩
  | 105 => ⟨S4096x2816, .f32⟩
  | 106 => ⟨S4096x2816, .f32⟩
  | 107 => ⟨S4096x2816, .f32⟩
  | 108 => ⟨S4096x2816, .f32⟩
  | 109 => ⟨S2816x1024, .f32⟩
  | 110 => ⟨S4096x1024, .f32⟩
  | 111 => ⟨S2816x1024, .f32⟩
  | 112 => ⟨S4096x1024, .f32⟩
  | 113 => ⟨S4096x1024, .f32⟩
  | 114 => ⟨S_, .f32⟩
  | 115 => ⟨S1x1024, .f32⟩
  | 116 => ⟨S1x1024, .f32⟩
  | 117 => ⟨S1x1024, .f32⟩
  | 118 => ⟨S4096x1024, .f32⟩
  | 119 => ⟨S4096x1024, .f32⟩
  | 120 => ⟨S4096x1024, .f32⟩
  | 121 => ⟨S_, .f32⟩
  | 122 => ⟨S4096, .f32⟩
  | 123 => ⟨S4096x1, .f32⟩
  | 124 => ⟨S_, .f32⟩
  | 125 => ⟨S4096x1, .f32⟩
  | 126 => ⟨S4096x1, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S1024x1024, .f32⟩
  | 8 => ⟨S4096x1024, .f32⟩
  | 9 => ⟨S1024x4096, .f32⟩
  | 10 => ⟨S1024x4096, .bf16⟩
  | 11 => ⟨S4096x2816, .bf16⟩
  | 12 => ⟨S4096x2816, .bf16⟩
  | 13 => ⟨S4096x2816, .bf16⟩
  | 14 => ⟨S4096x2816, .bf16⟩
  | 15 => ⟨S1024x4096, .f32⟩
  | 16 => ⟨S1024x4096, .bf16⟩
  | 17 => ⟨S4096x1024, .bf16⟩
  | 18 => ⟨S1024x4096, .f32⟩
  | 19 => ⟨S1024x4096, .bf16⟩
  | 20 => ⟨S4096x512, .f32⟩
  | 21 => ⟨S4096x512, .bf16⟩
  | 22 => ⟨S4096x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_11 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_13 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_14 : Ref sig .tc := ⟨.hbm, 121, rfl⟩
abbrev main_v95 : Ref sig .tc := ⟨.hbm, 122, rfl⟩
abbrev main_v96 : Ref sig .tc := ⟨.hbm, 123, rfl⟩
abbrev main_cst_15 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩

abbrev nD : Nat := 1
abbrev τ : Topo := Topo.v7x

variable {F : FTy → Type} [FloatOps F]
-- ==== Proof.Tile.lean ====
/-
  One tile of the attention's gradient, at any floats: the probabilities and the scores' gradient of a tile of 512 keys against
  the 2048 query rows of four heads, as whole arrays of 512 rows. The kernel computes both sixteen rows at a time and stores
  them; here are the sixteen-row pieces, the whole arrays they are rows of, and the reading of a buffer whose 32 pieces
  have all been stored.
-/
module

public import proofs.«01_k».proof.Proof.Gen.KernelIdeal.Skeleton
public import Idealize.ShloMosaic.Lib.Pipeline.Value
public import Idealize.ShloMosaic.Lib.Pipeline.ReadBack
public import Idealize.ShloMosaic.Lib.Pointwise.Index
public import Idealize.ShloMosaic.Lib.Ring
public import Idealize.ShloMosaic.Lib.Tactic

@[expose] public section

noncomputable section

namespace Cert.KernelIdeal.Value

open Idealize.ShloMosaic Idealize.ShloMosaic.TcCoe Idealize.ShloMosaic.Tactic
open Cert.KernelIdeal Cert.KernelIdeal.Gen

variable {F : FTy → Type} [FloatOps F] [Named F]

/-! ## Sixteen rows -/

/-- Sixteen rows of probabilities: the exponential of the scaled scores less the row log-sums. -/
def pRows (s : FVec F S16x2048 .f32) (l : FVec F S1x2048 .f32) : FVec F S16x2048 .f32 :=
  exp2 (subf (mulf s (broadcast S16x2048 (Named.named κ "exp2_scale" 0x3DD53B95#32))) (broadcastTo S16x2048 l broadcasts_S1x2048_S16x2048))

/-- Sixteen rows of which the key's chunk is `t`: zero where the query's chunk is an earlier one. -/
def maskRows (t : BitVec 32) (qc : IVec S1x2048 32) (p : FVec F S16x2048 .f32) : FVec F S16x2048 .f32 :=
  select (broadcastTo S16x2048 (cmpi .sle (broadcast S1x2048 t) qc) broadcasts_S1x2048_S16x2048) p (broadcast S16x2048 (Scalar.ofBits .f32 0x00000000#32))

/-- Sixteen rows of the scores' gradient. -/
def dsRows (p dp : FVec F S16x2048 .f32) (d : FVec F S1x2048 .f32) : FVec F S16x2048 .f32 :=
  mulf (mulf p (subf dp (broadcastTo S16x2048 d broadcasts_S1x2048_S16x2048))) (broadcast S16x2048 (Named.named κ "sm_scale" 0x3D93CD3A#32))

/-! ## The whole tile -/

/-- The column an index of the tile lies in. -/
def col (y : S512x2048.Idx) : S1x2048.Idx := ix2 (0 : Fin 1) (y 1 : Fin 2048)

/-- The tile's probabilities. -/
def pTile (s : FVec F S512x2048 .f32) (l : FVec F S1x2048 .f32) : FVec F S512x2048 .f32 :=
  exp2 (subf (mulf s (broadcast S512x2048 (Named.named κ "exp2_scale" 0x3DD53B95#32))) fun y => l (col y))

/-- The tile under the block-causal mask, its first row in chunk `c`. -/
def maskTile (c : BitVec 32) (qc : IVec S1x2048 32) (p : FVec F S512x2048 .f32) : FVec F S512x2048 .f32 :=
  select (fun y => cmpi .sle (broadcast S1x2048 (Scalar.addi (BitVec.ofNat 32 ((y 0).val / 64)) c)) qc (col y)) p
    (broadcast S512x2048 (Scalar.ofBits .f32 0x00000000#32))

/-- The tile's gradient of the scores. -/
def dsTile (p dp : FVec F S512x2048 .f32) (d : FVec F S1x2048 .f32) : FVec F S512x2048 .f32 :=
  mulf (mulf p (subf dp fun y => d (col y))) (broadcast S512x2048 (Named.named κ "sm_scale" 0x3D93CD3A#32))

/-! ## Sixteen rows are rows of the tile -/

theorem rect_emb {o : Nat} (inb : ∀ a, (![o, 0] : Fin 2 → Nat) a + S16x2048.size a ≤ S512x2048.size a) (x : S16x2048.Idx) :
    (((Rect.unit (s := S512x2048) ![o, 0] S16x2048.size inb).emb x 0).val = o + (x 0).val)
      ∧ (((Rect.unit (s := S512x2048) ![o, 0] S16x2048.size inb).emb x 1).val = (x 1).val) :=
  ⟨show o + 1 * (x 0).val = _ by omega, show 0 + 1 * (x 1).val = _ by omega⟩

theorem slice_eq {α : Type} (o : Nat) (s : S512x2048.Idx → α) (hs : S512x2048.Slices ![o, 0] S16x2048)
    (inb : ∀ a, (![o, 0] : Fin 2 → Nat) a + S16x2048.size a ≤ S512x2048.size a) :
    extractStridedSlice S16x2048 ![o, 0] s hs = fun x => s ((Rect.unit (s := S512x2048) ![o, 0] S16x2048.size inb).emb x) := by
  funext x
  refine extractStridedSlice_apply ![o, 0] s hs x _ fun a => ?_
  match a with
  | ⟨0, _⟩ => exact (rect_emb inb x).1
  | ⟨1, _⟩ => exact (rect_emb inb x).2.trans (Nat.zero_add _).symm

theorem spread_eq {α : Type} (o : Nat) (l : S1x2048.Idx → α) (h : S1x2048.Broadcasts S16x2048)
    (inb : ∀ a, (![o, 0] : Fin 2 → Nat) a + S16x2048.size a ≤ S512x2048.size a) :
    broadcastTo S16x2048 l h = fun x => l (col ((Rect.unit (s := S512x2048) ![o, 0] S16x2048.size inb).emb x)) := by
  funext x
  refine broadcastTo_apply l h x _ fun a => ?_
  match a with
  | ⟨0, _⟩ => rfl
  | ⟨1, _⟩ => exact (rect_emb inb x).2

theorem pRows_slice (o : Nat) (s : FVec F S512x2048 .f32) (l : FVec F S1x2048 .f32) (hs : S512x2048.Slices ![o, 0] S16x2048)
    (inb : ∀ a, (![o, 0] : Fin 2 → Nat) a + S16x2048.size a ≤ S512x2048.size a) :
    pRows (extractStridedSlice S16x2048 ![o, 0] s hs) l = fun x => pTile s l ((Rect.unit (s := S512x2048) ![o, 0] S16x2048.size inb).emb x) := by
  unfold pRows
  rw [slice_eq o s hs inb, spread_eq o l _ inb]
  rfl

theorem maskRows_slice (o : Nat) (t : BitVec 32) (c : BitVec 32) (ho : o % 16 = 0) (ht : t = Scalar.addi (BitVec.ofNat 32 (o / 64)) c)
    (qc : IVec S1x2048 32) (p : FVec F S512x2048 .f32)
    (inb : ∀ a, (![o, 0] : Fin 2 → Nat) a + S16x2048.size a ≤ S512x2048.size a) :
    maskRows t qc (fun x => p ((Rect.unit (s := S512x2048) ![o, 0] S16x2048.size inb).emb x))
      = fun x => maskTile c qc p ((Rect.unit (s := S512x2048) ![o, 0] S16x2048.size inb).emb x) := by
  unfold maskRows
  rw [spread_eq o _ _ inb]
  funext x
  have e : t = Scalar.addi (BitVec.ofNat 32 (((Rect.unit (s := S512x2048) ![o, 0] S16x2048.size inb).emb x 0).val / 64)) c := by
    have hx : (x 0).val < 16 := (x 0).isLt
    have hd : (o + (x 0).val) / 64 = o / 64 := by omega
    rw [ht, (rect_emb inb x).1, hd]
  rw [e]
  rfl

theorem dsRows_slice (o : Nat) (p dp : FVec F S512x2048 .f32) (d : FVec F S1x2048 .f32) (hs : S512x2048.Slices ![o, 0] S16x2048)
    (inb : ∀ a, (![o, 0] : Fin 2 → Nat) a + S16x2048.size a ≤ S512x2048.size a) :
    dsRows (fun x => p ((Rect.unit (s := S512x2048) ![o, 0] S16x2048.size inb).emb x)) (extractStridedSlice S16x2048 ![o, 0] dp hs) d
      = fun x => dsTile p dp d ((Rect.unit (s := S512x2048) ![o, 0] S16x2048.size inb).emb x) := by
  unfold dsRows
  rw [slice_eq o dp hs inb, spread_eq o d _ inb]
  rfl

/-! ## What the two scratch buffers hold once their 32 pieces are stored -/

/-- A piece of the buffer of probabilities. -/
theorem p_piece (o : Nat) (s : FVec F S512x2048 .f32) (l : FVec F S1x2048 .f32) (hs : S512x2048.Slices ![o, 0] S16x2048)
    (inb : ∀ a, (![o, 0] : Fin 2 → Nat) a + S16x2048.size a ≤ S512x2048.size a) (w : FVec F S16x2048 .bf16)
    (hw : w = truncf .bf16 (pRows (extractStridedSlice S16x2048 ![o, 0] s hs) l) bitsLt_bf16_f32) (x : S16x2048.Idx) :
    w x = truncf .bf16 (pTile s l) bitsLt_bf16_f32 ((Rect.unit (s := S512x2048) ![o, 0] S16x2048.size inb).emb x) := by
  rw [hw, pRows_slice o s l hs inb]; rfl

/-- A piece of the buffer of the scores' gradient. -/
theorem ds_piece (o : Nat) (s dp : FVec F S512x2048 .f32) (l d : FVec F S1x2048 .f32) (hs hs' : S512x2048.Slices ![o, 0] S16x2048)
    (inb : ∀ a, (![o, 0] : Fin 2 → Nat) a + S16x2048.size a ≤ S512x2048.size a) (w : FVec F S16x2048 .bf16)
    (hw : w = truncf .bf16 (dsRows (pRows (extractStridedSlice S16x2048 ![o, 0] s hs) l) (extractStridedSlice S16x2048 ![o, 0] dp hs') d) bitsLt_bf16_f32)
    (x : S16x2048.Idx) :
    w x = truncf .bf16 (dsTile (pTile s l) dp d) bitsLt_bf16_f32 ((Rect.unit (s := S512x2048) ![o, 0] S16x2048.size inb).emb x) := by
  rw [hw, pRows_slice o s l hs inb]
  exact congrFun (congrArg (fun r : FVec F S16x2048 .f32 => truncf .bf16 r bitsLt_bf16_f32) (dsRows_slice o (pTile s l) dp d hs' inb)) x

/-- A piece of the buffer of probabilities, on the diagonal. -/
theorem pm_piece (o : Nat) (t c : BitVec 32) (ho : o % 16 = 0) (ht : t = Scalar.addi (BitVec.ofNat 32 (o / 64)) c) (qc : IVec S1x2048 32)
    (s : FVec F S512x2048 .f32) (l : FVec F S1x2048 .f32) (hs : S512x2048.Slices ![o, 0] S16x2048)
    (inb : ∀ a, (![o, 0] : Fin 2 → Nat) a + S16x2048.size a ≤ S512x2048.size a) (w : FVec F S16x2048 .bf16)
    (hw : w = truncf .bf16 (maskRows t qc (pRows (extractStridedSlice S16x2048 ![o, 0] s hs) l)) bitsLt_bf16_f32) (x : S16x2048.Idx) :
    w x = truncf .bf16 (maskTile c qc (pTile s l)) bitsLt_bf16_f32 ((Rect.unit (s := S512x2048) ![o, 0] S16x2048.size inb).emb x) := by
  rw [hw, pRows_slice o s l hs inb]
  exact congrFun (congrArg (fun r : FVec F S16x2048 .f32 => truncf .bf16 r bitsLt_bf16_f32) (maskRows_slice o t c ho ht qc (pTile s l) inb)) x

/-- A piece of the buffer of the scores' gradient, on the diagonal. -/
theorem dsm_piece (o : Nat) (t c : BitVec 32) (ho : o % 16 = 0) (ht : t = Scalar.addi (BitVec.ofNat 32 (o / 64)) c) (qc : IVec S1x2048 32)
    (s dp : FVec F S512x2048 .f32) (l d : FVec F S1x2048 .f32) (hs hs' : S512x2048.Slices ![o, 0] S16x2048)
    (inb : ∀ a, (![o, 0] : Fin 2 → Nat) a + S16x2048.size a ≤ S512x2048.size a) (w : FVec F S16x2048 .bf16)
    (hw : w = truncf .bf16 (dsRows (maskRows t qc (pRows (extractStridedSlice S16x2048 ![o, 0] s hs) l)) (extractStridedSlice S16x2048 ![o, 0] dp hs') d) bitsLt_bf16_f32)
    (x : S16x2048.Idx) :
    w x = truncf .bf16 (dsTile (maskTile c qc (pTile s l)) dp d) bitsLt_bf16_f32 ((Rect.unit (s := S512x2048) ![o, 0] S16x2048.size inb).emb x) := by
  rw [hw, pRows_slice o s l hs inb]
  have h := congrArg (fun p : FVec F S16x2048 .f32 => dsRows p (extractStridedSlice S16x2048 ![o, 0] dp hs') d) (maskRows_slice o t c ho ht qc (pTile s l) inb)
  exact congrFun (congrArg (fun r : FVec F S16x2048 .f32 => truncf .bf16 r bitsLt_bf16_f32)
    (h.trans (dsRows_slice o (maskTile c qc (pTile s l)) dp d hs' inb))) x

/-- A whole load of a buffer all of whose rows have been stored, each store rows of `G`. -/
theorem readCov_whole (v : View sig .tc .vmem S512x2048 .bf16) (G : FVec F S512x2048 .bf16) (L : List (View.Piece (Elt F) S512x2048 .bf16))
    (hc : View.Piece.tiledL L ![16, 2048] = true) (hG : View.PiecesOf (Val := Elt F) G L)
    (inb : ∀ a, (![0, 0] : Fin 2 → Nat) a + S512x2048.size a ≤ S512x2048.size a) :
    v.readCov L (Rect.unit ![0, 0] S512x2048.size inb).toLoadRect = G := by
  rw [View.readCov_eq_canon']
  funext y
  have e : (Rect.unit (s := S512x2048) ![0, 0] S512x2048.size inb).toLoadRect.idx y = y := funext fun a => Fin.ext (by
    match a with
    | ⟨0, _⟩ => show 0 + 1 * (y 0).val = (y 0).val; omega
    | ⟨1, _⟩ => show 0 + 1 * (y 1).val = (y 1).val; omega)
  rw [e]
  have h := View.canon_append_of_piecesOf G [] L hG y (View.cover_of_tiledL L ![16, 2048] hc y)
  rwa [List.append_nil] at h

end Cert.KernelIdeal.Value
-- ==== Proof.Trip.lean ====
/-
  One trip of the loop over the query tiles, at any floats: what it stores in the two scratch buffers and reads back whole is the
  tile's probabilities and the tile's gradient of the scores.
-/
module

public import proofs.«01_k».proof.Proof.Gen.KernelIdeal.Loops
public import proofs.«01_k».proof.Proof.Tile

@[expose] public section

set_option maxRecDepth 65536
set_option maxHeartbeats 4000000

noncomputable section

namespace Cert.KernelIdeal.Value

open Idealize.ShloMosaic Idealize.ShloMosaic.TcCoe Idealize.ShloMosaic.Tactic
open Cert.KernelIdeal Cert.KernelIdeal.Gen

variable {F : FTy → Type} [FloatOps F] [Named F]

theorem trip_p (i : grid0.Coords) (arg1 : Memref sig .tc .vmem S8x2048x256 .bf16) (arg3 : Memref sig .tc .vmem S8x2048x128 .bf16)
    (arg4 arg5 : Memref sig .tc .vmem S8x8x2048 .f32) (arg9 arg10 : Memref sig .tc .vmem S512x2048 .bf16)
    (v1 : FVec F S512x256 .bf16) (v2 : FVec F S512x128 .bf16) (X1 : BufTy.Contents (Elt F) arg1.view.ty) (X3 : BufTy.Contents (Elt F) arg3.view.ty)
    (X4 : BufTy.Contents (Elt F) arg4.view.ty) (X5 : BufTy.Contents (Elt F) arg5.view.ty) (k : Fin (k0_t1_loop i).trips) :
    trip_k0_t1.sl.v1620 i arg1 arg4 arg9 v1 X1 X4 k
      = truncf .bf16 (pTile (trip_k0_t1.sl.r_2 i arg1 v1 X1 k) (trip_k0_t1.sl.r_4 i arg4 X4 k)) bitsLt_bf16_f32 := by
  unfold trip_k0_t1.sl.v1620 trip_k0_t1.sl.HW_arg9_32
  refine readCov_whole _ _ _ (by sl_kernel_rfl) ?_ _
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    intro x
    refine p_piece _ _ _ (by decide) (by decide) _ ?_ x
    simp only [trip_k0_t1.sl.r_6, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, shapeCast_self]
    first | rfl | skip

theorem trip_ds (i : grid0.Coords) (arg1 : Memref sig .tc .vmem S8x2048x256 .bf16) (arg3 : Memref sig .tc .vmem S8x2048x128 .bf16)
    (arg4 arg5 : Memref sig .tc .vmem S8x8x2048 .f32) (arg9 arg10 : Memref sig .tc .vmem S512x2048 .bf16)
    (v1 : FVec F S512x256 .bf16) (v2 : FVec F S512x128 .bf16) (X1 : BufTy.Contents (Elt F) arg1.view.ty) (X3 : BufTy.Contents (Elt F) arg3.view.ty)
    (X4 : BufTy.Contents (Elt F) arg4.view.ty) (X5 : BufTy.Contents (Elt F) arg5.view.ty) (k : Fin (k0_t1_loop i).trips) :
    trip_k0_t1.sl.v1619 i arg1 arg3 arg4 arg5 arg10 v1 v2 X1 X3 X4 X5 k
      = truncf .bf16 (dsTile (pTile (trip_k0_t1.sl.r_2 i arg1 v1 X1 k) (trip_k0_t1.sl.r_4 i arg4 X4 k)) (trip_k0_t1.sl.r_3 i arg3 v2 X3 k)
          (trip_k0_t1.sl.r_5 i arg5 X5 k)) bitsLt_bf16_f32 := by
  unfold trip_k0_t1.sl.v1619 trip_k0_t1.sl.HW_arg10_32
  refine readCov_whole _ _ _ (by sl_kernel_rfl) ?_ _
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    intro x
    refine ds_piece _ _ _ _ _ (by decide) (by decide) (by decide) _ ?_ x
    simp only [trip_k0_t1.sl.r_6, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, shapeCast_self]
    first | rfl | skip

end Cert.KernelIdeal.Value
-- ==== Proof.Model.lean ====
/-
  What one grid point computes, as functions of vectors, at any floats. A point takes one tile of 512 keys; it adds to the
  running sum of the queries' gradient (eight query tiles) and computes its own keys' gradient, first against the query tile
  on the diagonal, under the mask, then against every later one.
-/
module

public import proofs.«01_k».proof.Proof.Tile
public import Idealize.ShloMosaic.Lib.VecWindow

@[expose] public section

noncomputable section

namespace Cert.KernelIdeal.Value

open Idealize.ShloMosaic Idealize.ShloMosaic.TcCoe Idealize.ShloMosaic.Tactic
open Cert.KernelIdeal Cert.KernelIdeal.Gen

variable {F : FTy → Type} [FloatOps F] [Named F]

/-! ## One of eight query tiles -/

theorem inbQ (j : Fin 8) : ∀ a, (![j.val, 0, 0] : Fin 3 → Nat) a + S1x2048x256.size a ≤ S8x2048x256.size a := by revert j; decide
theorem inbD (j : Fin 8) : ∀ a, (![j.val, 0, 0] : Fin 3 → Nat) a + S1x2048x128.size a ≤ S8x2048x128.size a := by revert j; decide
theorem inbL (j : Fin 8) : ∀ a, (![j.val, 0, 0] : Fin 3 → Nat) a + S1x1x2048.size a ≤ S8x8x2048.size a := by revert j; decide
theorem inbA (j : Fin 8) : ∀ a, (![j.val, 0, 0] : Fin 3 → Nat) a + S1x256x2048.size a ≤ S8x256x2048.size a := by revert j; decide

/-- The queries of tile `j`. -/
def qAt (Q : Vec F S8x2048x256 .bf16) (j : Fin 8) : Vec F S1x2048x256 .bf16 := VecWindow.window Q ![j.val, 0, 0] S1x2048x256.size (inbQ j)
/-- The cotangents of tile `j`. -/
def dAt (D : Vec F S8x2048x128 .bf16) (j : Fin 8) : Vec F S1x2048x128 .bf16 := VecWindow.window D ![j.val, 0, 0] S1x2048x128.size (inbD j)
/-- A row statistic of tile `j`. -/
def lAt (L : Vec F S8x8x2048 .f32) (j : Fin 8) : Vec F S1x1x2048 .f32 := VecWindow.window L ![j.val, 0, 0] S1x1x2048.size (inbL j)
/-- The queries' gradient of tile `j`. -/
def aAt (A : Vec F S8x256x2048 .f32) (j : Fin 8) : Vec F S1x256x2048 .f32 := VecWindow.window A ![j.val, 0, 0] S1x256x2048.size (inbA j)

/-! ## One step -/

/-- What a point reads: the queries, the cotangents and the two row statistics of all eight tiles, and its own keys. -/
structure Ins (F : FTy → Type) where
  Q : Vec F S8x2048x256 .bf16
  K : Vec F S512x256 .bf16
  D : Vec F S8x2048x128 .bf16
  L : Vec F S8x8x2048 .f32
  Δ : Vec F S8x8x2048 .f32

/-- The keys, as the products take them. -/
def Ins.v1 (I : Ins F) : FVec F S512x256 .bf16 := shapeCast S512x256 I.K shapeCasts_S512x256_S512x256
/-- The values: the first 128 columns of the keys. -/
def Ins.v2 (I : Ins F) : FVec F S512x128 .bf16 := extractStridedSlice S512x128 ![0, 0] I.v1 slices_S512x256_o0_0_S512x128

/-- The probabilities of a tile before the mask. -/
def Ins.pr (I : Ins F) (j : Fin 8) : FVec F S512x2048 .f32 := pTile (k0_pay5 I.v1 (qAt I.Q j)) (k0_pay7 (lAt I.L j))
def Ins.ds (I : Ins F) (p : FVec F S512x2048 .f32) (j : Fin 8) : FVec F S512x2048 .bf16 :=
  truncf .bf16 (dsTile p (k0_pay6 I.v2 (dAt I.D j)) (k0_pay8 (lAt I.Δ j))) bitsLt_bf16_f32

/-- The state: the keys' gradient, the values' gradient, the queries' gradient. -/
abbrev St (F : FTy → Type) := (FVec F S512x256 .f32 × FVec F S512x128 .f32) × Vec F S8x256x2048 .f32

/-- The queries' gradient with a tile's contribution added to row `j`. -/
def addRow (A : Vec F S8x256x2048 .f32) (j : Fin 8) (kT : FVec F S256x512 .bf16) (ds : FVec F S512x2048 .bf16) : Vec F S8x256x2048 .f32 :=
  VecWindow.put A ![j.val, 0, 0] S1x256x2048.size (k0_pay379 kT ds (aAt A j))

/-- One step against query tile `j`, the probabilities `p` of the tile given. -/
def Ins.step (I : Ins F) (kT : FVec F S256x512 .bf16) (j : Fin 8) (p : FVec F S512x2048 .f32) (s : St F) : St F :=
  ((k0_pay121 s.1.1 (k0_pay3 (qAt I.Q j)) (I.ds p j), k0_pay120 s.1.2 (k0_pay4 (dAt I.D j)) (truncf .bf16 p bitsLt_bf16_f32)), addRow s.2 j kT (I.ds p j))

/-- The state after `n` trips of the loop that starts past the diagonal tile `kt`. -/
def Ins.loop (I : Ins F) (kT : FVec F S256x512 .bf16) (kt : Nat) (s : St F) : Nat → St F
  | 0 => s
  | n + 1 => I.step kT (Fin.ofNat 8 (kt + n + 1)) (I.pr (Fin.ofNat 8 (kt + n + 1))) (I.loop kT kt s n)

/-- The keys, transposed. -/
def Ins.kT (I : Ins F) : FVec F S256x512 .bf16 := k0_pay243 I.K

/-- The step on the diagonal, from zero gradients. -/
def Ins.diag (I : Ins F) (kt : Fin 8) (A : Vec F S8x256x2048 .f32) : St F :=
  I.step I.kT kt (maskTile 0#32 k0_pay253 (I.pr kt)) ((k0_pay245, k0_pay246), A)

/-- The state after a whole grid point. -/
def Ins.point (I : Ins F) (kt : Fin 8) (A : Vec F S8x256x2048 .f32) : St F :=
  I.loop I.kT kt.val (I.diag kt A) (7 - kt.val)

/-- The queries' gradient as a point finds it: the first point starts it at zero. -/
def start (kt : Nat) (A : Vec F S8x256x2048 .f32) : Vec F S8x256x2048 .f32 := if kt = 0 then k0_pay244 else A

end Cert.KernelIdeal.Value
-- ==== Proof.Loop.lean ====
/-
  The loop past the diagonal, at any floats: what its `n` trips leave in the carried gradients and in the queries' gradient.
-/
module

public import proofs.«01_k».proof.Proof.Trip
public import proofs.«01_k».proof.Proof.Model

@[expose] public section

set_option maxRecDepth 65536
set_option maxHeartbeats 4000000

noncomputable section

namespace Cert.KernelIdeal.Value

open Idealize.ShloMosaic Idealize.ShloMosaic.TcCoe Idealize.ShloMosaic.Tactic
open Idealize.SL Idealize.SL.RA Idealize.SL.BI Idealize.SL.Sem
open Cert.KernelIdeal Cert.KernelIdeal.Gen

variable {F : FTy → Type} [FloatOps F] [Named F]

theorem trips_t1 : ∀ i : grid0.Coords, (k0_t1_loop i).trips = 7 - (i 0).val := by decide +kernel
theorem trips_t2 : ∀ i : grid0.Coords, (k0_t2_loop i).trips = 0 := by decide +kernel

/-- The query tile of trip `k`. -/
abbrev tileOf (i : grid0.Coords) (k : Nat) : Fin 8 := Fin.ofNat 8 ((i 0).val + k + 1)

theorem tileOf_val (i : grid0.Coords) (k : Fin (k0_t1_loop i).trips) : (tileOf i k.val).val = (i 0).val + k.val + 1 := by
  have h : k.val < 7 - (i 0).val := Nat.lt_of_lt_of_eq k.isLt (trips_t1 i)
  exact Nat.mod_eq_of_lt (by omega)

theorem off_eq (i : grid0.Coords) (k : Fin (k0_t1_loop i).trips) : (![(i 0).val + k.val + 1, 0, 0] : Fin 3 → Nat) = ![(tileOf i k.val).val, 0, 0] := by
  rw [tileOf_val]

theorem qLoad (i : grid0.Coords) (k : Fin (k0_t1_loop i).trips) (arg1 : Memref sig .tc .vmem S8x2048x256 .bf16) (X1 : BufTy.Contents (Elt F) arg1.view.ty) :
    View.readAt (Elt F) arg1.view (Rect.unit (s := S8x2048x256) (k0_off5 i k) S1x2048x256.size (k0_off5_inb i k)).toLoadRect X1
      = qAt (arg1.view.read (Elt F) X1) (tileOf i k.val) :=
  View.readAt_unit _ _ _ ((k0_off5_eq i k).trans (off_eq i k)) _

theorem dLoad (i : grid0.Coords) (k : Fin (k0_t1_loop i).trips) (arg3 : Memref sig .tc .vmem S8x2048x128 .bf16) (X3 : BufTy.Contents (Elt F) arg3.view.ty) :
    View.readAt (Elt F) arg3.view (Rect.unit (s := S8x2048x128) (k0_off6 i k) S1x2048x128.size (k0_off6_inb i k)).toLoadRect X3
      = dAt (arg3.view.read (Elt F) X3) (tileOf i k.val) :=
  View.readAt_unit _ _ _ ((k0_off6_eq i k).trans (off_eq i k)) _

theorem lLoad (i : grid0.Coords) (k : Fin (k0_t1_loop i).trips) (arg4 : Memref sig .tc .vmem S8x8x2048 .f32) (X4 : BufTy.Contents (Elt F) arg4.view.ty) :
    View.readAt (Elt F) arg4.view (Rect.unit (s := S8x8x2048) (k0_off7 i k) S1x1x2048.size (k0_off7_inb i k)).toLoadRect X4
      = lAt (arg4.view.read (Elt F) X4) (tileOf i k.val) :=
  View.readAt_unit _ _ _ ((k0_off7_eq i k).trans (off_eq i k)) _

theorem aLoad (i : grid0.Coords) (k : Fin (k0_t1_loop i).trips) (arg8 : Memref sig .tc .vmem S8x256x2048 .f32) (f : BufTy.Contents (Elt F) arg8.view.ty) :
    View.readAt (Elt F) arg8.view (Rect.unit (s := S8x256x2048) (k0_off8 i k) S1x256x2048.size (k0_off8_inb i k)).toLoadRect f
      = aAt (arg8.view.read (Elt F) f) (tileOf i k.val) :=
  View.readAt_unit _ _ _ ((k0_off8_eq i k).trans (off_eq i k)) _

section
variable (i : grid0.Coords) (arg1 : Memref sig .tc .vmem S8x2048x256 .bf16) (arg3 : Memref sig .tc .vmem S8x2048x128 .bf16)
    (arg4 arg5 : Memref sig .tc .vmem S8x8x2048 .f32) (arg9 arg10 : Memref sig .tc .vmem S512x2048 .bf16)
    (K : Vec F S512x256 .bf16) (X1 : BufTy.Contents (Elt F) arg1.view.ty) (X3 : BufTy.Contents (Elt F) arg3.view.ty)
    (X4 : BufTy.Contents (Elt F) arg4.view.ty) (X5 : BufTy.Contents (Elt F) arg5.view.ty) (k : Fin (k0_t1_loop i).trips)

/-- What the point reads, of the contents of its buffers. -/
abbrev insOf : Ins F := ⟨arg1.view.read (Elt F) X1, K, arg3.view.read (Elt F) X3, arg4.view.read (Elt F) X4, arg5.view.read (Elt F) X5⟩

theorem trip_p_eq : trip_k0_t1.sl.v1620 i arg1 arg4 arg9 (insOf arg1 arg3 arg4 arg5 K X1 X3 X4 X5).v1 X1 X4 k
    = truncf .bf16 ((insOf arg1 arg3 arg4 arg5 K X1 X3 X4 X5).pr (tileOf i k.val)) bitsLt_bf16_f32 := by
  rw [trip_p i arg1 arg3 arg4 arg5 arg9 arg9 _ (insOf arg1 arg3 arg4 arg5 K X1 X3 X4 X5).v2 X1 X3 X4 X5 k]
  unfold trip_k0_t1.sl.r_2 trip_k0_t1.sl.r_4
  rw [qLoad, lLoad]
  rfl

theorem trip_ds_eq : trip_k0_t1.sl.v1619 i arg1 arg3 arg4 arg5 arg10 (insOf arg1 arg3 arg4 arg5 K X1 X3 X4 X5).v1 (insOf arg1 arg3 arg4 arg5 K X1 X3 X4 X5).v2 X1 X3 X4 X5 k
    = (insOf arg1 arg3 arg4 arg5 K X1 X3 X4 X5).ds ((insOf arg1 arg3 arg4 arg5 K X1 X3 X4 X5).pr (tileOf i k.val)) (tileOf i k.val) := by
  rw [trip_ds i arg1 arg3 arg4 arg5 arg10 arg10 _ _ X1 X3 X4 X5 k]
  unfold trip_k0_t1.sl.r_2 trip_k0_t1.sl.r_3 trip_k0_t1.sl.r_4 trip_k0_t1.sl.r_5
  rw [qLoad, dLoad, lLoad, lLoad]
  rfl
end

/-- The loop's state after `n` trips: the carried gradients, and what the queries' gradient reads with the trips' pieces written. -/
theorem st_eq (𝒱 : Variants) (c : Dev nD) (bd : Option 𝒱.V) (i : grid0.Coords) (arg1 : Memref sig .tc .vmem S8x2048x256 .bf16) (harg1 : arg1.IsWhole) (arg2 : Memref sig .tc .vmem S512x256 .bf16) (harg2 : arg2.IsWhole) (arg3 : Memref sig .tc .vmem S8x2048x128 .bf16) (harg3 : arg3.IsWhole) (arg4 : Memref sig .tc .vmem S8x8x2048 .f32) (harg4 : arg4.IsWhole) (arg5 : Memref sig .tc .vmem S8x8x2048 .f32) (harg5 : arg5.IsWhole) (arg6 : Memref sig .tc .vmem S512x256 .f32) (harg6 : arg6.IsWhole) (arg7 : Memref sig .tc .vmem S1x256x2048 .bf16) (harg7 : arg7.IsWhole) (arg8 : Memref sig .tc .vmem S8x256x2048 .f32) (harg8 : arg8.IsWhole) (arg9 : Memref sig .tc .vmem S512x2048 .bf16) (harg9 : arg9.IsWhole) (arg10 : Memref sig .tc .vmem S512x2048 .bf16) (harg10 : arg10.IsWhole)
    (K : Vec F S512x256 .bf16) (v5 : FVec F S256x512 .bf16) (v25 : BitVec 32) (v26 : FVec F S512x256 .f32) (v27 : FVec F S512x128 .f32) (v41 : FVec F S2048x256 .bf16) (v44 : FVec F S2048x128 .bf16) (v46 : FVec F S512x2048 .f32) (v54 : FVec F S1x2048 .f32) (v909 : FVec F S16x2048 .f32) (v910 : FVec F S16x2048 .bf16) (v939 : BitVec 32)
    (X1 : BufTy.Contents (Elt F) arg1.view.ty) (X3 : BufTy.Contents (Elt F) arg3.view.ty) (X4 : BufTy.Contents (Elt F) arg4.view.ty) (X5 : BufTy.Contents (Elt F) arg5.view.ty) (G8 : BufTy.Contents (Elt F) arg8.view.ty) (G9 : BufTy.Contents (Elt F) arg9.view.ty) (G10 : BufTy.Contents (Elt F) arg10.view.ty) (init : FVec F S512x256 .f32 × FVec F S512x128 .f32)
    (n : Nat) (hn : n ≤ (k0_t1_loop i).trips) :
    (((st_k0_t1 (F := F) 𝒱 c bd i arg1 harg1 arg2 harg2 arg3 harg3 arg4 harg4 arg5 harg5 arg6 harg6 arg7 harg7 arg8 harg8 arg9 harg9 arg10 harg10 (insOf arg1 arg3 arg4 arg5 K X1 X3 X4 X5).v1 (insOf arg1 arg3 arg4 arg5 K X1 X3 X4 X5).v2 v5 v25 v26 v27 v41 v44 v46 v54 v909 v910 v939 X1 X3 X4 X5 G8 G9 G10 init n).1,
      arg8.view.read (Elt F) (arg8.view.writes (Elt F) G8 (st_k0_t1 (F := F) 𝒱 c bd i arg1 harg1 arg2 harg2 arg3 harg3 arg4 harg4 arg5 harg5 arg6 harg6 arg7 harg7 arg8 harg8 arg9 harg9 arg10 harg10 (insOf arg1 arg3 arg4 arg5 K X1 X3 X4 X5).v1 (insOf arg1 arg3 arg4 arg5 K X1 X3 X4 X5).v2 v5 v25 v26 v27 v41 v44 v46 v54 v909 v910 v939 X1 X3 X4 X5 G8 G9 G10 init n).2.1)) : St F)
      = (insOf arg1 arg3 arg4 arg5 K X1 X3 X4 X5).loop v5 (i 0).val (init, arg8.view.read (Elt F) G8) n := by
  induction n with
  | zero => rfl
  | succ n ih =>
    have ih := ih (Nat.le_of_succ_le hn)
    rw [st_k0_t1_succ (F := F) 𝒱 c bd i arg1 harg1 arg2 harg2 arg3 harg3 arg4 harg4 arg5 harg5 arg6 harg6 arg7 harg7 arg8 harg8 arg9 harg9 arg10 harg10 _ _ v5 v25 v26 v27 v41 v44 v46 v54 v909 v910 v939 X1 X3 X4 X5 G8 G9 G10 init ⟨n, hn⟩]
    generalize st_k0_t1 (F := F) 𝒱 c bd i arg1 harg1 arg2 harg2 arg3 harg3 arg4 harg4 arg5 harg5 arg6 harg6 arg7 harg7 arg8 harg8 arg9 harg9 arg10 harg10 (insOf arg1 arg3 arg4 arg5 K X1 X3 X4 X5).v1 (insOf arg1 arg3 arg4 arg5 K X1 X3 X4 X5).v2 v5 v25 v26 v27 v41 v44 v46 v54 v909 v910 v939 X1 X3 X4 X5 G8 G9 G10 init n = s at ih ⊢
    show _ = (insOf arg1 arg3 arg4 arg5 K X1 X3 X4 X5).step v5 (tileOf i n) ((insOf arg1 arg3 arg4 arg5 K X1 X3 X4 X5).pr (tileOf i n)) ((insOf arg1 arg3 arg4 arg5 K X1 X3 X4 X5).loop v5 (i 0).val (init, arg8.view.read (Elt F) G8) n)
    rw [← ih]
    unfold tripR_k0_t1 tripL_k0_t1 trip_k0_t1
    dsimp only
    unfold trip_k0_t1.sl.r_31 trip_k0_t1.sl.r_30 trip_k0_t1.sl.r trip_k0_t1.sl.r_1
    rw [trip_p_eq i arg1 arg3 arg4 arg5 arg9 K X1 X3 X4 X5, trip_ds_eq i arg1 arg3 arg4 arg5 arg10 K X1 X3 X4 X5, qLoad, dLoad]
    refine Prod.ext rfl ?_
    dsimp only
    rw [List.cons_append, List.nil_append, View.read_writes_cons_put _ _ _ _ _ ((k0_off8_eq i ⟨n, hn⟩).trans (off_eq i ⟨n, hn⟩)), aLoad]
    rfl

end Cert.KernelIdeal.Value
-- ==== Proof.Body.lean ====
/-
  One grid point's run, at any floats: what it leaves in its two output blocks and in the running sum of the queries' gradient.
-/
module

public import proofs.«01_k».proof.Proof.Loop
public import proofs.«01_k».proof.Proof.Gen.KernelIdeal.Frame

@[expose] public section

set_option maxRecDepth 65536
set_option maxHeartbeats 8000000

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The point's run: what it leaves in its two output blocks and in the running sum — values the run finds — of what it finds in its
    buffers, with the proof that it runs so. -/
@[irreducible] def run (c : Dev nD) (i : grid0.Coords) (arg1 : Memref sig .tc .vmem S8x2048x256 .bf16) (harg1 : arg1.IsWhole) (arg2 : Memref sig .tc .vmem S512x256 .bf16) (harg2 : arg2.IsWhole) (arg3 : Memref sig .tc .vmem S8x2048x128 .bf16) (harg3 : arg3.IsWhole) (arg4 : Memref sig .tc .vmem S8x8x2048 .f32) (harg4 : arg4.IsWhole) (arg5 : Memref sig .tc .vmem S8x8x2048 .f32) (harg5 : arg5.IsWhole) (arg6 : Memref sig .tc .vmem S512x256 .f32) (harg6 : arg6.IsWhole) (arg7 : Memref sig .tc .vmem S1x256x2048 .bf16) (harg7 : arg7.IsWhole) (arg8 : Memref sig .tc .vmem S8x256x2048 .f32) (harg8 : arg8.IsWhole) (arg9 : Memref sig .tc .vmem S512x2048 .bf16) (harg9 : arg9.IsWhole) (arg10 : Memref sig .tc .vmem S512x2048 .bf16) (harg10 : arg10.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) :
    Σ' (Y6 : BufTy.Contents (Elt F) arg6.view.ty) (Y7 : BufTy.Contents (Elt F) arg7.view.ty),
      { Y8 : BufTy.Contents (Elt F) arg8.view.ty // ∀ (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
          ∗ (∃ f, (arg9.view.loc (c : Thread nD τ) ↦[arg9.view.set]{fullShare} f)) ∗ (∃ f, (arg10.view.loc (c : Thread nD τ) ↦[arg10.view.set]{fullShare} f))
          ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} Y6) ∗ (arg7.view.loc (c : Thread nD τ) ↦[arg7.view.set]{fullShare} Y7) ∗ (arg8.view.loc (c : Thread nD τ) ↦[arg8.view.set]{fullShare} Y8)
            ∗ (∃ f, (arg9.view.loc (c : Thread nD τ) ↦[arg9.view.set]{fullShare} f)) ∗ (∃ f, (arg10.view.loc (c : Thread nD τ) ↦[arg10.view.set]{fullShare} f))) -∗ K ⟨⟩))
        ⊢ wp frame (wpE (defs₀ (F := F)) Variants.none c none) Set.univ (cc0_attn_bwd (F := F) i arg1 harg1 arg2 harg2 arg3 harg3 arg4 harg4 arg5 harg5 arg6 harg6 arg7 harg7 arg8 harg8 arg9 harg9 arg10 harg10) K } := by
  refine ⟨?_, ?_, ?_, fun K => ?run⟩
  case run =>
    simp only [cc0_attn_bwd_eq_skeleton]; unfold cc0_attn_bwd_skel
    iintro ⟨H1, H2, H3, H4, H5, H6, H7, H8, ⟨%f9, H9⟩, ⟨%f10, H10⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10

end Cert.KernelIdeal.Value
-- ==== Proof.Diag.lean ====
/-
  The diagonal tile, at any floats: what the two scratch buffers hold when they are read back.
-/
module

public import proofs.«01_k».proof.Proof.Body

@[expose] public section

set_option maxRecDepth 65536
set_option maxHeartbeats 4000000

noncomputable section

namespace Cert.KernelIdeal.Value

open Idealize.ShloMosaic Idealize.ShloMosaic.TcCoe Idealize.ShloMosaic.Tactic
open Cert.KernelIdeal Cert.KernelIdeal.Gen

variable {F : FTy → Type} [FloatOps F] [Named F]

theorem diag_p (i : grid0.Coords) (arg1 : Memref sig .tc .vmem S8x2048x256 .bf16) (arg2 : Memref sig .tc .vmem S512x256 .bf16) (arg3 : Memref sig .tc .vmem S8x2048x128 .bf16)
    (arg4 arg5 : Memref sig .tc .vmem S8x8x2048 .f32) (arg9 arg10 : Memref sig .tc .vmem S512x2048 .bf16)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) :
    run.sl.v925 i arg1 arg2 arg4 arg9 f1 f2 f4
      = truncf .bf16 (maskTile (run.sl.v38 i) k0_pay253 (pTile (run.sl.r_2 i arg1 arg2 f1 f2) (run.sl.r_4 i arg4 f4))) bitsLt_bf16_f32 := by
  unfold run.sl.v925 run.sl.H9_32
  refine readCov_whole _ _ _ (by sl_kernel_rfl) ?_ _
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    intro x
    refine pm_piece _ _ (run.sl.v38 i) (by decide) rfl _ _ _ (by decide) (by decide) _ ?_ x
    simp only [run.sl.r_6, run.sl.r_7, run.sl.r_8, run.sl.r_9, run.sl.r_10, run.sl.r_11, run.sl.r_12, run.sl.r_13, run.sl.r_14, run.sl.r_15, run.sl.r_16, run.sl.r_17, run.sl.r_18, run.sl.r_19, run.sl.r_20, run.sl.r_21, run.sl.r_22, run.sl.r_23, run.sl.r_24, run.sl.r_25, run.sl.r_26, run.sl.r_27, run.sl.r_28, run.sl.r_29, run.sl.r_30, run.sl.r_31, run.sl.r_32, run.sl.r_33, run.sl.r_34, run.sl.r_35, run.sl.v822, run.sl.cst_270, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, shapeCast_self]
    first | rfl | skip

theorem diag_ds (i : grid0.Coords) (arg1 : Memref sig .tc .vmem S8x2048x256 .bf16) (arg2 : Memref sig .tc .vmem S512x256 .bf16) (arg3 : Memref sig .tc .vmem S8x2048x128 .bf16)
    (arg4 arg5 : Memref sig .tc .vmem S8x8x2048 .f32) (arg9 arg10 : Memref sig .tc .vmem S512x2048 .bf16)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) :
    run.sl.v924 i arg1 arg2 arg3 arg4 arg5 arg10 f1 f2 f3 f4 f5
      = truncf .bf16 (dsTile (maskTile (run.sl.v38 i) k0_pay253 (pTile (run.sl.r_2 i arg1 arg2 f1 f2) (run.sl.r_4 i arg4 f4)))
          (run.sl.r_3 i arg2 arg3 f2 f3) (run.sl.r_5 i arg5 f5)) bitsLt_bf16_f32 := by
  unfold run.sl.v924 run.sl.H10_32
  refine readCov_whole _ _ _ (by sl_kernel_rfl) ?_ _
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    intro x
    refine dsm_piece _ _ (run.sl.v38 i) (by decide) rfl _ _ _ _ _ (by decide) (by decide) (by decide) _ ?_ x
    simp only [run.sl.r_6, run.sl.r_7, run.sl.r_8, run.sl.r_9, run.sl.r_10, run.sl.r_11, run.sl.r_12, run.sl.r_13, run.sl.r_14, run.sl.r_15, run.sl.r_16, run.sl.r_17, run.sl.r_18, run.sl.r_19, run.sl.r_20, run.sl.r_21, run.sl.r_22, run.sl.r_23, run.sl.r_24, run.sl.r_25, run.sl.r_26, run.sl.r_27, run.sl.r_28, run.sl.r_29, run.sl.r_30, run.sl.r_31, run.sl.r_32, run.sl.r_33, run.sl.r_34, run.sl.r_35, run.sl.v822, run.sl.cst_270, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, shapeCast_self]
    first | rfl | skip

end Cert.KernelIdeal.Value
-- ==== Proof.BodyVal.lean ====
/-
  One grid point's run, at any floats: the values it leaves are those of the model.
-/
module

public import proofs.«01_k».proof.Proof.Diag

@[expose] public section

set_option maxRecDepth 65536
set_option maxHeartbeats 4000000

noncomputable section

namespace Cert.KernelIdeal.Value

open Idealize.ShloMosaic Idealize.ShloMosaic.TcCoe Idealize.ShloMosaic.Tactic
open Cert.KernelIdeal Cert.KernelIdeal.Gen

variable {F : FTy → Type} [FloatOps F] [Named F]

theorem v8_eq : ∀ i : grid0.Coords, run.sl.v8 i = 1#1 ↔ (i 0).val = 0 := by decide +kernel
theorem v38_eq : ∀ i : grid0.Coords, run.sl.v38 i = 0#32 := by decide +kernel

theorem read4 (i : grid0.Coords) (arg8 : Memref sig .tc .vmem S8x256x2048 .f32) (f : BufTy.Contents (Elt F) arg8.view.ty) :
    View.readAt (Elt F) arg8.view (Rect.unit (s := S8x256x2048) (k0_off4 i) S1x256x2048.size (k0_off4_inb i)).toLoadRect f
      = aAt (arg8.view.read (Elt F) f) (i 0) :=
  View.readAt_unit _ _ _ (k0_off4_eq i) _

/-- What the point leaves in its two output blocks and in the running sum. -/
theorem run_out (c : Dev nD) (i : grid0.Coords) (arg1 : Memref sig .tc .vmem S8x2048x256 .bf16) (harg1 : arg1.IsWhole) (arg2 : Memref sig .tc .vmem S512x256 .bf16) (harg2 : arg2.IsWhole) (arg3 : Memref sig .tc .vmem S8x2048x128 .bf16) (harg3 : arg3.IsWhole) (arg4 : Memref sig .tc .vmem S8x8x2048 .f32) (harg4 : arg4.IsWhole) (arg5 : Memref sig .tc .vmem S8x8x2048 .f32) (harg5 : arg5.IsWhole) (arg6 : Memref sig .tc .vmem S512x256 .f32) (harg6 : arg6.IsWhole) (arg7 : Memref sig .tc .vmem S1x256x2048 .bf16) (harg7 : arg7.IsWhole) (arg8 : Memref sig .tc .vmem S8x256x2048 .f32) (harg8 : arg8.IsWhole) (arg9 : Memref sig .tc .vmem S512x2048 .bf16) (harg9 : arg9.IsWhole) (arg10 : Memref sig .tc .vmem S512x2048 .bf16) (harg10 : arg10.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) :
    arg6.view.read (Elt F) (run c i arg1 harg1 arg2 harg2 arg3 harg3 arg4 harg4 arg5 harg5 arg6 harg6 arg7 harg7 arg8 harg8 arg9 harg9 arg10 harg10 f1 f2 f3 f4 f5 f6 f7 f8).1 = k0_pay1 ((insOf arg1 arg3 arg4 arg5 (arg2.view.read (Elt F) f2) f1 f3 f4 f5).point (i 0) (start (i 0).val (arg8.view.read (Elt F) f8))).1.1 ((insOf arg1 arg3 arg4 arg5 (arg2.view.read (Elt F) f2) f1 f3 f4 f5).point (i 0) (start (i 0).val (arg8.view.read (Elt F) f8))).1.2 (Scalar.ofBits .f32 0x00000000#32)
      ∧ arg7.view.read (Elt F) (run c i arg1 harg1 arg2 harg2 arg3 harg3 arg4 harg4 arg5 harg5 arg6 harg6 arg7 harg7 arg8 harg8 arg9 harg9 arg10 harg10 f1 f2 f3 f4 f5 f6 f7 f8).2.1 = k0_pay2 (aAt ((insOf arg1 arg3 arg4 arg5 (arg2.view.read (Elt F) f2) f1 f3 f4 f5).point (i 0) (start (i 0).val (arg8.view.read (Elt F) f8))).2 (i 0))
      ∧ arg8.view.read (Elt F) (run c i arg1 harg1 arg2 harg2 arg3 harg3 arg4 harg4 arg5 harg5 arg6 harg6 arg7 harg7 arg8 harg8 arg9 harg9 arg10 harg10 f1 f2 f3 f4 f5 f6 f7 f8).2.2.1 = ((insOf arg1 arg3 arg4 arg5 (arg2.view.read (Elt F) f2) f1 f3 f4 f5).point (i 0) (start (i 0).val (arg8.view.read (Elt F) f8))).2 := by
  have h1 : run.sl.v1 arg2 f2 = (insOf arg1 arg3 arg4 arg5 (arg2.view.read (Elt F) f2) f1 f3 f4 f5).v1 := by unfold run.sl.v1 Ins.v1; rw [View.readAt_full]
  have h2 : run.sl.v2 arg2 f2 = (insOf arg1 arg3 arg4 arg5 (arg2.view.read (Elt F) f2) f1 f3 f4 f5).v2 := by unfold run.sl.v2 Ins.v2; rw [h1]
  have h5 : run.sl.v5 arg2 f2 = (insOf arg1 arg3 arg4 arg5 (arg2.view.read (Elt F) f2) f1 f3 f4 f5).kT := by
    unfold run.sl.v5 run.sl.v4 run.sl.v3; rw [h1]; rfl
  have hQ : View.readAt (Elt F) arg1.view (Rect.unit (s := S8x2048x256) (k0_off1 i) S1x2048x256.size (k0_off1_inb i)).toLoadRect f1 = qAt (arg1.view.read (Elt F) f1) (i 0) :=
    View.readAt_unit _ _ _ (k0_off1_eq i) _
  have hD : View.readAt (Elt F) arg3.view (Rect.unit (s := S8x2048x128) (k0_off2 i) S1x2048x128.size (k0_off2_inb i)).toLoadRect f3 = dAt (arg3.view.read (Elt F) f3) (i 0) :=
    View.readAt_unit _ _ _ (k0_off2_eq i) _
  have hL : View.readAt (Elt F) arg4.view (Rect.unit (s := S8x8x2048) (k0_off3 i) S1x1x2048.size (k0_off3_inb i)).toLoadRect f4 = lAt (arg4.view.read (Elt F) f4) (i 0) :=
    View.readAt_unit _ _ _ (k0_off3_eq i) _
  have hΔ : View.readAt (Elt F) arg5.view (Rect.unit (s := S8x8x2048) (k0_off3 i) S1x1x2048.size (k0_off3_inb i)).toLoadRect f5 = lAt (arg5.view.read (Elt F) f5) (i 0) :=
    View.readAt_unit _ _ _ (k0_off3_eq i) _
  have hr2 : run.sl.r_2 i arg1 arg2 f1 f2 = k0_pay5 (insOf arg1 arg3 arg4 arg5 (arg2.view.read (Elt F) f2) f1 f3 f4 f5).v1 (qAt (arg1.view.read (Elt F) f1) (i 0)) := by
    unfold run.sl.r_2; rw [h1, hQ]; rfl
  have hr3 : run.sl.r_3 i arg2 arg3 f2 f3 = k0_pay6 (insOf arg1 arg3 arg4 arg5 (arg2.view.read (Elt F) f2) f1 f3 f4 f5).v2 (dAt (arg3.view.read (Elt F) f3) (i 0)) := by
    unfold run.sl.r_3; rw [h2, hD]; rfl
  have hr4 : run.sl.r_4 i arg4 f4 = k0_pay7 (lAt (arg4.view.read (Elt F) f4) (i 0)) := by
    unfold run.sl.r_4; rw [hL]; rfl
  have hr5 : run.sl.r_5 i arg5 f5 = k0_pay8 (lAt (arg5.view.read (Elt F) f5) (i 0)) := by
    unfold run.sl.r_5; rw [hΔ]; rfl
  have hp : run.sl.v925 i arg1 arg2 arg4 arg9 f1 f2 f4 = truncf .bf16 (maskTile 0#32 k0_pay253 ((insOf arg1 arg3 arg4 arg5 (arg2.view.read (Elt F) f2) f1 f3 f4 f5).pr (i 0))) bitsLt_bf16_f32 := by
    rw [diag_p i arg1 arg2 arg3 arg4 arg5 arg9 arg10 f1 f2 f3 f4 f5, v38_eq, hr2, hr4]; rfl
  have hds : run.sl.v924 i arg1 arg2 arg3 arg4 arg5 arg10 f1 f2 f3 f4 f5 = (insOf arg1 arg3 arg4 arg5 (arg2.view.read (Elt F) f2) f1 f3 f4 f5).ds (maskTile 0#32 k0_pay253 ((insOf arg1 arg3 arg4 arg5 (arg2.view.read (Elt F) f2) f1 f3 f4 f5).pr (i 0))) (i 0) := by
    rw [diag_ds i arg1 arg2 arg3 arg4 arg5 arg9 arg10 f1 f2 f3 f4 f5, v38_eq, hr2, hr4, hr3, hr5]; rfl
  have hG0 : arg8.view.read (Elt F) (if hc : run.sl.v8 i = 1#1 then arg8.view.writes (Elt F) f8 [⟨Rect.unit (s := S8x256x2048) ![0, 0, 0] S8x256x2048.size inb_S8x256x2048_S8x256x2048_0_0_0, run.sl.v961⟩] else f8)
      = start (i 0).val (arg8.view.read (Elt F) f8) := by
    unfold start
    split
    · rename_i hc
      rw [if_pos ((v8_eq i).1 hc), View.read_writes_full]; rfl
    · rename_i hc
      rw [if_neg fun h => hc ((v8_eq i).2 h)]
  unfold run
  dsimp only
  unfold run.sl.r_36 run.sl.r_37 run.sl.v952
  have ht2 : Scf.trips (k0_t2_loop i).lb (k0_t2_loop i).ub (k0_t2_loop i).st = 0 := trips_t2 i
  simp only [ht2, st_k0_t2, List.nil_append]
  rw [h1, h2, h5, hp, hds]
  unfold run.sl.v931
  generalize (if hc : run.sl.v8 i = 1#1 then arg8.view.writes (Elt F) f8 [⟨Rect.unit (s := S8x256x2048) ![0, 0, 0] S8x256x2048.size inb_S8x256x2048_S8x256x2048_0_0_0, run.sl.v961⟩] else f8) = G0 at hG0 ⊢
  have hA : View.readAt (Elt F) arg8.view (Rect.unit (s := S8x256x2048) (k0_off4 i) S1x256x2048.size (k0_off4_inb i)).toLoadRect G0 = aAt (start (i 0).val (arg8.view.read (Elt F) f8)) (i 0) := by
    rw [← hG0]; exact View.readAt_unit _ _ _ (k0_off4_eq i) _
  rw [hA]
  have hG : arg8.view.read (Elt F) (arg8.view.writes (Elt F) G0 [⟨Rect.unit (s := S8x256x2048) (k0_off4 i) S1x256x2048.size (k0_off4_inb i),
        k0_pay378 (insOf arg1 arg3 arg4 arg5 (arg2.view.read (Elt F) f2) f1 f3 f4 f5).kT ((insOf arg1 arg3 arg4 arg5 (arg2.view.read (Elt F) f2) f1 f3 f4 f5).ds (maskTile 0#32 k0_pay253 ((insOf arg1 arg3 arg4 arg5 (arg2.view.read (Elt F) f2) f1 f3 f4 f5).pr (i 0))) (i 0)) (aAt (start (i 0).val (arg8.view.read (Elt F) f8)) (i 0))⟩])
      = ((insOf arg1 arg3 arg4 arg5 (arg2.view.read (Elt F) f2) f1 f3 f4 f5).diag (i 0) (start (i 0).val (arg8.view.read (Elt F) f8))).2 := by
    rw [View.read_writes_cons_put _ _ _ _ _ (k0_off4_eq i)]
    show VecWindow.put (arg8.view.read (Elt F) G0) _ _ _ = _
    rw [hG0]; rfl
  have hI : ((k0_pay377 run.sl.v26 (run.sl.r i arg1 f1) ((insOf arg1 arg3 arg4 arg5 (arg2.view.read (Elt F) f2) f1 f3 f4 f5).ds (maskTile 0#32 k0_pay253 ((insOf arg1 arg3 arg4 arg5 (arg2.view.read (Elt F) f2) f1 f3 f4 f5).pr (i 0))) (i 0)),
        k0_pay376 run.sl.v27 (run.sl.r_1 i arg3 f3) (truncf .bf16 (maskTile 0#32 k0_pay253 ((insOf arg1 arg3 arg4 arg5 (arg2.view.read (Elt F) f2) f1 f3 f4 f5).pr (i 0))) bitsLt_bf16_f32)) : FVec F S512x256 .f32 × FVec F S512x128 .f32)
      = ((insOf arg1 arg3 arg4 arg5 (arg2.view.read (Elt F) f2) f1 f3 f4 f5).diag (i 0) (start (i 0).val (arg8.view.read (Elt F) f8))).1 := by
    unfold run.sl.r run.sl.r_1
    rw [hQ, hD]; rfl
  rw [hI]
  simp only [View.writes_append]
  generalize arg9.view.writes (Elt F) arg9.view.junk (run.sl.H9_32 i arg1 arg2 arg4 f1 f2 f4) = G9
  generalize arg10.view.writes (Elt F) arg10.view.junk (run.sl.H10_32 i arg1 arg2 arg3 arg4 arg5 f1 f2 f3 f4 f5) = G10
  generalize arg8.view.writes (Elt F) G0 [⟨Rect.unit (s := S8x256x2048) (k0_off4 i) S1x256x2048.size (k0_off4_inb i),
        k0_pay378 (insOf arg1 arg3 arg4 arg5 (arg2.view.read (Elt F) f2) f1 f3 f4 f5).kT ((insOf arg1 arg3 arg4 arg5 (arg2.view.read (Elt F) f2) f1 f3 f4 f5).ds (maskTile 0#32 k0_pay253 ((insOf arg1 arg3 arg4 arg5 (arg2.view.read (Elt F) f2) f1 f3 f4 f5).pr (i 0))) (i 0)) (aAt (start (i 0).val (arg8.view.read (Elt F) f8)) (i 0))⟩] = G at hG ⊢
  have ht1 : Scf.trips (k0_t1_loop i).lb (k0_t1_loop i).ub (k0_t1_loop i).st = 7 - (i 0).val := trips_t1 i
  rw [ht1]
  have key := st_eq (F := F) Variants.none c none i arg1 harg1 arg2 harg2 arg3 harg3 arg4 harg4 arg5 harg5 arg6 harg6 arg7 harg7 arg8 harg8 arg9 harg9 arg10 harg10 (arg2.view.read (Elt F) f2) (insOf arg1 arg3 arg4 arg5 (arg2.view.read (Elt F) f2) f1 f3 f4 f5).kT (run.sl.v25 i) run.sl.v26 run.sl.v27 (run.sl.r i arg1 f1) (run.sl.r_1 i arg3 f3) (run.sl.r_3 i arg2 arg3 f2 f3) (run.sl.r_5 i arg5 f5) (run.sl.r_34 i arg1 arg2 arg4 f1 f2 f4) (run.sl.r_35 i arg1 arg2 arg4 f1 f2 f4) (run.sl.v939 i) f1 f3 f4 f5
    G G9 G10 ((insOf arg1 arg3 arg4 arg5 (arg2.view.read (Elt F) f2) f1 f3 f4 f5).diag (i 0) (start (i 0).val (arg8.view.read (Elt F) f8))).1 (7 - (i 0).val) (trips_t1 i).ge
  rw [hG] at key
  generalize st_k0_t1 (F := F) Variants.none c none i arg1 harg1 arg2 harg2 arg3 harg3 arg4 harg4 arg5 harg5 arg6 harg6 arg7 harg7 arg8 harg8 arg9 harg9 arg10 harg10 (insOf arg1 arg3 arg4 arg5 (arg2.view.read (Elt F) f2) f1 f3 f4 f5).v1 (insOf arg1 arg3 arg4 arg5 (arg2.view.read (Elt F) f2) f1 f3 f4 f5).v2 (insOf arg1 arg3 arg4 arg5 (arg2.view.read (Elt F) f2) f1 f3 f4 f5).kT (run.sl.v25 i) run.sl.v26 run.sl.v27 (run.sl.r i arg1 f1) (run.sl.r_1 i arg3 f3) (run.sl.r_3 i arg2 arg3 f2 f3) (run.sl.r_5 i arg5 f5) (run.sl.r_34 i arg1 arg2 arg4 f1 f2 f4) (run.sl.r_35 i arg1 arg2 arg4 f1 f2 f4) (run.sl.v939 i) f1 f3 f4 f5
    G G9 G10 ((insOf arg1 arg3 arg4 arg5 (arg2.view.read (Elt F) f2) f1 f3 f4 f5).diag (i 0) (start (i 0).val (arg8.view.read (Elt F) f8))).1 (7 - (i 0).val) = S at key ⊢
  change _ = ((insOf arg1 arg3 arg4 arg5 (arg2.view.read (Elt F) f2) f1 f3 f4 f5).point (i 0) (start (i 0).val (arg8.view.read (Elt F) f8))) at key
  generalize ((insOf arg1 arg3 arg4 arg5 (arg2.view.read (Elt F) f2) f1 f3 f4 f5).point (i 0) (start (i 0).val (arg8.view.read (Elt F) f8))) = Z at key ⊢
  subst key
  refine ⟨?_, ?_, rfl⟩
  · rw [View.read_writes_full]; rfl
  · rw [View.read_writes_full, read4]

end Cert.KernelIdeal.Value
-- ==== Proof.Grid.lean ====
/-
  The grid's run, at any floats: the running sum of the queries' gradient is carried from point to point in scratch memory; every point
  writes a block of each result.
-/
module

public import proofs.«01_k».proof.Proof.BodyVal
public import proofs.«01_k».proof.Proof.Gen.KernelIdeal.Frame

@[expose] public section

set_option maxRecDepth 65536
set_option maxHeartbeats 8000000

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- What a point leaves in its block of the keys' and values' gradient, of the state it ends in. -/
def outKV (s : St F) : FVec F S512x256 .f32 := k0_pay1 s.1.1 s.1.2 (Scalar.ofBits .f32 0x00000000#32)
/-- What point `kt` leaves in its block of the queries' gradient, of the state it ends in. -/
def outQ (s : St F) (kt : Fin 8) : FVec F S1x256x2048 .bf16 := k0_pay2 (aAt s.2 kt)

/-- The point's body on whole buffers: the inputs as they were, the results and the running sum at the model's values. -/
theorem body (c : Dev nD) (i : grid0.Coords) (arg1 : Memref sig .tc .vmem S8x2048x256 .bf16) (harg1 : arg1.IsWhole) (arg2 : Memref sig .tc .vmem S512x256 .bf16) (harg2 : arg2.IsWhole) (arg3 : Memref sig .tc .vmem S8x2048x128 .bf16) (harg3 : arg3.IsWhole) (arg4 : Memref sig .tc .vmem S8x8x2048 .f32) (harg4 : arg4.IsWhole) (arg5 : Memref sig .tc .vmem S8x8x2048 .f32) (harg5 : arg5.IsWhole) (arg6 : Memref sig .tc .vmem S512x256 .f32) (harg6 : arg6.IsWhole) (arg7 : Memref sig .tc .vmem S1x256x2048 .bf16) (harg7 : arg7.IsWhole) (arg8 : Memref sig .tc .vmem S8x256x2048 .f32) (harg8 : arg8.IsWhole) (arg9 : Memref sig .tc .vmem S512x2048 .bf16) (harg9 : arg9.IsWhole) (arg10 : Memref sig .tc .vmem S512x2048 .bf16) (harg10 : arg10.IsWhole) (I : Ins F) (A : Vec F S8x256x2048 .f32) (K : PUnit → sProp 𝕄) :
    iprop(owns (c : Thread nD τ) arg1 fullShare I.Q ∗ owns (c : Thread nD τ) arg2 fullShare I.K ∗ owns (c : Thread nD τ) arg3 fullShare I.D ∗ owns (c : Thread nD τ) arg4 fullShare I.L ∗ owns (c : Thread nD τ) arg5 fullShare I.Δ
      ∗ (∃ d, owns (c : Thread nD τ) arg6 fullShare d) ∗ (∃ d, owns (c : Thread nD τ) arg7 fullShare d) ∗ owns (c : Thread nD τ) arg8 fullShare A ∗ (∃ d, owns (c : Thread nD τ) arg9 fullShare d) ∗ (∃ d, owns (c : Thread nD τ) arg10 fullShare d)
      ∗ (iprop(owns (c : Thread nD τ) arg1 fullShare I.Q ∗ owns (c : Thread nD τ) arg2 fullShare I.K ∗ owns (c : Thread nD τ) arg3 fullShare I.D ∗ owns (c : Thread nD τ) arg4 fullShare I.L ∗ owns (c : Thread nD τ) arg5 fullShare I.Δ
        ∗ owns (c : Thread nD τ) arg6 fullShare (outKV (I.point (i 0) (start (i 0).val A))) ∗ owns (c : Thread nD τ) arg7 fullShare (outQ (I.point (i 0) (start (i 0).val A)) (i 0))
        ∗ owns (c : Thread nD τ) arg8 fullShare (I.point (i 0) (start (i 0).val A)).2 ∗ (∃ d, owns (c : Thread nD τ) arg9 fullShare d) ∗ (∃ d, owns (c : Thread nD τ) arg10 fullShare d)) -∗ K ⟨⟩))
    ⊢ wp frame (wpE (defs₀ (F := F)) Variants.none c none) Set.univ (cc0_attn_bwd (F := F) i arg1 harg1 arg2 harg2 arg3 harg3 arg4 harg4 arg5 harg5 arg6 harg6 arg7 harg7 arg8 harg8 arg9 harg9 arg10 harg10) K := by
  obtain ⟨Q, Kb, D, L, Δ⟩ := I
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%d10, %f10, -, H10⟩, Hk⟩
  subst hf1 hf2 hf3 hf4 hf5 hf8
  have ho := run_out c i arg1 harg1 arg2 harg2 arg3 harg3 arg4 harg4 arg5 harg5 arg6 harg6 arg7 harg7 arg8 harg8 arg9 harg9 arg10 harg10 f1 f2 f3 f4 f5 f6 f7 f8
  iapply ((run c i arg1 harg1 arg2 harg2 arg3 harg3 arg4 harg4 arg5 harg5 arg6 harg6 arg7 harg7 arg8 harg8 arg9 harg9 arg10 harg10 f1 f2 f3 f4 f5 f6 f7 f8).2.2.2 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H1, H2, H3, H4, H5, H6, H7, H8, ⟨%g9, H9⟩, ⟨%g10, H10⟩⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro; exact ho.1
  isplitl [H7]
  · iexists _; isplitr; swap; · iexact H7
    ipureintro; exact ho.2.1
  isplitl [H8]
  · iexists _; isplitr; swap; · iexact H8
    ipureintro; exact ho.2.2
  isplitl [H9]
  · iexists _, g9; isplitr; · ipureintro; rfl
    iexact H9
  iexists _, g10; isplitr; · ipureintro; rfl
  iexact H10

/-! ## The proof data -/

section
variable (m : (ℓ : Loc nD τ sig) → Buf (Elt F) ℓ) (ρ : Dev nD → PrngReg)

abbrev 𝒱₀ : Variants := Variants.none

/-- What point `t` reads. -/
def insAt (c : Dev nD) (t : Fin cfg0.N) : Ins F := ⟨iblk m c 0 t, iblk m c 1 t, iblk m c 2 t, iblk m c 3 t, iblk m c 4 t⟩

/-- The key tile of point `t`. -/
abbrev ktOf (t : Fin cfg0.N) : Fin 8 := grid0.coords t 0

theorem ktOf_val : ∀ t : Fin cfg0.N, (ktOf t).val = t.val := by decide +kernel

/-- The running sum before point `n`. -/
def accAt (c : Dev nD) : Nat → Vec F S8x256x2048 .f32
  | 0 => k0_pay244
  | n + 1 => if h : n < cfg0.N then ((insAt m c ⟨n, h⟩).point (ktOf ⟨n, h⟩) (accAt c n)).2 else accAt c n

/-- The state at the end of point `t`. -/
def stAt (c : Dev nD) (t : Fin cfg0.N) : St F := (insAt m c t).point (ktOf t) (accAt m c t.val)

theorem accAt_succ (c : Dev nD) (t : Fin cfg0.N) : accAt m c (t.val + 1) = (stAt m c t).2 := dif_pos t.isLt

theorem start_eq (c : Dev nD) (t : Fin cfg0.N) (A : Vec F S8x256x2048 .f32) (h : t.val ≠ 0 → A = accAt m c t.val) :
    start (ktOf t).val A = accAt m c t.val := by
  rw [ktOf_val]
  unfold start
  split
  · rename_i h0; rw [h0]; rfl
  · rename_i h0; exact h h0

/-- What is kept between the points: the running sum (anything before the first), the two scratch buffers at anything. -/
def Inv (c : Dev nD) (n : Nat) : sProp 𝕄 :=
  iprop((∃ A : Vec F S8x256x2048 .f32, ⌜n ≠ 0 → A = accAt m c n⌝ ∗ owns (c : Thread nD τ) (Memref.whole cc0_scratch0) fullShare A)
    ∗ (∃ d, owns (c : Thread nD τ) (Memref.whole cc0_scratch1) fullShare d) ∗ (∃ d, owns (c : Thread nD τ) (Memref.whole cc0_scratch2) fullShare d)
    ∗ ∃ r, prngReg c r)

def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outKV (stAt m c t)
    | ⟨6, _⟩ => outQ (stAt m c t) (ktOf t)
  Φ t := Inv m c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outKV (stAt m c t) := by dsimp only [dats]
theorem after0_6 (c : Dev nD) (t : Fin cfg0.N) : (dats m 0 c).after 6 t = outQ (stAt m c t) (ktOf t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

theorem body_obligation (c : Dev nD) : Pipeline.BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = Inv m c (t.val + 1) from rfl, show (dats m 0 c).Φ t.castSucc = Inv m c t.val from rfl,
    show (dats m 0 c).owesAt () t.succ = (dats m 0 c).owesAt () t.castSucc from rfl, after0_0, after0_1, after0_2, after0_3, after0_4, after0_5, after0_6]
  unfold Inv
  iintro ⟨⟨⟨%A, %hA, HA⟩, HS1, HS2, Hr⟩, Ho, ⟨%d0, H0⟩, ⟨%d1, H1⟩, ⟨%d2, H2⟩, ⟨%d3, H3⟩, ⟨%d4, H4⟩, ⟨%d5, H5⟩, ⟨%d6, H6⟩⟩
  have hs : (insAt m c t).point (ktOf t) (start (ktOf t).val A) = stAt m c t := by rw [start_eq m c t A hA]; rfl
  iapply (body c (grid0.coords t) _ _ _ _ _ _ _ _ _ _ _ _ _ _ _ _ _ _ _ _ (insAt m c t) A _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HA]; · iexact HA
  isplitl [HS1]; · iexact HS1
  isplitl [HS2]; · iexact HS2
  rw [hs]
  iintro ⟨H0, H1, H2, H3, H4, H5, H6, HA, HS1, HS2⟩
  isplitl [HA HS1 HS2 Hr]
  · isplitl [HA]
    · iexists _; isplitr; swap; · iexact HA
      ipureintro; exact fun _ => (accAt_succ m c t).symm
    isplitl [HS1]; · iexact HS1
    isplitl [HS2]; · iexact HS2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The run -/

theorem inv_in (c : Dev nD) : Pipeline.ΦA spec0 c ⊢ (dats (F := F) m 0 c).Φ 0 := by
  show Pipeline.ΦA spec0 c ⊢ Inv m c 0
  unfold Pipeline.ΦA Inv
  rw [scopedRest0_eq]
  simp only [owns_whole]
  iintro ⟨⟨⟨%f0, H0⟩, ⟨%f1, H1⟩, ⟨%f2, H2⟩⟩, Hr⟩
  isplitl [H0]
  · iexists f0; isplitr; · ipureintro; exact fun h => absurd rfl h
    iexact H0
  isplitl [H1]; · iexists f1; iexact H1
  isplitl [H2]; · iexists f2; iexact H2
  iexact Hr

theorem inv_out (c : Dev nD) : (dats (F := F) m 0 c).Φ (Fin.last cfg0.N) ⊢ Pipeline.ΦA spec0 c := by
  show Inv m c _ ⊢ Pipeline.ΦA spec0 c
  unfold Pipeline.ΦA Inv
  rw [scopedRest0_eq]
  simp only [owns_whole]
  iintro ⟨⟨%f0, -, H0⟩, ⟨%f1, H1⟩, ⟨%f2, H2⟩, Hr⟩
  isplitr [Hr]; swap; · iexact Hr
  isplitl [H0]; · iexists f0; iexact H0
  isplitl [H1]; · iexists f1; iexact H1
  iexists f2; iexact H2

set_option backward.isDefEq.respectTransparency.types false in
/-- Every execution ends, the results at the model's values and every semaphore at zero. -/
theorem run_main : θ_run (defs (F := F)) (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hin := inv_in m) (hout := inv_out m)

/-- Every execution ends, the arguments as they were and every semaphore at zero. -/
theorem frame_main : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end

end Cert.KernelIdeal.Value
-- ==== Proof.Words.lean ====
/-
  The kernel as it runs is the kernel with named constants, each name read as its word: the two programs have the same text.
-/
module

public import proofs.«01_k».proof.Defs

@[expose] public section

set_option maxRecDepth 65536
set_option maxHeartbeats 4000000

noncomputable section

open Idealize.ShloMosaic Idealize.ShloMosaic.TcCoe Idealize.SL.Sem

namespace Cert

/-- Named constants at the machine's words: each is its own pattern. -/
@[reducible] def namedWords : Named Bits where
  named _ _ {φ} b := Scalar.ofBits φ b

variable [hK : Cert.Kernel.Facts] [hKI : Cert.KernelIdeal.Facts]

theorem body_eq : @Cert.KernelIdeal.cc0_attn_bwd Bits _ namedWords hKI = Cert.Kernel.cc0_attn_bwd (F := Bits) := by rfl

theorem defs0_eq : @Cert.KernelIdeal.defs₀ Bits _ namedWords hKI = Cert.Kernel.defs₀ (F := Bits) := by
  unfold KernelIdeal.defs₀ Kernel.defs₀
  refine congrArg Defs.onTc (funext fun k => funext fun x => ?_)
  match k, x with
  | 0, (t, s) => exact congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _

theorem defs_eq : @Cert.KernelIdeal.defs Bits _ namedWords hKI = Cert.Kernel.defs (F := Bits) :=
  congrArg (Pipeline.defs (Cert.Kernel.pcfgs (F := Bits))) defs0_eq

theorem main_eq : @Cert.KernelIdeal.main Bits _ hKI = Cert.Kernel.main (F := Bits) := by rfl

end Cert
-- ==== Proof.Frames.lean ====
/-
  The frames: every execution of each program ends, its arguments as they were and every semaphore counter at zero.
-/
module

public import proofs.«01_k».proof.Proof.Grid
public import proofs.«01_k».proof.Proof.Words
public import proofs.«01_k».proof.Proof.Gen.Kernel
public import proofs.«01_k».proof.Proof.Gen.ReferenceIdeal.Run
public import proofs.«01_k».proof.Proof.Gen.ReferenceIdeal

@[expose] public section

set_option maxRecDepth 65536

noncomputable section

open Idealize.ShloMosaic Idealize.ShloMosaic.TcCoe Idealize.SL.Sem

namespace Cert.Proof

theorem frame_kernel : Cert.quiescent_Kernel (hKernel := Cert.Kernel.Gen.facts) := by
  intro m ρ _
  have h := @Cert.KernelIdeal.Value.frame_main Bits _ namedWords m ρ
  rw [defs_eq (hK := Cert.Kernel.Gen.facts), main_eq (hK := Cert.Kernel.Gen.facts)] at h
  exact h

theorem frame_ideal : Cert.quiescent_KernelIdeal (hKernelIdeal := Cert.KernelIdeal.Gen.facts) :=
  fun m ρ _ => Cert.KernelIdeal.Value.frame_main (F := Ideal) m ρ

theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "log2_e" .f32 0x3FB8AA3B#32 (((Real.log 2)⁻¹ : ℝ) : EReal) rfl,
    IdealRules.named_const.statement Cert.KernelIdeal.κ "exp2_scale" .f32 0x3DD53B95#32 (((Real.sqrt 192)⁻¹ * (Real.log 2)⁻¹ : ℝ) : EReal) rfl,
    IdealRules.named_const.statement Cert.KernelIdeal.κ "sm_scale" .f32 0x3D93CD3A#32 (((Real.sqrt 192)⁻¹ : ℝ) : EReal) rfl⟩

end Cert.Proof
-- ==== Proof.Attn.lean ====
/-
  The gradient of block-causal softmax attention over the reals: the quantities both programs compute, the identities between
  the two ways of writing them, and the sums over tiles as sums over positions.
-/
module

public import Mathlib.Analysis.SpecialFunctions.Log.Basic
public import Mathlib.Analysis.SpecialFunctions.Pow.Real
public import Mathlib.Algebra.BigOperators.Fin
public import Mathlib.Algebra.BigOperators.Field
public import Mathlib.Data.EReal.Operations

@[expose] public section

noncomputable section

namespace Cert.Attn

open Finset

/-- The arguments: queries and keys (a latent and a rotary part each) and the output's cotangent. -/
structure Args where
  q : Fin 4096 → Fin 4 → Fin 128 → ℝ
  qr : Fin 4096 → Fin 4 → Fin 64 → ℝ
  k : Fin 4096 → Fin 128 → ℝ
  kr : Fin 4096 → Fin 64 → ℝ
  ct : Fin 4096 → Fin 4 → Fin 128 → ℝ

variable (A : Args)

def scale : ℝ := (Real.sqrt 192)⁻¹

/-- A key is seen by the queries of its own chunk of 64 positions and of later ones. -/
def seen (q k : Fin 4096) : Prop := k.val / 64 ≤ q.val / 64
instance (q k : Fin 4096) : Decidable (seen q k) := inferInstanceAs (Decidable (_ ≤ _))

/-- The score before its scale. -/
def raw (h : Fin 4) (q k : Fin 4096) : ℝ := (∑ c, A.k k c * A.q q h c) + ∑ r, A.kr k r * A.qr q h r
def s (h : Fin 4) (q k : Fin 4096) : ℝ := raw A h q k * scale

def top (h : Fin 4) (q : Fin 4096) : ℝ := (univ.filter (seen q)).sup' ⟨q, by simp [seen]⟩ (s A h q)
def e (h : Fin 4) (q k : Fin 4096) : ℝ := if seen q k then Real.exp (s A h q k - top A h q) else 0
def l (h : Fin 4) (q : Fin 4096) : ℝ := ∑ k, e A h q k

theorem e_nonneg (h : Fin 4) (q k : Fin 4096) : 0 ≤ e A h q k := by
  unfold e
  split
  · exact (Real.exp_pos _).le
  · exact le_rfl

theorem l_pos (h : Fin 4) (q : Fin 4096) : 0 < l A h q := by
  refine sum_pos' (fun k _ => e_nonneg A h q k) ⟨q, mem_univ _, ?_⟩
  rw [e, if_pos (show seen q q from le_rfl)]
  exact Real.exp_pos _

theorem l_ne (h : Fin 4) (q : Fin 4096) : l A h q ≠ 0 := (l_pos A h q).ne'

/-- The probabilities. -/
def p (h : Fin 4) (q k : Fin 4096) : ℝ := e A h q k / l A h q
/-- The cotangent against a value. -/
def g (h : Fin 4) (q k : Fin 4096) : ℝ := ∑ c, A.ct q h c * A.k k c
/-- The row's mean of those under the probabilities. -/
def δ (h : Fin 4) (q : Fin 4096) : ℝ := ∑ k, p A h q k * g A h q k
/-- The scores' gradient. -/
def ds (h : Fin 4) (q k : Fin 4096) : ℝ := p A h q k * (g A h q k - δ A h q) * scale

theorem p_unseen {h : Fin 4} {q k : Fin 4096} (H : ¬seen q k) : p A h q k = 0 := by rw [p, e, if_neg H, zero_div]
theorem ds_unseen {h : Fin 4} {q k : Fin 4096} (H : ¬seen q k) : ds A h q k = 0 := by rw [ds, p_unseen A H, zero_mul, zero_mul]

/-- The scores' gradient as differentiating the quotient writes it. -/
theorem ds_quotient (h : Fin 4) (q k : Fin 4096) :
    (if seen q k then (g A h q k / l A h q + (-∑ k', g A h q k' * (1 / (l A h q * l A h q)) * e A h q k')) * e A h q k else 0) * scale = ds A h q k := by
  have hl := l_ne A h q
  have hs : ∑ k', g A h q k' * (1 / (l A h q * l A h q)) * e A h q k' = δ A h q / l A h q := by
    rw [δ, sum_div]
    refine sum_congr rfl fun k' _ => ?_
    rw [p]
    field_simp
  rw [hs]
  by_cases H : seen q k
  · rw [if_pos H, ds, p]
    field_simp
    ring
  · rw [if_neg H, ds_unseen A H, zero_mul]

/-- The row's mean, as the cotangent against the output. -/
theorem δ_output (h : Fin 4) (q : Fin 4096) : ∑ c, A.ct q h c * ∑ k, A.k k c * p A h q k = δ A h q := by
  simp only [mul_sum, δ, g]
  rw [sum_comm]
  refine sum_congr rfl fun k _ => sum_congr rfl fun c _ => by ring

/-- The probability from the row's log-sum, with powers of two. -/
theorem p_log (h : Fin 4) (q k : Fin 4096) (H : seen q k) :
    (2 : ℝ) ^ (raw A h q k * ((Real.sqrt 192)⁻¹ * (Real.log 2)⁻¹) - (top A h q + Real.log (l A h q)) * (Real.log 2)⁻¹) = p A h q k := by
  have h2 : Real.log 2 ≠ 0 := (Real.log_pos (by norm_num)).ne'
  rw [Real.rpow_def_of_pos (by norm_num : (0 : ℝ) < 2)]
  have : Real.log 2 * (raw A h q k * ((Real.sqrt 192)⁻¹ * (Real.log 2)⁻¹) - (top A h q + Real.log (l A h q)) * (Real.log 2)⁻¹)
      = (s A h q k - top A h q) - Real.log (l A h q) := by
    rw [s, scale]
    field_simp
    ring
  rw [this, Real.exp_sub, Real.exp_log (l_pos A h q), p, e, if_pos H]

/-! ## Padded to 256 columns -/

/-- A query's 256 columns. -/
def qp (q : Fin 4096) (h : Fin 4) (w : Fin 256) : ℝ :=
  if H : w.val < 128 then A.q q h ⟨w.val, H⟩ else if H' : w.val - 128 < 64 then A.qr q h ⟨w.val - 128, H'⟩ else 0
/-- A key's 256 columns. -/
def kp (k : Fin 4096) (w : Fin 256) : ℝ :=
  if H : w.val < 128 then A.k k ⟨w.val, H⟩ else if H' : w.val - 128 < 64 then A.kr k ⟨w.val - 128, H'⟩ else 0

theorem raw_padded (h : Fin 4) (q k : Fin 4096) : ∑ w, kp A k w * qp A q h w = raw A h q k := by
  rw [show (∑ w, kp A k w * qp A q h w) = ∑ w : Fin (128 + (64 + 64)), kp A k w * qp A q h w from rfl, Fin.sum_univ_add, Fin.sum_univ_add]
  have h0 : ∀ c : Fin 64, kp A k (Fin.natAdd 128 (Fin.natAdd 64 c)) * qp A q h (Fin.natAdd 128 (Fin.natAdd 64 c)) = 0 := fun c => by
    rw [kp, dif_neg (by simp), dif_neg (by simp), zero_mul]
  rw [raw, sum_congr rfl fun c _ => h0 c, sum_const_zero, add_zero]
  refine congrArg₂ (· + ·) (sum_congr rfl fun c _ => ?_) (sum_congr rfl fun c _ => ?_)
  · rw [kp, qp, dif_pos (by simp), dif_pos (by simp)]
    rfl
  · simp [kp, qp]

/-! ## Tiles -/

/-- Row `y` of query tile `j` is of head `y / 512`; its position is `512 j + y % 512`. -/
def hd (y : Fin 2048) : Fin 4 := ⟨y.val / 512, by omega⟩
def qi (j : Fin 8) (y : Fin 2048) : Fin 4096 := ⟨512 * j.val + y.val % 512, by omega⟩
/-- Row `r` of key tile `t`. -/
def ki (t : Fin 8) (r : Fin 512) : Fin 4096 := ⟨512 * t.val + r.val, by omega⟩

theorem unseen_of_lt {t j : Fin 8} (H : j.val < t.val) (r : Fin 512) (y : Fin 2048) : ¬seen (qi j y) (ki t r) := by
  unfold seen qi ki
  dsimp only
  omega

theorem seen_of_lt {t j : Fin 8} (H : t.val < j.val) (r : Fin 512) (y : Fin 2048) : seen (qi j y) (ki t r) := by
  unfold seen qi ki
  dsimp only
  omega

theorem seen_diag (t : Fin 8) (r : Fin 512) (y : Fin 2048) : seen (qi t y) (ki t r) ↔ r.val / 64 ≤ y.val % 512 / 64 := by
  unfold seen qi ki
  dsimp only
  omega

/-- A sum over the queries of all heads, tile by tile. -/
theorem sum_queries (f : Fin 4 → Fin 4096 → ℝ) : ∑ j, ∑ y, f (hd y) (qi j y) = ∑ h, ∑ q, f h q := by
  rw [← sum_product', ← sum_product']
  refine sum_nbij' (fun x => (hd x.2, qi x.1 x.2))
    (fun x => (⟨x.2.val / 512, by omega⟩, ⟨512 * x.1.val + x.2.val % 512, by omega⟩)) (fun _ _ => by simp) (fun _ _ => by simp) ?_ ?_ (fun _ _ => rfl)
  · rintro ⟨j, y⟩ -
    ext <;> simp only [hd, qi] <;> omega
  · rintro ⟨h, q⟩ -
    ext <;> simp only [hd, qi] <;> omega

/-- A sum over the keys, tile by tile. -/
theorem sum_keys (f : Fin 4096 → ℝ) : ∑ t, ∑ r, f (ki t r) = ∑ k, f k := by
  rw [← sum_product']
  refine sum_nbij' (fun x => ki x.1 x.2) (fun k => (⟨k.val / 512, by omega⟩, ⟨k.val % 512, by omega⟩)) (fun _ _ => by simp) (fun _ _ => by simp) ?_ ?_ (fun _ _ => rfl)
  · rintro ⟨j, y⟩ -
    ext <;> simp only [ki] <;> omega
  · rintro k -
    ext; simp only [ki]; omega

/-- The sum of the first tiles, up to `n`. -/
def upTo (n : Nat) (f : Fin 8 → ℝ) : ℝ := ∑ j, if j.val ≤ n then f j else 0

theorem upTo_succ (n : Nat) (hn : n + 1 < 8) (f : Fin 8 → ℝ) : upTo (n + 1) f = upTo n f + f ⟨n + 1, hn⟩ := by
  unfold upTo
  rw [← Fintype.sum_ite_eq ⟨n + 1, hn⟩ f, ← sum_add_distrib]
  refine sum_congr rfl fun j _ => ?_
  rcases lt_trichotomy j.val (n + 1) with H | H | H
  · rw [if_pos (by omega), if_pos (by omega), if_neg (by rintro rfl; simp at H), add_zero]
  · rw [if_pos (by omega), if_neg (by omega), if_pos (Fin.ext H.symm), zero_add]
  · rw [if_neg (by omega), if_neg (by omega), if_neg (by rintro rfl; simp at H), add_zero]

theorem upTo_all (n : Nat) (hn : 7 ≤ n) (f : Fin 8 → ℝ) : upTo n f = ∑ j, f j :=
  sum_congr rfl fun j _ => if_pos (by omega)

/-- Where the tiles before `t` add nothing, the sum up to `t` is `t`'s term. -/
theorem upTo_self (t : Fin 8) (f : Fin 8 → ℝ) (h : ∀ j : Fin 8, j.val < t.val → f j = 0) : upTo t.val f = f t := by
  unfold upTo
  rw [Finset.sum_eq_single t, if_pos le_rfl]
  · intro j _ hj
    split
    · exact h j (lt_of_le_of_ne ‹_› fun H => hj (Fin.ext H))
    · rfl
  · exact fun H => absurd (mem_univ _) H

/-- Where the tiles past `t` add nothing, the sum up to `t` is the whole sum. -/
theorem upTo_full (t : Fin 8) (f : Fin 8 → ℝ) (h : ∀ j : Fin 8, t.val < j.val → f j = 0) : upTo t.val f = ∑ j, f j := by
  unfold upTo
  refine sum_congr rfl fun j _ => ?_
  split
  · rfl
  · exact (h j (by omega)).symm

/-! ## Sums of reals among the extended reals -/

theorem coe_sum {ι : Type} [Fintype ι] (f : ι → ℝ) : ∑ i, ((f i : ℝ) : EReal) = ((∑ i, f i : ℝ) : EReal) := by
  classical
  induction (univ : Finset ι) using Finset.induction_on with
  | empty => simp
  | insert a s ha ih => rw [sum_insert ha, sum_insert ha, ih, EReal.coe_add]

end Cert.Attn

end
-- ==== Proof.TileVal.lean ====
/-
  One tile over the extended reals, at an index, of inputs that are finite: the probabilities, the scores' gradient, and
  what a step adds to the three gradients.
-/
module

public import proofs.«01_k».proof.Proof.Model
public import proofs.«01_k».proof.Proof.Attn
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Cert.Attn

/-! ## The constants -/

theorem log2_e : (Named.named (F := Ideal) κ "log2_e" 0x3FB8AA3B#32 : Ideal .f32) = (((Real.log 2)⁻¹ : ℝ) : EReal) :=
  IdealRules.named_const.ideal_named_scalar _ _ _ _ rfl
theorem exp2_scale : (Named.named (F := Ideal) κ "exp2_scale" 0x3DD53B95#32 : Ideal .f32) = (((Real.sqrt 192)⁻¹ * (Real.log 2)⁻¹ : ℝ) : EReal) :=
  IdealRules.named_const.ideal_named_scalar _ _ _ _ rfl
theorem sm_scale : (Named.named (F := Ideal) κ "sm_scale" 0x3D93CD3A#32 : Ideal .f32) = (((Real.sqrt 192)⁻¹ : ℝ) : EReal) :=
  IdealRules.named_const.ideal_named_scalar _ _ _ _ rfl

/-! ## One tile of an array -/

theorem qAt_apply (Q : Vec Ideal S8x2048x256 .bf16) (j : Fin 8) (y : Fin 2048) (w : Fin 256) : qAt Q j (ix3 0 y w) = Q (ix3 j y w) :=
  congrArg Q (funext fun a => Fin.ext (by
    match a with
    | ⟨0, _⟩ => exact (show j.val + 1 * 0 = j.val by omega)
    | ⟨1, _⟩ => exact (show 0 + 1 * y.val = y.val by omega)
    | ⟨2, _⟩ => exact (show 0 + 1 * w.val = w.val by omega)))

theorem dAt_apply (D : Vec Ideal S8x2048x128 .bf16) (j : Fin 8) (y : Fin 2048) (c : Fin 128) : dAt D j (ix3 0 y c) = D (ix3 j y c) :=
  congrArg D (funext fun a => Fin.ext (by
    match a with
    | ⟨0, _⟩ => exact (show j.val + 1 * 0 = j.val by omega)
    | ⟨1, _⟩ => exact (show 0 + 1 * y.val = y.val by omega)
    | ⟨2, _⟩ => exact (show 0 + 1 * c.val = c.val by omega)))

theorem lAt_apply (L : Vec Ideal S8x8x2048 .f32) (j : Fin 8) (y : Fin 2048) : lAt L j (ix3 0 0 y) = L (ix3 j 0 y) :=
  congrArg L (funext fun a => Fin.ext (by
    match a with
    | ⟨0, _⟩ => exact (show j.val + 1 * 0 = j.val by omega)
    | ⟨1, _⟩ => exact (show 0 + 1 * 0 = 0 by omega)
    | ⟨2, _⟩ => exact (show 0 + 1 * y.val = y.val by omega)))

theorem aAt_apply (A : Vec Ideal S8x256x2048 .f32) (j : Fin 8) (w : Fin 256) (y : Fin 2048) : aAt A j (ix3 0 w y) = A (ix3 j w y) :=
  congrArg A (funext fun a => Fin.ext (by
    match a with
    | ⟨0, _⟩ => exact (show j.val + 1 * 0 = j.val by omega)
    | ⟨1, _⟩ => exact (show 0 + 1 * w.val = w.val by omega)
    | ⟨2, _⟩ => exact (show 0 + 1 * y.val = y.val by omega)))

/-! ## The pieces of a step, of any operands -/

section
variable (I : Ins Ideal) (j : Fin 8) (r : Fin 512) (y : Fin 2048)

theorem v1_apply (w : Fin 256) : I.v1 (ix2 r w) = I.K (ix2 r w) := by
  pointwise [Ins.v1]

theorem v2_apply (c : Fin 128) : I.v2 (ix2 r c) = I.K (ix2 r (⟨c.val, by omega⟩ : Fin 256)) := by
  pointwise [Ins.v2]
  rw [← v1_apply]

theorem pay5_apply (v1 : FVec Ideal S512x256 .bf16) (x : Vec Ideal S1x2048x256 .bf16) :
    k0_pay5 v1 x (ix2 r y) = ∑ w : Fin 256, v1 (ix2 r w) * x (ix3 0 y w) := by
  pointwise [k0_pay5, k0_pay3]

theorem pay6_apply (v2 : FVec Ideal S512x128 .bf16) (x : Vec Ideal S1x2048x128 .bf16) :
    k0_pay6 v2 x (ix2 r y) = ∑ c : Fin 128, v2 (ix2 r c) * x (ix3 0 y c) := by
  pointwise [k0_pay6, k0_pay4]

theorem pay7_apply (l : Vec Ideal S1x1x2048 .f32) : k0_pay7 l (ix2 0 y) = l (ix3 0 0 y) * (((Real.log 2)⁻¹ : ℝ) : EReal) := by
  pointwise [k0_pay7]
  rw [log2_e]

theorem pay8_apply (l : Vec Ideal S1x1x2048 .f32) : k0_pay8 l (ix2 0 y) = l (ix3 0 0 y) := by
  pointwise [k0_pay8]

theorem pTile_apply (s : FVec Ideal S512x2048 .f32) (l : FVec Ideal S1x2048 .f32) :
    pTile s l (ix2 r y) = Ideal.exp2 (s (ix2 r y) * (((Real.sqrt 192)⁻¹ * (Real.log 2)⁻¹ : ℝ) : EReal) - l (ix2 0 y)) := by
  pointwise [pTile]
  rw [exp2_scale]
  rfl

theorem dsTile_apply (p dp : FVec Ideal S512x2048 .f32) (d : FVec Ideal S1x2048 .f32) :
    dsTile p dp d (ix2 r y) = p (ix2 r y) * (dp (ix2 r y) - d (ix2 0 y)) * (((Real.sqrt 192)⁻¹ : ℝ) : EReal) := by
  pointwise [dsTile]
  rw [sm_scale]
  rfl

theorem chunk_apply : k0_pay253 (ix2 0 y) = BitVec.ofNat 32 (y.val % 512 / 64) := by
  revert y
  decide +kernel

theorem maskTile_apply (p : FVec Ideal S512x2048 .f32) :
    maskTile 0#32 k0_pay253 p (ix2 r y) = if r.val / 64 ≤ y.val % 512 / 64 then p (ix2 r y) else 0 := by
  pointwise [maskTile]
  rw [show col (ix2 r y) = ix2 0 y from rfl, chunk_apply]
  have hr : (Scalar.addi (BitVec.ofNat 32 (r.val / 64)) 0#32).toInt = (r.val / 64 : ℕ) := by
    show (BitVec.ofNat 32 (r.val / 64) + 0#32).toInt = _
    rw [BitVec.add_zero, BitVec.toInt_eq_toNat_of_lt (by simp; omega)]; simp; omega
  have hy : (BitVec.ofNat 32 (y.val % 512 / 64)).toInt = (y.val % 512 / 64 : ℕ) := by
    rw [BitVec.toInt_eq_toNat_of_lt (by simp; omega)]; simp; omega
  simp only [IntOp.cmpi, BitVec.sle, hr, hy, Nat.cast_le]
  by_cases h : r.val / 64 ≤ y.val % 512 / 64 <;> simp [Scalar.select, h]

theorem pay121_apply (a : FVec Ideal S512x256 .f32) (x : Vec Ideal S1x2048x256 .bf16) (ds : Vec Ideal S512x2048 .bf16) (w : Fin 256) :
    k0_pay121 a (k0_pay3 x) ds (ix2 r w) = a (ix2 r w) + ∑ y : Fin 2048, ds (ix2 r y) * x (ix3 0 y w) := by
  pointwise [k0_pay121, k0_pay3]

theorem pay120_apply (a : FVec Ideal S512x128 .f32) (x : Vec Ideal S1x2048x128 .bf16) (p : Vec Ideal S512x2048 .bf16) (c : Fin 128) :
    k0_pay120 a (k0_pay4 x) p (ix2 r c) = a (ix2 r c) + ∑ y : Fin 2048, p (ix2 r y) * x (ix3 0 y c) := by
  pointwise [k0_pay120, k0_pay4]

theorem kT_apply (w : Fin 256) : I.kT (ix2 w r) = I.K (ix2 r w) := by
  pointwise [Ins.kT, k0_pay243, k0_pay241]

theorem pay379_apply (kT : FVec Ideal S256x512 .bf16) (ds : Vec Ideal S512x2048 .bf16) (a : Vec Ideal S1x256x2048 .f32) (w : Fin 256) :
    k0_pay379 kT ds a (ix3 0 w y) = a (ix3 0 w y) + ∑ r : Fin 512, kT (ix2 w r) * ds (ix2 r y) := by
  pointwise [k0_pay379]

theorem addRow_apply (A : Vec Ideal S8x256x2048 .f32) (kT : FVec Ideal S256x512 .bf16) (ds : FVec Ideal S512x2048 .bf16) (i : Fin 8) (w : Fin 256) :
    addRow A j kT ds (ix3 i w y) = if i = j then k0_pay379 kT ds (aAt A j) (ix3 0 w y) else A (ix3 i w y) := by
  unfold addRow VecWindow.put
  by_cases h : i = j
  · subst h
    rw [if_pos rfl, dif_pos]
    · refine congrArg _ (funext fun a => Fin.ext ?_)
      match a with
      | ⟨0, _⟩ => exact (show i.val - i.val = 0 by omega)
      | ⟨1, _⟩ => exact (show w.val - 0 = w.val by omega)
      | ⟨2, _⟩ => exact (show y.val - 0 = y.val by omega)
    · intro a
      match a with
      | ⟨0, _⟩ => exact (show i.val ≤ i.val ∧ i.val < i.val + 1 by omega)
      | ⟨1, _⟩ => exact (show 0 ≤ w.val ∧ w.val < 0 + 256 by omega)
      | ⟨2, _⟩ => exact (show 0 ≤ y.val ∧ y.val < 0 + 2048 by omega)
  · rw [if_neg h, dif_neg]
    intro H
    have := H 0
    have : j.val ≤ i.val ∧ i.val < j.val + 1 := this
    exact h (Fin.ext (by omega))

end

/-! ## Of finite inputs -/

/-- The inputs of the point of key tile `t` are those of the reals `A`. -/
structure Reads (A : Args) (t : Fin 8) (I : Ins Ideal) : Prop where
  Q : ∀ j y w, I.Q (ix3 j y w) = ((qp A (qi j y) (hd y) w : ℝ) : EReal)
  K : ∀ r w, I.K (ix2 r w) = ((kp A (ki t r) w : ℝ) : EReal)
  D : ∀ j y c, I.D (ix3 j y c) = ((A.ct (qi j y) (hd y) c : ℝ) : EReal)
  L : ∀ j y, I.L (ix3 j 0 y) = ((top A (hd y) (qi j y) + Real.log (l A (hd y) (qi j y)) : ℝ) : EReal)
  Δ : ∀ j y, I.Δ (ix3 j 0 y) = ((δ A (hd y) (qi j y) : ℝ) : EReal)

section
variable {A : Args} {t : Fin 8} {I : Ins Ideal} (H : Reads A t I)
include H

theorem raw_of (j : Fin 8) (r : Fin 512) (y : Fin 2048) : k0_pay5 I.v1 (qAt I.Q j) (ix2 r y) = ((raw A (hd y) (qi j y) (ki t r) : ℝ) : EReal) := by
  rw [pay5_apply, ← raw_padded, ← coe_sum]
  refine Finset.sum_congr rfl fun w _ => ?_
  rw [v1_apply, qAt_apply, H.Q, H.K, EReal.coe_mul]

theorem g_of (j : Fin 8) (r : Fin 512) (y : Fin 2048) : k0_pay6 I.v2 (dAt I.D j) (ix2 r y) = ((g A (hd y) (qi j y) (ki t r) : ℝ) : EReal) := by
  rw [pay6_apply, g, ← coe_sum]
  refine Finset.sum_congr rfl fun c _ => ?_
  rw [v2_apply, dAt_apply, H.D, H.K, kp, dif_pos c.isLt, mul_comm, EReal.coe_mul]

theorem pr_apply (j : Fin 8) (r : Fin 512) (y : Fin 2048) (hs : seen (qi j y) (ki t r)) :
    I.pr j (ix2 r y) = ((p A (hd y) (qi j y) (ki t r) : ℝ) : EReal) := by
  rw [Ins.pr, pTile_apply, raw_of H, pay7_apply, lAt_apply, H.L, ← EReal.coe_mul, ← EReal.coe_mul, ← EReal.coe_sub, ← p_log A _ _ _ hs]
  rfl

/-- On the diagonal, under the mask. -/
theorem masked_apply (r : Fin 512) (y : Fin 2048) :
    maskTile 0#32 k0_pay253 (I.pr t) (ix2 r y) = ((p A (hd y) (qi t y) (ki t r) : ℝ) : EReal) := by
  rw [maskTile_apply]
  by_cases h : r.val / 64 ≤ y.val % 512 / 64
  · rw [if_pos h, pr_apply H t r y ((seen_diag t r y).2 h)]
  · rw [if_neg h, p_unseen A fun h' => h ((seen_diag t r y).1 h')]
    rfl

theorem ds_apply {P : FVec Ideal S512x2048 .f32} {j : Fin 8} (hP : ∀ r y, P (ix2 r y) = ((p A (hd y) (qi j y) (ki t r) : ℝ) : EReal))
    (r : Fin 512) (y : Fin 2048) : I.ds P j (ix2 r y) = ((ds A (hd y) (qi j y) (ki t r) : ℝ) : EReal) := by
  show dsTile P (k0_pay6 I.v2 (dAt I.D j)) (k0_pay8 (lAt I.Δ j)) (ix2 r y) = _
  rw [dsTile_apply, hP, g_of H, pay8_apply, lAt_apply, H.Δ, ← EReal.coe_sub, ← EReal.coe_mul, ← EReal.coe_mul]
  rfl

/-- What key tile `t` adds to the queries' gradient of query tile `j`. -/
def addQ (A : Args) (t j : Fin 8) (w : Fin 256) (y : Fin 2048) : ℝ := ∑ r, kp A (ki t r) w * ds A (hd y) (qi j y) (ki t r)
/-- What query tile `j` adds to the keys' gradient of key tile `t`. -/
def addK (A : Args) (t : Fin 8) (r : Fin 512) (w : Fin 256) (j : Fin 8) : ℝ := ∑ y, ds A (hd y) (qi j y) (ki t r) * qp A (qi j y) (hd y) w
/-- What query tile `j` adds to the values' gradient of key tile `t`. -/
def addV (A : Args) (t : Fin 8) (r : Fin 512) (c : Fin 128) (j : Fin 8) : ℝ := ∑ y, p A (hd y) (qi j y) (ki t r) * A.ct (qi j y) (hd y) c

omit H in
theorem addQ_lt {j : Fin 8} (h : j.val < t.val) (w : Fin 256) (y : Fin 2048) : addQ A t j w y = 0 :=
  Finset.sum_eq_zero fun r _ => by rw [ds_unseen A (unseen_of_lt h r y), mul_zero]
omit H in
theorem addK_lt {j : Fin 8} (h : j.val < t.val) (r : Fin 512) (w : Fin 256) : addK A t r w j = 0 :=
  Finset.sum_eq_zero fun y _ => by rw [ds_unseen A (unseen_of_lt h r y), zero_mul]
omit H in
theorem addV_lt {j : Fin 8} (h : j.val < t.val) (r : Fin 512) (c : Fin 128) : addV A t r c j = 0 :=
  Finset.sum_eq_zero fun y _ => by rw [p_unseen A (unseen_of_lt h r y), zero_mul]

/-- The state after query tile `n`, the running sum having been `a` before the point. -/
structure StIs (A : Args) (t : Fin 8) (a : Fin 8 → Fin 256 → Fin 2048 → ℝ) (n : Nat) (s : St Ideal) : Prop where
  dk : ∀ r w, s.1.1 (ix2 r w) = ((upTo n (addK A t r w) : ℝ) : EReal)
  dv : ∀ r c, s.1.2 (ix2 r c) = ((upTo n (addV A t r c) : ℝ) : EReal)
  dq : ∀ j w y, s.2 (ix3 j w y) = ((a j w y + if j.val ≤ n then addQ A t j w y else 0 : ℝ) : EReal)

/-- What a step adds. -/
theorem step_apply {P : FVec Ideal S512x2048 .f32} {j : Fin 8} (hP : ∀ r y, P (ix2 r y) = ((p A (hd y) (qi j y) (ki t r) : ℝ) : EReal)) (s : St Ideal) :
    (∀ r w, (I.step I.kT j P s).1.1 (ix2 r w) = s.1.1 (ix2 r w) + ((addK A t r w j : ℝ) : EReal))
      ∧ (∀ r c, (I.step I.kT j P s).1.2 (ix2 r c) = s.1.2 (ix2 r c) + ((addV A t r c j : ℝ) : EReal))
      ∧ ∀ i w y, (I.step I.kT j P s).2 (ix3 i w y) = if i = j then s.2 (ix3 j w y) + ((addQ A t j w y : ℝ) : EReal) else s.2 (ix3 i w y) := by
  refine ⟨fun r w => ?_, fun r c => ?_, fun i w y => ?_⟩
  · show k0_pay121 s.1.1 (k0_pay3 (qAt I.Q j)) (I.ds P j) (ix2 r w) = _
    rw [pay121_apply, addK, ← coe_sum]
    simp only [ds_apply H hP, qAt_apply, H.Q, EReal.coe_mul]
  · show k0_pay120 s.1.2 (k0_pay4 (dAt I.D j)) (truncf .bf16 P bitsLt_bf16_f32) (ix2 r c) = _
    rw [pay120_apply, addV, ← coe_sum]
    have hP' : ∀ y, (truncf .bf16 P bitsLt_bf16_f32 : FVec Ideal S512x2048 .bf16) (ix2 r y) = ((p A (hd y) (qi j y) (ki t r) : ℝ) : EReal) := fun y => hP r y
    simp only [hP', dAt_apply, H.D, EReal.coe_mul]
  · show addRow s.2 j I.kT (I.ds P j) (ix3 i w y) = _
    rw [addRow_apply, pay379_apply, aAt_apply, addQ, ← coe_sum]
    simp only [ds_apply H hP, kT_apply, H.K, EReal.coe_mul]

theorem diag_is (a : Fin 8 → Fin 256 → Fin 2048 → ℝ) (X : Vec Ideal S8x256x2048 .f32) (hX : ∀ j w y, X (ix3 j w y) = ((a j w y : ℝ) : EReal)) :
    StIs A t a t.val (I.diag t X) := by
  obtain ⟨hk, hv, hq⟩ := step_apply H (masked_apply H) ((k0_pay245, k0_pay246), X)
  dsimp only at hk hv hq
  have z5 : ∀ i, (k0_pay245 : FVec Ideal S512x256 .f32) i = 0 := fun i => Ideal.ofBits_zero .f32
  have z6 : ∀ i, (k0_pay246 : FVec Ideal S512x128 .f32) i = 0 := fun i => Ideal.ofBits_zero .f32
  refine ⟨fun r w => ?_, fun r c => ?_, fun j w y => ?_⟩
  · rw [Ins.diag, hk, z5, zero_add, upTo_self t _ fun j h => addK_lt h r w]
  · rw [Ins.diag, hv, z6, zero_add, upTo_self t _ fun j h => addV_lt h r c]
  · rw [Ins.diag, hq]
    by_cases h : j = t
    · subst h
      rw [if_pos rfl, if_pos le_rfl, hX, EReal.coe_add]
    · rw [if_neg h, hX]
      by_cases h' : j.val ≤ t.val
      · rw [if_pos h', addQ_lt (lt_of_le_of_ne h' fun e => h (Fin.ext e)), add_zero]
      · rw [if_neg h', add_zero]

theorem loop_is (a : Fin 8 → Fin 256 → Fin 2048 → ℝ) (s : St Ideal) (hs : StIs A t a t.val s) (n : Nat) (hn : t.val + n < 8) :
    StIs A t a (t.val + n) (I.loop I.kT t.val s n) := by
  induction n with
  | zero => exact hs
  | succ n ih =>
    have ih := ih (by omega)
    have hj : (Fin.ofNat 8 (t.val + n + 1)) = ⟨t.val + n + 1, hn⟩ := Fin.ext (Nat.mod_eq_of_lt hn)
    rw [Ins.loop, hj]
    obtain ⟨hk, hv, hq⟩ := step_apply (j := ⟨t.val + n + 1, hn⟩) H (fun r y => pr_apply H _ r y (seen_of_lt (by show t.val < t.val + n + 1; omega) r y)) (I.loop I.kT t.val s n)
    refine ⟨fun r w => ?_, fun r c => ?_, fun j w y => ?_⟩
    · rw [hk, ih.dk, ← EReal.coe_add, ← upTo_succ]
      rfl
    · rw [hv, ih.dv, ← EReal.coe_add, ← upTo_succ]
      rfl
    · rw [hq, ih.dq, ih.dq]
      by_cases h : j = ⟨t.val + n + 1, hn⟩
      · subst h
        rw [if_pos rfl, if_neg (by show ¬t.val + n + 1 ≤ t.val + n; omega), if_pos (by show t.val + n + 1 ≤ t.val + (n + 1); omega), add_zero, EReal.coe_add]
      · rw [if_neg h]
        have : j.val ≠ t.val + n + 1 := fun e => h (Fin.ext e)
        by_cases h' : j.val ≤ t.val + n
        · rw [if_pos h', if_pos (by omega)]
        · rw [if_neg h', if_neg (by omega)]

theorem point_is (a : Fin 8 → Fin 256 → Fin 2048 → ℝ) (X : Vec Ideal S8x256x2048 .f32) (hX : ∀ j w y, X (ix3 j w y) = ((a j w y : ℝ) : EReal)) :
    StIs A t a 7 (I.point t X) := by
  have := loop_is H a _ (diag_is H a X hX) (7 - t.val) (by omega)
  rwa [show t.val + (7 - t.val) = 7 by omega] at this

end

end Cert.KernelIdeal.Value

end
-- ==== Proof.RefTerm.lean ====
/-
  The reference's results, stage by stage: the composed term that its run leaves, cut into the chunk of a position, the masked
  scores, their row maximum, the exponentials, their row sums, the probabilities, the gradient of the scores, and the two results.
-/
module

public import proofs.«01_k».proof.Proof.Gen.ReferenceIdeal.Run

@[expose] public section

noncomputable section

namespace Cert.ReferenceIdeal.Value

open Cert.ReferenceIdeal Cert.ReferenceIdeal.Gen Idealize.ShloMosaic Idealize.ShloMosaic.TcCoe

variable {F : FTy → Type} [FloatOps F]

/-- The chunk a position lies in. -/
def chunkT : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32))))
        (broadcastInDim S4096 ![] bcast_S_S4096 (constantI S_ 32 0#32))))
    (subi (Host.divsi (iotaInDim S4096 32 0) (broadcastInDim S4096 ![] bcast_S_S4096 (id (constantI S_ 32 64#32))))
      (broadcastInDim S4096 ![] bcast_S_S4096 (constantI S_ 32 1#32)))
    (Host.divsi (iotaInDim S4096 32 0) (broadcastInDim S4096 ![] bcast_S_S4096 (id (constantI S_ 32 64#32))))

/-- The block-causal mask, for every head. -/
def maskT : IVec S4x4096x4096 1 :=
  broadcastInDim S4x4096x4096 ![0, 1, 2] bcast_S1x4096x4096_S4x4096x4096_0_1_2
    (broadcastInDim S1x4096x4096 ![1, 2] bcast_S4096x4096_S1x4096x4096_1_2
      (cmpi .sle (broadcastInDim S4096x4096 ![0, 1] bcast_S1x4096_S4096x4096_0_1 (broadcastInDim S1x4096 ![1] bcast_S4096_S1x4096_1 chunkT))
        (broadcastInDim S4096x4096 ![0, 1] bcast_S4096x1_S4096x4096_0_1 (broadcastInDim S4096x1 ![0] bcast_S4096_S4096x1_0 chunkT))))

/-- The scores' scale. -/
def scaleT : FVec F S4x4096x4096 .f32 := broadcastInDim S4x4096x4096 ![] bcast_S_S4x4096x4096 (Host.rsqrt (constant S_ .f32 0x43400000#32))

/-- The masked scores. -/
def scoreT (a0 : FVec F S4096x4x128 .f32) (a1 : FVec F S4096x4x64 .f32) (a2 : FVec F S4096x128 .f32) (a3 : FVec F S4096x64 .f32) :
    FVec F S4x4096x4096 .f32 :=
  select maskT
    (mulf (addf (transpose S4x4096x4096 [2, 1, 0] (Host.dotGeneral dot_S4096x128_S4096x4x128_S4096x4096x4_1_2_0_01_n_n none a2 a0) transposes_S4096x4096x4_S4x4096x4096_2_1_0)
      (transpose S4x4096x4096 [2, 1, 0] (Host.dotGeneral dot_S4096x64_S4096x4x64_S4096x4096x4_1_2_0_01_n_n none a3 a1) transposes_S4096x4096x4_S4x4096x4096_2_1_0)) scaleT)
    (broadcastInDim S4x4096x4096 ![] bcast_S_S4x4096x4096 (id (constant S_ .f32 0xFF800000#32)))

/-- The rows' maximum. -/
def maxT (s : FVec F S4x4096x4096 .f32) : FVec F S4x4096 .f32 :=
  Host.reduce FloatOps.maximumf s (constant S_ .f32 0xFF800000#32) reducesTo_S4x4096x4096_S4x4096_d2 h_S_

/-- One number per row, spread over the row. -/
def spreadT (x : FVec F S4x4096 .f32) : FVec F S4x4096x4096 .f32 :=
  broadcastInDim S4x4096x4096 ![0, 1, 2] bcast_S4x4096x1_S4x4096x4096_0_1_2 (broadcastInDim S4x4096x1 ![0, 1] bcast_S4x4096_S4x4096x1_0_1 x)

/-- The exponentials. -/
def expT (s : FVec F S4x4096x4096 .f32) : FVec F S4x4096x4096 .f32 :=
  Host.exp (subf s (spreadT (maximumf (broadcastInDim S4x4096 ![] bcast_S_S4x4096 (constant S_ .f32 0xFF800000#32)) (maxT s))))

/-- A row's sum. -/
def sumT (e : FVec F S4x4096x4096 .f32) : FVec F S4x4096 .f32 :=
  Host.reduceAdd e (constant S_ .f32 0x00000000#32) reducesTo_S4x4096x4096_S4x4096_d2 h_S_

/-- The probabilities. -/
def probT (e : FVec F S4x4096x4096 .f32) : FVec F S4x4096x4096 .f32 := Host.divf e (spreadT (sumT e))

/-- The cotangents against the values. -/
def gT (a2 : FVec F S4096x128 .f32) (a4 : FVec F S4096x4x128 .f32) : FVec F S4x4096x4096 .f32 :=
  Host.dotGeneral dot_S128x4x4096_S4096x128_S4x4096x4096_0_1_12_0_n_n none (transpose S128x4x4096 [2, 1, 0] a4 transposes_S4096x4x128_S128x4x4096_2_1_0) a2

/-- What the normaliser's gradient adds to every entry of a row. -/
def pullT (g e : FVec F S4x4096x4096 .f32) : FVec F S4x4096 .f32 :=
  Host.reduceAdd (Host.negf (shapeCast S4x4096x1 (sumT (mulf (mulf g (broadcastInDim S4x4096x4096 ![0, 1, 2] bcast_S4x4096x1_S4x4096x4096_0_1_2
      (Host.divf (broadcastInDim S4x4096x1 ![] bcast_S_S4x4096x1 (constant S_ .f32 0x3F800000#32))
        (mulf (broadcastInDim S4x4096x1 ![0, 1] bcast_S4x4096_S4x4096x1_0_1 (sumT e)) (broadcastInDim S4x4096x1 ![0, 1] bcast_S4x4096_S4x4096x1_0_1 (sumT e)))))) e))
      shapeCasts_S4x4096_S4x4096x1)) (constant S_ .f32 0x00000000#32) reducesTo_S4x4096x1_S4x4096_d2 h_S_

/-- The scores' gradient. -/
def dsT (g e : FVec F S4x4096x4096 .f32) : FVec F S4x4096x4096 .f32 :=
  mulf (select maskT (mulf (addf (Host.divf g (spreadT (sumT e))) (broadcastInDim S4x4096x4096 ![0, 1] bcast_S4x4096_S4x4096x4096_0_1 (pullT g e))) e)
    (broadcastInDim S4x4096x4096 ![] bcast_S_S4x4096x4096 (constant S_ .f32 0x00000000#32))) scaleT

/-- The keys' gradient. -/
def dkvT (a0 : FVec F S4096x4x128 .f32) (a1 : FVec F S4096x4x64 .f32) (a4 : FVec F S4096x4x128 .f32) (p ds : FVec F S4x4096x4096 .f32) : FVec F S4096x256 .f32 :=
  concatenate S4096x256 1 [⟨S4096x128, (addf (transpose S4096x128 [1, 0] (Host.dotGeneral dot_S128x4x4096_S4x4096x4096_S128x4096_12_01_0_2_n_n none
        (transpose S128x4x4096 [2, 1, 0] a4 transposes_S4096x4x128_S128x4x4096_2_1_0) p) transposes_S128x4096_S4096x128_1_0)
      (Host.dotGeneral dot_S4096x4096x4_S4096x4x128_S4096x128_12_01_0_2_n_n none (transpose S4096x4096x4 [2, 1, 0] ds transposes_S4x4096x4096_S4096x4096x4_2_1_0) a0) : FVec F S4096x128 .f32)⟩,
    ⟨S4096x64, (Host.dotGeneral dot_S4096x4096x4_S4096x4x64_S4096x64_12_01_0_2_n_n none (transpose S4096x4096x4 [2, 1, 0] ds transposes_S4x4096x4096_S4096x4096x4_2_1_0) a1 : FVec F S4096x64 .f32)⟩,
    ⟨S4096x64, (broadcastInDim S4096x64 ![] bcast_S_S4096x64 (constant S_ .f32 0x00000000#32) : FVec F S4096x64 .f32)⟩]
    concatenates_S4096x128_S4096x64_S4096x64_S4096x256_d1

/-- The queries' gradient. -/
def dqT (a2 : FVec F S4096x128 .f32) (a3 : FVec F S4096x64 .f32) (ds : FVec F S4x4096x4096 .f32) : FVec F S4096x4x256 .f32 :=
  concatenate S4096x4x256 2 [⟨S4096x4x128, (Host.dotGeneral dot_S4096x4096x4_S4096x128_S4096x4x128_0_0_12_1_n_n none (transpose S4096x4096x4 [2, 1, 0] ds transposes_S4x4096x4096_S4096x4096x4_2_1_0) a2 : FVec F S4096x4x128 .f32)⟩,
    ⟨S4096x4x64, (Host.dotGeneral dot_S4096x4096x4_S4096x64_S4096x4x64_0_0_12_1_n_n none (transpose S4096x4096x4 [2, 1, 0] ds transposes_S4x4096x4096_S4096x4096x4_2_1_0) a3 : FVec F S4096x4x64 .f32)⟩,
    ⟨S4096x4x64, (broadcastInDim S4096x4x64 ![] bcast_S_S4096x4x64 (constant S_ .f32 0x00000000#32) : FVec F S4096x4x64 .f32)⟩]
    concatenates_S4096x4x128_S4096x4x64_S4096x4x64_S4096x4x256_d2

/-- The queries' gradient as the call lays it out. -/
def dqtT (x : FVec F S4096x4x256 .f32) : FVec F S8x256x2048 .bf16 :=
  truncf .bf16 (shapeCast S8x256x2048 (transpose S8x256x4x512 [0, 3, 2, 1] (shapeCast S8x512x4x256 x shapeCasts_S4096x4x256_S8x512x4x256)
    transposes_S8x512x4x256_S8x256x4x512_0_3_2_1) shapeCasts_S8x256x4x512_S8x256x2048) bitsLt_bf16_f32

variable (m : (ℓ : Loc nD τ sig) → Buf (Elt F) ℓ) (c : Dev nD)

/-- The exponentials of the arguments in memory. -/
def eAt : FVec F S4x4096x4096 .f32 :=
  expT (scoreT (m ((c.tc : Thread nD τ).loc main_arg0)) (m ((c.tc : Thread nD τ).loc main_arg1)) (m ((c.tc : Thread nD τ).loc main_arg2)) (m ((c.tc : Thread nD τ).loc main_arg3)))

def dsAt : FVec F S4x4096x4096 .f32 :=
  dsT (gT (m ((c.tc : Thread nD τ).loc main_arg2)) (m ((c.tc : Thread nD τ).loc main_arg4))) (eAt m c)

set_option maxRecDepth 8192 in
theorem out0_eq : res_out0 m c
    = dkvT (m ((c.tc : Thread nD τ).loc main_arg0)) (m ((c.tc : Thread nD τ).loc main_arg1)) (m ((c.tc : Thread nD τ).loc main_arg4)) (probT (eAt m c)) (dsAt m c) := by
  unfold dsAt dsT pullT gT probT sumT eAt expT spreadT maxT scoreT scaleT maskT chunkT dkvT res_out0 res_main_v74
  rfl

set_option maxRecDepth 8192 in
theorem out1_eq : res_out1 m c
    = dqtT (dqT (m ((c.tc : Thread nD τ).loc main_arg2)) (m ((c.tc : Thread nD τ).loc main_arg3)) (dsAt m c)) := by
  unfold dsAt dsT pullT gT sumT eAt expT spreadT maxT scoreT scaleT maskT chunkT dqtT dqT res_out1 res_main_v80
  rfl

end Cert.ReferenceIdeal.Value

end
-- ==== Proof.RefVal.lean ====
/-
  The reference's stages over the extended reals, at an index, of arguments that are finite: each is the real that
  the gradient of block-causal softmax attention is made of.
-/
module

public import proofs.«01_k».proof.Proof.RefTerm
public import proofs.«01_k».proof.Proof.Attn
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Cert.Attn

/-! ## Constants and the mask -/

theorem ofBits_192 : Ideal.ofBits .f32 0x43400000#32 = ((192 : ℝ) : EReal) := by
  simp [Ideal.ofBits, Ideal.ieee, -EReal.coe_mul]; norm_num
theorem ofBits_bot : Ideal.ofBits .f32 0xFF800000#32 = ⊥ := by
  simp [Ideal.ofBits, Ideal.ieee]

theorem rsqrt_192 : Ideal.rsqrt ((192 : ℝ) : EReal) = ((scale : ℝ) : EReal) := by
  show (if (192 : ℝ) < 0 then ⊥ else if (192 : ℝ) = 0 then ⊤ else (((Real.sqrt 192)⁻¹ : ℝ) : EReal)) = _
  rw [if_neg (by norm_num), if_neg (by norm_num), scale]

theorem exp_coe (x : ℝ) : Ideal.exp (x : EReal) = ((Real.exp x : ℝ) : EReal) := rfl
theorem exp_bot : Ideal.exp ⊥ = 0 := rfl

theorem div_coe' (x y : ℝ) (h : y ≠ 0) : Ideal.div (x : EReal) (y : EReal) = ((x / y : ℝ) : EReal) := by
  rw [Ideal.div, if_neg (by exact_mod_cast h), ← EReal.coe_inv, ← EReal.coe_mul, div_eq_mul_inv]

theorem select_ofBool {α : Type} (P : Prop) [Decidable P] (x y : α) : Scalar.select (BitVec.ofBool (decide P)) x y = if P then x else y := by
  by_cases h : P <;> simp [Scalar.select, h]

/-- The chunk of position `q`, as a word. -/
theorem chunkT_apply (q : Fin 4096) : chunkT (ix1 q) = BitVec.ofNat 32 (q.val / 64) := by
  revert q
  decide +kernel

theorem maskT_apply (h : Fin 4) (q k : Fin 4096) : maskT (ix3 h q k) = BitVec.ofBool (decide (seen q k)) := by
  pointwise [maskT]
  rw [chunkT_apply, chunkT_apply]
  have hk : (BitVec.ofNat 32 (k.val / 64)).toInt = (k.val / 64 : ℕ) := by
    rw [BitVec.toInt_eq_toNat_of_lt (by simp; omega)]; simp; omega
  have hq : (BitVec.ofNat 32 (q.val / 64)).toInt = (q.val / 64 : ℕ) := by
    rw [BitVec.toInt_eq_toNat_of_lt (by simp; omega)]; simp; omega
  simp only [IntOp.cmpi, BitVec.sle, hk, hq, seen, Nat.cast_le]
  congr

theorem scaleT_apply (i : S4x4096x4096.Idx) : scaleT (F := Ideal) i = ((scale : ℝ) : EReal) := by
  pointwise [scaleT]
  rw [ofBits_192, rsqrt_192]

/-! ## Stages of any operand -/

section

variable (e g : FVec Ideal S4x4096x4096 .f32) (h : Fin 4) (q k : Fin 4096)

theorem spreadT_apply (x : FVec Ideal S4x4096 .f32) : spreadT x (ix3 h q k) = x (ix2 h q) := by
  pointwise [spreadT]

theorem sumT_apply : sumT e (ix2 h q) = ∑ k, e (ix3 h q k) := by
  pointwise [sumT]

theorem hostExp_apply : Host.exp e (ix3 h q k) = Ideal.exp (e (ix3 h q k)) := by
  pointwise

theorem max_bot_apply (M : FVec Ideal S4x4096 .f32) :
    maximumf (broadcastInDim S4x4096 ![] bcast_S_S4x4096 (constant S_ .f32 0xFF800000#32)) M (ix2 h q) = M (ix2 h q) := by
  have hb : (broadcastInDim S4x4096 ![] bcast_S_S4x4096 (constant S_ .f32 0xFF800000#32) : FVec Ideal S4x4096 .f32) (ix2 h q) = ⊥ := ofBits_bot
  generalize (broadcastInDim S4x4096 ![] bcast_S_S4x4096 (constant S_ .f32 0xFF800000#32) : FVec Ideal S4x4096 .f32) = N at hb ⊢
  show max (N (ix2 h q)) (M (ix2 h q)) = M (ix2 h q)
  rw [hb]
  exact max_eq_right bot_le

theorem expT_of : expT e (ix3 h q k) = Ideal.exp (e (ix3 h q k) - maxT e (ix2 h q)) := by
  rw [expT, ← max_bot_apply h q (maxT e)]
  generalize maximumf _ (maxT e) = M
  rw [← spreadT_apply h q k M]
  generalize spreadT M = M
  pointwise

theorem maxT_of : maxT e (ix2 h q) = Finset.univ.fold max ⊥ fun k => e (ix3 h q k) := by
  pointwise [maxT]
  rw [ofBits_bot]

theorem probT_of : probT e (ix3 h q k) = Ideal.div (e (ix3 h q k)) (sumT e (ix2 h q)) := by
  rw [← spreadT_apply h q k (sumT e)]
  pointwise [probT]

theorem pullT_of : pullT g e (ix2 h q)
    = -∑ k, g (ix3 h q k) * Ideal.div 1 (sumT e (ix2 h q) * sumT e (ix2 h q)) * e (ix3 h q k) := by
  pointwise [pullT]
  rw [Finset.univ_unique, Finset.sum_singleton, sumT_apply]
  pointwise

theorem dsT_of : dsT g e (ix3 h q k)
    = Scalar.select (maskT (ix3 h q k)) ((Ideal.div (g (ix3 h q k)) (sumT e (ix2 h q)) + pullT g e (ix2 h q)) * e (ix3 h q k)) 0 * scaleT (ix3 h q k) := by
  rw [← spreadT_apply h q k (sumT e)]
  pointwise [dsT]

end

/-! ## Of finite arguments -/

/-- Arguments that are the reals `A`. -/
structure Holds (A : Args) (a0 : FVec Ideal S4096x4x128 .f32) (a1 : FVec Ideal S4096x4x64 .f32) (a2 : FVec Ideal S4096x128 .f32)
    (a3 : FVec Ideal S4096x64 .f32) (a4 : FVec Ideal S4096x4x128 .f32) : Prop where
  q : ∀ q h c, a0 (ix3 q h c) = ((A.q q h c : ℝ) : EReal)
  qr : ∀ q h c, a1 (ix3 q h c) = ((A.qr q h c : ℝ) : EReal)
  k : ∀ k c, a2 (ix2 k c) = ((A.k k c : ℝ) : EReal)
  kr : ∀ k c, a3 (ix2 k c) = ((A.kr k c : ℝ) : EReal)
  ct : ∀ q h c, a4 (ix3 q h c) = ((A.ct q h c : ℝ) : EReal)

variable {A : Args} {a0 : FVec Ideal S4096x4x128 .f32} {a1 : FVec Ideal S4096x4x64 .f32} {a2 : FVec Ideal S4096x128 .f32}
  {a3 : FVec Ideal S4096x64 .f32} {a4 : FVec Ideal S4096x4x128 .f32} (H : Holds A a0 a1 a2 a3 a4)
include H

theorem scoreT_apply (h : Fin 4) (q k : Fin 4096) : scoreT a0 a1 a2 a3 (ix3 h q k) = if seen q k then ((s A h q k : ℝ) : EReal) else ⊥ := by
  have hb : (id (constant S_ .f32 0xFF800000#32) : FVec Ideal S_ .f32) ix0 = ⊥ := ofBits_bot
  pointwise [scoreT]
  rw [hb, maskT_apply, select_ofBool, scaleT_apply]
  simp only [H.q, H.qr, H.k, H.kr, ← EReal.coe_mul, coe_sum, ← EReal.coe_add, s, raw]

theorem maxT_apply (h : Fin 4) (q : Fin 4096) : maxT (scoreT a0 a1 a2 a3) (ix2 h q) = ((top A h q : ℝ) : EReal) := by
  rw [maxT_of]
  simp only [scoreT_apply H]
  refine le_antisymm ((Finset.fold_max_le _).2 ⟨bot_le, fun k _ => ?_⟩) ?_
  · split
    · exact EReal.coe_le_coe_iff.2 (Finset.le_sup' (s A h q) (Finset.mem_filter.2 ⟨Finset.mem_univ _, ‹_›⟩))
    · exact bot_le
  · obtain ⟨k, hk, e⟩ := Finset.exists_mem_eq_sup' (s := Finset.univ.filter (seen q)) ⟨q, by simp [seen]⟩ (s A h q)
    refine (Finset.le_fold_max _).2 (.inr ⟨k, Finset.mem_univ _, ?_⟩)
    rw [if_pos (Finset.mem_filter.1 hk).2, top, e]

theorem expT_apply (h : Fin 4) (q k : Fin 4096) : expT (scoreT a0 a1 a2 a3) (ix3 h q k) = ((e A h q k : ℝ) : EReal) := by
  rw [expT_of, maxT_apply H, scoreT_apply H, e]
  split
  · rw [← EReal.coe_sub, exp_coe]
  · rw [EReal.bot_sub, exp_bot, EReal.coe_zero]

theorem sumT_exp (h : Fin 4) (q : Fin 4096) : sumT (expT (scoreT a0 a1 a2 a3)) (ix2 h q) = ((l A h q : ℝ) : EReal) := by
  rw [sumT_apply]
  simp only [expT_apply H, coe_sum, l]

theorem probT_apply (h : Fin 4) (q k : Fin 4096) : probT (expT (scoreT a0 a1 a2 a3)) (ix3 h q k) = ((p A h q k : ℝ) : EReal) := by
  rw [probT_of, expT_apply H, sumT_exp H, div_coe' _ _ (l_ne A h q), p]

theorem gT_apply (h : Fin 4) (q k : Fin 4096) : gT a2 a4 (ix3 h q k) = ((g A h q k : ℝ) : EReal) := by
  pointwise [gT]
  simp only [H.k, H.ct, ← EReal.coe_mul, coe_sum, g]

theorem dsT_apply (h : Fin 4) (q k : Fin 4096) : dsT (gT a2 a4) (expT (scoreT a0 a1 a2 a3)) (ix3 h q k) = ((ds A h q k : ℝ) : EReal) := by
  have hl := l_ne A h q
  rw [dsT_of, maskT_apply, select_ofBool, scaleT_apply, pullT_of, sumT_exp H]
  simp only [gT_apply H, expT_apply H]
  rw [← EReal.coe_mul, show (1 : EReal) = ((1 : ℝ) : EReal) from rfl, div_coe' _ _ (mul_ne_zero hl hl), div_coe' _ _ hl]
  simp only [← EReal.coe_mul, coe_sum, ← EReal.coe_neg, ← EReal.coe_add]
  rw [← ds_quotient]
  split
  · rw [← EReal.coe_mul]
  · rw [← EReal.coe_zero, ← EReal.coe_mul]

/-! ## The results -/

/-- The keys' gradient, at a column. -/
def dkv (A : Args) (k : Fin 4096) (w : Fin 256) : ℝ :=
  (∑ h, ∑ q, ds A h q k * qp A q h w) + if H : w.val < 128 then ∑ h, ∑ q, p A h q k * A.ct q h ⟨w.val, H⟩ else 0

/-- The queries' gradient, at a column. -/
def dq (A : Args) (q : Fin 4096) (h : Fin 4) (w : Fin 256) : ℝ := ∑ k, ds A h q k * kp A k w

theorem dkvT_apply (k : Fin 4096) (w : Fin 256) :
    dkvT a0 a1 a4 (probT (expT (scoreT a0 a1 a2 a3))) (dsT (gT a2 a4) (expT (scoreT a0 a1 a2 a3))) (ix2 k w) = ((dkv A k w : ℝ) : EReal) := by
  have hp := probT_apply H
  have hd := dsT_apply H
  generalize probT (expT (scoreT a0 a1 a2 a3)) = P at hp ⊢
  generalize dsT (gT a2 a4) (expT (scoreT a0 a1 a2 a3)) = D at hd ⊢
  pointwise [dkvT]
  simp only [hp, hd, H.q, H.qr, H.ct, ← EReal.coe_mul, coe_sum, ← EReal.coe_add]
  unfold dkv qp
  split
  · rw [EReal.coe_eq_coe_iff, add_comm]
    refine congrArg₂ (· + ·) ?_ ?_
    · rw [Finset.sum_comm]
    · exact Finset.sum_congr rfl fun h _ => Finset.sum_congr rfl fun q _ => mul_comm (A.ct q h _) (p A h q k)
  · split
    · rw [EReal.coe_eq_coe_iff, add_zero, Finset.sum_comm]
    · simp

theorem dqT_apply (q : Fin 4096) (h : Fin 4) (w : Fin 256) :
    dqT a2 a3 (dsT (gT a2 a4) (expT (scoreT a0 a1 a2 a3))) (ix3 q h w) = ((dq A q h w : ℝ) : EReal) := by
  have hd := dsT_apply H
  generalize dsT (gT a2 a4) (expT (scoreT a0 a1 a2 a3)) = D at hd ⊢
  pointwise [dqT]
  simp only [hd, H.k, H.kr, ← EReal.coe_mul, coe_sum]
  unfold dq kp
  split
  · rfl
  · split
    · rfl
    · simp

omit H in
theorem dqtT_apply (x : FVec Ideal S4096x4x256 .f32) (j : Fin 8) (w : Fin 256) (y : Fin 2048) : dqtT x (ix3 j w y) = x (ix3 (qi j y) (hd y) w) := by
  pointwise [dqtT]
  refine congrArg (fun i => x (ix3 i _ w)) (Fin.ext ?_)
  show j.val * 512 + y.val % 512 = 512 * j.val + y.val % 512
  omega

end Cert.ReferenceIdeal.Value

end
-- ==== Proof.HostVal.lean ====
/-
  The arrays the host prepares for the kernel, over the extended reals, at an index, of arguments that are finite: the queries and
  the cotangents by tile and head, the keys, and the two row statistics.
-/
module

public import proofs.«01_k».proof.Proof.Gen.KernelIdeal.Frame
public import proofs.«01_k».proof.Proof.RefVal
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Cert.Attn
open Cert.ReferenceIdeal.Value (scoreT maxT spreadT sumT Holds scoreT_apply maxT_apply spreadT_apply sumT_apply exp_coe exp_bot div_coe')

/-! ## The stages -/

/-- The exponentials, less the rows' maximum. -/
def expK (s : FVec Ideal S4x4096x4096 .f32) : FVec Ideal S4x4096x4096 .f32 := Host.exp (subf s (spreadT (maxT s)))

/-- The rows' log-sums. -/
def lseK (s e : FVec Ideal S4x4096x4096 .f32) : FVec Ideal S4x4096 .f32 :=
  shapeCast S4x4096 (addf (broadcastInDim S4x4096x1 ![0, 1] bcast_S4x4096_S4x4096x1_0_1 (maxT s))
    (Host.log (broadcastInDim S4x4096x1 ![0, 1] bcast_S4x4096_S4x4096x1_0_1 (sumT e)))) shapeCasts_S4x4096x1_S4x4096

/-- The probabilities. -/
def probK (e : FVec Ideal S4x4096x4096 .f32) : FVec Ideal S4x4096x4096 .f32 := Host.divf e (spreadT (sumT e))

/-- The cotangents against the outputs. -/
def deltaK (a2 : FVec Ideal S4096x128 .f32) (a4 : FVec Ideal S4096x4x128 .f32) (p : FVec Ideal S4x4096x4096 .f32) : FVec Ideal S4x4096 .f32 :=
  transpose S4x4096 [1, 0] (Host.reduceAdd (mulf a4 (transpose S4096x4x128 [2, 1, 0]
    (Host.dotGeneral dot_S4096x128_S4x4096x4096_S128x4x4096_0_2_1_01_n_n none a2 p) transposes_S128x4x4096_S4096x4x128_2_1_0))
    (constant S_ .f32 0x00000000#32) reducesTo_S4096x4x128_S4096x4_d2 h_S_) transposes_S4096x4_S4x4096_1_0

/-- A row statistic, by tile, spread over eight rows. -/
def statK (x : FVec Ideal S4x4096 .f32) : FVec Ideal S8x8x2048 .f32 :=
  broadcastInDim S8x8x2048 ![0, 1, 2] bcast_S8x1x2048_S8x8x2048_0_1_2 (shapeCast S8x1x2048
    (transpose S8x4x512 [1, 0, 2] (shapeCast S4x8x512 x shapeCasts_S4x4096_S4x8x512) transposes_S4x8x512_S8x4x512_1_0_2) shapeCasts_S8x4x512_S8x1x2048)

/-- The queries, padded to 256 columns. -/
def padK (a0 : FVec Ideal S4096x4x128 .f32) (a1 : FVec Ideal S4096x4x64 .f32) : FVec Ideal S4096x4x256 .f32 :=
  concatenate S4096x4x256 2 [⟨S4096x4x128, a0⟩, ⟨S4096x4x64, a1⟩, ⟨S4096x4x64, broadcastInDim S4096x4x64 ![] bcast_S_S4096x4x64 (constant S_ .f32 0x00000000#32)⟩]
    concatenates_S4096x4x128_S4096x4x64_S4096x4x64_S4096x4x256_d2

/-- The padded queries, by tile and head. -/
def queriesK (x : FVec Ideal S4096x4x256 .f32) : FVec Ideal S8x2048x256 .bf16 :=
  truncf .bf16 (shapeCast S8x2048x256 (transpose S8x4x512x256 [0, 2, 1, 3] (shapeCast S8x512x4x256 x shapeCasts_S4096x4x256_S8x512x4x256)
    transposes_S8x512x4x256_S8x4x512x256_0_2_1_3) shapeCasts_S8x4x512x256_S8x2048x256) bitsLt_bf16_f32

/-- The keys, padded to 256 columns. -/
def keysK (a2 : FVec Ideal S4096x128 .f32) (a3 : FVec Ideal S4096x64 .f32) : FVec Ideal S4096x256 .bf16 :=
  truncf .bf16 (concatenate S4096x256 1 [⟨S4096x128, a2⟩, ⟨S4096x64, a3⟩, ⟨S4096x64, broadcastInDim S4096x64 ![] bcast_S_S4096x64 (constant S_ .f32 0x00000000#32)⟩]
      concatenates_S4096x128_S4096x64_S4096x64_S4096x256_d1) bitsLt_bf16_f32

/-- The cotangents, by tile and head. -/
def cotK (a4 : FVec Ideal S4096x4x128 .f32) : FVec Ideal S8x2048x128 .bf16 :=
  truncf .bf16 (shapeCast S8x2048x128 (transpose S8x4x512x128 [0, 2, 1, 3] (shapeCast S8x512x4x128 a4 shapeCasts_S4096x4x128_S8x512x4x128)
    transposes_S8x512x4x128_S8x4x512x128_0_2_1_3) shapeCasts_S8x4x512x128_S8x2048x128) bitsLt_bf16_f32

/-! ## At an index -/

theorem qi_eq (j : Fin 8) (y : Fin 2048) : (⟨j.val * 512 + y.val % 512, by omega⟩ : Fin 4096) = qi j y :=
  Fin.ext (show j.val * 512 + y.val % 512 = 512 * j.val + y.val % 512 by omega)

theorem statK_apply (x : FVec Ideal S4x4096 .f32) (j a : Fin 8) (y : Fin 2048) : statK x (ix3 j a y) = x (ix2 (hd y) (qi j y)) := by
  pointwise [statK]
  exact congrArg x (congrArg₂ ix2 rfl (qi_eq j y))

theorem queriesK_of (x : FVec Ideal S4096x4x256 .f32) (j : Fin 8) (y : Fin 2048) (w : Fin 256) : queriesK x (ix3 j y w) = x (ix3 (qi j y) (hd y) w) := by
  rw [← qi_eq]
  pointwise [queriesK]
  rfl

theorem expK_of (s : FVec Ideal S4x4096x4096 .f32) (h : Fin 4) (q k : Fin 4096) : expK s (ix3 h q k) = Ideal.exp (s (ix3 h q k) - maxT s (ix2 h q)) := by
  rw [expK]
  generalize maxT s = M
  rw [← spreadT_apply h q k M]
  generalize spreadT M = M
  pointwise

theorem lseK_of (s e : FVec Ideal S4x4096x4096 .f32) (h : Fin 4) (q : Fin 4096) : lseK s e (ix2 h q) = maxT s (ix2 h q) + Ideal.log (sumT e (ix2 h q)) := by
  have hb : ∀ x : FVec Ideal S4x4096 .f32, broadcastInDim S4x4096x1 ![0, 1] bcast_S4x4096_S4x4096x1_0_1 x (ix3 h q 0) = x (ix2 h q) := fun x => by
    pointwise
  have hs : ∀ x : FVec Ideal S4x4096x1 .f32, shapeCast S4x4096 x shapeCasts_S4x4096x1_S4x4096 (ix2 h q) = x (ix3 h q 0) := fun x => by
    pointwise
  have ha : ∀ x y : FVec Ideal S4x4096x1 .f32, addf x (Host.log y) (ix3 h q 0) = x (ix3 h q 0) + Ideal.log (y (ix3 h q 0)) := fun x y => rfl
  rw [lseK, hs, ha, hb, hb]

theorem probK_of (e : FVec Ideal S4x4096x4096 .f32) (h : Fin 4) (q k : Fin 4096) : probK e (ix3 h q k) = Ideal.div (e (ix3 h q k)) (sumT e (ix2 h q)) := by
  rw [← spreadT_apply h q k (sumT e)]
  pointwise [probK]

theorem deltaK_of (a2 : FVec Ideal S4096x128 .f32) (a4 : FVec Ideal S4096x4x128 .f32) (p : FVec Ideal S4x4096x4096 .f32) (h : Fin 4) (q : Fin 4096) :
    deltaK a2 a4 p (ix2 h q) = ∑ c : Fin 128, a4 (ix3 q h c) * ∑ k : Fin 4096, a2 (ix2 k c) * p (ix3 h q k) := by
  pointwise [deltaK]

section

variable {A : Args} {a0 : FVec Ideal S4096x4x128 .f32} {a1 : FVec Ideal S4096x4x64 .f32} {a2 : FVec Ideal S4096x128 .f32}
  {a3 : FVec Ideal S4096x64 .f32} {a4 : FVec Ideal S4096x4x128 .f32} (H : Holds A a0 a1 a2 a3 a4)
include H

theorem expK_apply (h : Fin 4) (q k : Fin 4096) : expK (scoreT a0 a1 a2 a3) (ix3 h q k) = ((e A h q k : ℝ) : EReal) := by
  rw [expK_of, maxT_apply H, scoreT_apply H, e]
  split
  · rw [← EReal.coe_sub, exp_coe]
  · rw [EReal.bot_sub, exp_bot, EReal.coe_zero]

theorem sumK_apply (h : Fin 4) (q : Fin 4096) : sumT (expK (scoreT a0 a1 a2 a3)) (ix2 h q) = ((l A h q : ℝ) : EReal) := by
  rw [sumT_apply]
  simp only [expK_apply H, coe_sum, l]

theorem lseK_apply (h : Fin 4) (q : Fin 4096) :
    lseK (scoreT a0 a1 a2 a3) (expK (scoreT a0 a1 a2 a3)) (ix2 h q) = ((top A h q + Real.log (l A h q) : ℝ) : EReal) := by
  rw [lseK_of, maxT_apply H, sumK_apply H, EReal.coe_add]
  congr 1
  show (if l A h q ≤ 0 then ⊥ else ((Real.log (l A h q) : ℝ) : EReal)) = _
  rw [if_neg (l_pos A h q).not_ge]

theorem deltaK_apply (h : Fin 4) (q : Fin 4096) :
    deltaK a2 a4 (probK (expK (scoreT a0 a1 a2 a3))) (ix2 h q) = ((δ A h q : ℝ) : EReal) := by
  have hp : ∀ k, probK (expK (scoreT a0 a1 a2 a3)) (ix3 h q k) = ((p A h q k : ℝ) : EReal) := fun k => by
    rw [probK_of, expK_apply H, sumK_apply H, div_coe' _ _ (l_ne A h q), p]
  rw [deltaK_of]
  simp only [hp, H.k, H.ct, ← EReal.coe_mul, coe_sum, δ_output]

theorem padK_apply (q : Fin 4096) (h : Fin 4) (w : Fin 256) : padK a0 a1 (ix3 q h w) = ((qp A q h w : ℝ) : EReal) := by
  pointwise [padK]
  unfold qp
  split
  · rw [H.q]
  · split
    · rw [H.qr]
    · rfl

theorem queriesK_apply (j : Fin 8) (y : Fin 2048) (w : Fin 256) : queriesK (padK a0 a1) (ix3 j y w) = ((qp A (qi j y) (hd y) w : ℝ) : EReal) := by
  rw [← padK_apply H]
  exact queriesK_of _ j y w

theorem keysK_apply (k : Fin 4096) (w : Fin 256) : keysK a2 a3 (ix2 k w) = ((kp A k w : ℝ) : EReal) := by
  pointwise [keysK]
  unfold kp
  split
  · rw [H.k]
  · split
    · rw [H.kr]
    · rfl

theorem cotK_apply (j : Fin 8) (y : Fin 2048) (c : Fin 128) : cotK a4 (ix3 j y c) = ((A.ct (qi j y) (hd y) c : ℝ) : EReal) := by
  pointwise [cotK]
  rw [H.ct, qi_eq]
  rfl

end

/-! ## The buffers -/

section
variable (m : (ℓ : Loc nD τ sig) → Buf (Elt Ideal) ℓ) (c : Dev nD)

theorem after_append (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op l ih => exact ih _

/-- The host's operations, cut before `n` and after `n + k` of the last list. -/
theorem V_cut (n k : Nat) (b : Ref sig .tc) : V m c b
    = StableHlo.after ((hostOps0_4.drop n).drop k) (StableHlo.after ((hostOps0_4.drop n).take k)
      (StableHlo.after (List.flatten [hostOps0, hostOps0_1, hostOps0_2, hostOps0_3, hostOps0_4.take n]) fun b => m (c, b))) (Proc.devRef .tc b) := by
  rw [← after_append, ← after_append, List.take_append_drop]
  have : ∀ l₀ l₁ l₂ l₃ l₄ l₅ : List (HloOp τ sig (Elt Ideal)), List.flatten [l₀, l₁, l₂, l₃, l₄] ++ l₅ = List.flatten [l₀, l₁, l₂, l₃, l₄ ++ l₅] := by
    intros; simp
  rw [this, List.take_append_drop]

theorem queries_of (R : Valuation τ sig (Elt Ideal)) (x0 : FVec Ideal S4096x4x128 .f32) (x1 : FVec Ideal S4096x4x64 .f32)
    (h0 : R (Proc.devRef .tc main_arg0) = x0) (h1 : R (Proc.devRef .tc main_arg1) = x1)
    (h2 : R (Proc.devRef .tc main_v33) = broadcastInDim S4096x4x64 ![] bcast_S_S4096x4x64 (constant (F := Ideal) S_ .f32 0x00000000#32)) :
    queriesK (concatenate S4096x4x256 2 [⟨S4096x4x128, R (Proc.devRef .tc main_arg0)⟩, ⟨S4096x4x64, R (Proc.devRef .tc main_arg1)⟩, ⟨S4096x4x64, R (Proc.devRef .tc main_v33)⟩]
      concatenates_S4096x4x128_S4096x4x64_S4096x4x64_S4096x4x256_d2) = queriesK (padK x0 x1) := by
  subst h0 h1
  rw [padK, ← h2]

theorem mid38 (U : Valuation τ sig (Elt Ideal)) : StableHlo.after ((hostOps0_4.drop 19).take 7) U (Proc.devRef .tc main_v38)
    = queriesK (padK (U (Proc.devRef .tc main_arg0)) (U (Proc.devRef .tc main_arg1))) := by
  simp only [hostOps0_4, List.drop_succ_cons, List.take_succ_cons, List.drop_zero, List.take_zero, StableHlo.after_cons, StableHlo.after_nil]
  rw [StableHlo.unary_result, StableHlo.reshape_result, StableHlo.unary_result, StableHlo.reshape_result, StableHlo.nary_result]
  refine queries_of _ _ _ ?_ ?_ ?_
  · exact (StableHlo.unary_result_ne _ _ _ _ _ _ (by decide)).trans (StableHlo.nullary_result_ne _ _ _ _ (by decide))
  · exact (StableHlo.unary_result_ne _ _ _ _ _ _ (by decide)).trans (StableHlo.nullary_result_ne _ _ _ _ (by decide))
  · rw [StableHlo.unary_result, StableHlo.nullary_result]

theorem keys_of (R : Valuation τ sig (Elt Ideal)) (x0 : FVec Ideal S4096x128 .f32) (x1 : FVec Ideal S4096x64 .f32)
    (h0 : R (Proc.devRef .tc main_arg2) = x0) (h1 : R (Proc.devRef .tc main_arg3) = x1)
    (h2 : R (Proc.devRef .tc main_v39) = broadcastInDim S4096x64 ![] bcast_S_S4096x64 (constant (F := Ideal) S_ .f32 0x00000000#32)) :
    truncf .bf16 (concatenate S4096x256 1 [⟨S4096x128, R (Proc.devRef .tc main_arg2)⟩, ⟨S4096x64, R (Proc.devRef .tc main_arg3)⟩, ⟨S4096x64, R (Proc.devRef .tc main_v39)⟩]
      concatenates_S4096x128_S4096x64_S4096x64_S4096x256_d1 : FVec Ideal S4096x256 .f32) bitsLt_bf16_f32 = keysK x0 x1 := by
  subst h0 h1
  rw [keysK, ← h2]

theorem mid41 (U : Valuation τ sig (Elt Ideal)) : StableHlo.after ((hostOps0_4.drop 26).take 4) U (Proc.devRef .tc main_v41)
    = keysK (U (Proc.devRef .tc main_arg2)) (U (Proc.devRef .tc main_arg3)) := by
  simp only [hostOps0_4, List.drop_succ_cons, List.take_succ_cons, List.drop_zero, List.take_zero, StableHlo.after_cons, StableHlo.after_nil]
  rw [StableHlo.unary_result, StableHlo.nary_result]
  refine keys_of _ _ _ ?_ ?_ ?_
  · exact (StableHlo.unary_result_ne _ _ _ _ _ _ (by decide)).trans (StableHlo.nullary_result_ne _ _ _ _ (by decide))
  · exact (StableHlo.unary_result_ne _ _ _ _ _ _ (by decide)).trans (StableHlo.nullary_result_ne _ _ _ _ (by decide))
  · rw [StableHlo.unary_result, StableHlo.nullary_result]

/-- No operation of a list writes `b`. -/
def Leaves (b : Ref sig .tc) (ops : List (HloOp τ sig (Elt Ideal))) : Prop := ops.Forall fun op => Proc.devRef .tc b ∉ op.writes

theorem leaves {b : Ref sig .tc} {ops : List (HloOp τ sig (Elt Ideal))} (h : Leaves b ops) (U : Valuation τ sig (Elt Ideal)) :
    StableHlo.after ops U (Proc.devRef .tc b) = U (Proc.devRef .tc b) :=
  StableHlo.after_of_forall_not_mem _ _ (List.forall_iff_forall_mem.1 h)

theorem args_before : ∀ b ∈ [main_arg0, main_arg1, main_arg2, main_arg3],
    Leaves b (List.flatten [hostOps0, hostOps0_1, hostOps0_2, hostOps0_3, hostOps0_4.take 26]) := by
  intro b hb
  fin_cases hb
  all_goals
    simp only [Leaves, hostOps0, hostOps0_1, hostOps0_2, hostOps0_3, hostOps0_4, List.take_succ_cons, List.take_zero, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)

theorem v38_after : Leaves main_v38 ((hostOps0_4.drop 19).drop 7) := by
  simp only [Leaves, hostOps0_4, List.drop_succ_cons, List.drop_zero, List.Forall, StableHlo.nullary_writes, StableHlo.unary_writes, StableHlo.binary_writes, StableHlo.reshape_writes, StableHlo.nary_writes, Finset.mem_singleton]
  repeat' apply And.intro
  all_goals exact StableHlo.devRef_ne_of_ne (by decide)

theorem v41_after : Leaves main_v41 ((hostOps0_4.drop 26).drop 4) := by
  simp only [Leaves, hostOps0_4, List.drop_succ_cons, List.drop_zero, List.Forall, StableHlo.nullary_writes, StableHlo.unary_writes, StableHlo.binary_writes, StableHlo.reshape_writes, StableHlo.nary_writes, Finset.mem_singleton]
  repeat' apply And.intro
  all_goals exact StableHlo.devRef_ne_of_ne (by decide)

theorem args_before19 {b : Ref sig .tc} (h : Leaves b (List.flatten [hostOps0, hostOps0_1, hostOps0_2, hostOps0_3, hostOps0_4.take 26])) :
    Leaves b (List.flatten [hostOps0, hostOps0_1, hostOps0_2, hostOps0_3, hostOps0_4.take 19]) := by
  refine List.forall_iff_forall_mem.2 fun op hop => List.forall_iff_forall_mem.1 h op ?_
  simp only [List.flatten_cons, List.flatten_nil, List.append_nil, List.mem_append] at hop ⊢
  rcases hop with h | h | h | h | h
  · exact .inl h
  · exact .inr (.inl h)
  · exact .inr (.inr (.inl h))
  · exact .inr (.inr (.inr (.inl h)))
  · exact .inr (.inr (.inr (.inr (List.take_subset_take_left _ (by omega) h))))

theorem V38 : V m c main_v38 = queriesK (padK (m ((c : Thread nD τ).loc main_arg0)) (m ((c : Thread nD τ).loc main_arg1))) := by
  rw [V_cut m c 19 7, leaves v38_after, mid38, leaves (args_before19 (args_before main_arg0 (by simp))), leaves (args_before19 (args_before main_arg1 (by simp)))]

theorem V41 : V m c main_v41 = keysK (m ((c : Thread nD τ).loc main_arg2)) (m ((c : Thread nD τ).loc main_arg3)) := by
  rw [V_cut m c 26 4, leaves v41_after, mid41, leaves (args_before main_arg2 (by simp)), leaves (args_before main_arg3 (by simp))]

set_option maxHeartbeats 8000000 in
theorem V45 : V m c main_v45 = cotK (m ((c : Thread nD τ).loc main_arg4)) := by
  simp only [V, hostOps0, hostOps0_1, hostOps0_2, hostOps0_3, hostOps0_4, List.flatten_cons, List.flatten_nil, List.append_nil, List.cons_append, List.nil_append]
  entry_read
  rfl

/-- The scores of the kernel's arguments. -/
abbrev scoreK : FVec Ideal S4x4096x4096 .f32 := scoreT (m ((c : Thread nD τ).loc main_arg0)) (m ((c : Thread nD τ).loc main_arg1)) (m ((c : Thread nD τ).loc main_arg2)) (m ((c : Thread nD τ).loc main_arg3))

set_option maxHeartbeats 8000000 in
theorem V49 : V m c main_v49 = statK (lseK (scoreK m c) (expK (scoreK m c))) := by
  simp only [V, hostOps0, hostOps0_1, hostOps0_2, hostOps0_3, hostOps0_4, List.flatten_cons, List.flatten_nil, List.append_nil, List.cons_append, List.nil_append]
  entry_read
  rfl

set_option maxHeartbeats 8000000 in
theorem V54 : V m c main_v54 = statK (deltaK (m ((c : Thread nD τ).loc main_arg2)) (m ((c : Thread nD τ).loc main_arg4)) (probK (expK (scoreK m c)))) := by
  simp only [V, hostOps0, hostOps0_1, hostOps0_2, hostOps0_3, hostOps0_4, List.flatten_cons, List.flatten_nil, List.append_nil, List.cons_append, List.nil_append]
  entry_read
  rfl

end

end Cert.KernelIdeal.Value

end
-- ==== Proof.GridVal.lean ====
/-
  The kernel's two results over the extended reals, at an index, of arguments that are finite.
-/
module

public import proofs.«01_k».proof.Proof.Grid
public import proofs.«01_k».proof.Proof.TileVal
public import proofs.«01_k».proof.Proof.HostVal

@[expose] public section

set_option maxRecDepth 16384

noncomputable section

namespace Cert.KernelIdeal.Value

open Cert.KernelIdeal Cert.KernelIdeal.Gen Idealize.ShloMosaic Idealize.ShloMosaic.TcCoe Cert.Attn
open Cert.ReferenceIdeal.Value (Holds)

/-! ## The blocks -/

theorem idx : ∀ t : Fin cfg0.N, win0_0.index t = ![0, 0, 0] ∧ win0_1.index t = ![t.val, 0] ∧ win0_2.index t = ![0, 0, 0] ∧ win0_3.index t = ![0, 0, 0]
    ∧ win0_4.index t = ![0, 0, 0] ∧ win0_5.index t = ![t.val, 0] ∧ win0_6.index t = ![t.val, 0, 0] :=
  (by decide +kernel : ∀ t : Fin grid0.N, _)

section
variable (m : (ℓ : Loc nD τ sig) → Buf (Elt Ideal) ℓ) (c : Dev nD) (t : Fin cfg0.N) (f : (b : Ref sig .tc) → Buf (Elt Ideal) ((c : Thread nD τ).loc b))

theorem emb0 (j : Fin 8) (y : Fin 2048) (w : Fin 256) (X : Vec Ideal S8x2048x256 .bf16) : X ((win0_0.blk t).view.emb (ix3 j y w)) = X (ix3 j y w) := by
  blk_ext [idx t]
theorem emb1 (r : Fin 512) (w : Fin 256) (X : Vec Ideal S4096x256 .bf16) : X ((win0_1.blk t).view.emb (ix2 r w)) = X (ix2 (ki (ktOf t) r) w) := by
  have hk : (ki (ktOf t) r).val = 512 * t.val + r.val := by rw [← ktOf_val]; rfl
  generalize ki (ktOf t) r = k at hk ⊢
  blk_ext [idx t]
theorem emb2 (j : Fin 8) (y : Fin 2048) (w : Fin 128) (X : Vec Ideal S8x2048x128 .bf16) : X ((win0_2.blk t).view.emb (ix3 j y w)) = X (ix3 j y w) := by
  blk_ext [idx t]
theorem emb3 (j a : Fin 8) (y : Fin 2048) (X : Vec Ideal S8x8x2048 .f32) : X ((win0_3.blk t).view.emb (ix3 j a y)) = X (ix3 j a y) := by
  blk_ext [idx t]
theorem emb4 (j a : Fin 8) (y : Fin 2048) (X : Vec Ideal S8x8x2048 .f32) : X ((win0_4.blk t).view.emb (ix3 j a y)) = X (ix3 j a y) := by
  blk_ext [idx t]

theorem rd0 {X : Vec Ideal S8x2048x256 .bf16} (h : f main_v38 = X) (j : Fin 8) (y : Fin 2048) (w : Fin 256) :
    ((cfg0.win 0).blk t).view.read (Elt Ideal) (f (Pipeline.arrRef spec0 0)) (ix3 j y w) = X (ix3 j y w) :=
  h ▸ emb0 t j y w (f main_v38)
theorem rd1 {X : Vec Ideal S4096x256 .bf16} (h : f main_v41 = X) (r : Fin 512) (w : Fin 256) :
    ((cfg0.win 1).blk t).view.read (Elt Ideal) (f (Pipeline.arrRef spec0 1)) (ix2 r w) = X (ix2 (ki (ktOf t) r) w) :=
  h ▸ emb1 t r w (f main_v41)
theorem rd2 {X : Vec Ideal S8x2048x128 .bf16} (h : f main_v45 = X) (j : Fin 8) (y : Fin 2048) (w : Fin 128) :
    ((cfg0.win 2).blk t).view.read (Elt Ideal) (f (Pipeline.arrRef spec0 2)) (ix3 j y w) = X (ix3 j y w) :=
  h ▸ emb2 t j y w (f main_v45)
theorem rd3 {X : Vec Ideal S8x8x2048 .f32} (h : f main_v49 = X) (j a : Fin 8) (y : Fin 2048) :
    ((cfg0.win 3).blk t).view.read (Elt Ideal) (f (Pipeline.arrRef spec0 3)) (ix3 j a y) = X (ix3 j a y) :=
  h ▸ emb3 t j a y (f main_v49)
theorem rd4 {X : Vec Ideal S8x8x2048 .f32} (h : f main_v54 = X) (j a : Fin 8) (y : Fin 2048) :
    ((cfg0.win 4).blk t).view.read (Elt Ideal) (f (Pipeline.arrRef spec0 4)) (ix3 j a y) = X (ix3 j a y) :=
  h ▸ emb4 t j a y (f main_v54)

theorem ins0 (j : Fin 8) (y : Fin 2048) (w : Fin 256) : (insAt m c t).Q (ix3 j y w)
    = queriesK (padK (m ((c : Thread nD τ).loc main_arg0)) (m ((c : Thread nD τ).loc main_arg1))) (ix3 j y w) := by
  unfold insAt iblk
  exact rd0 c t (V m c) (V38 m c) j y w
theorem ins1 (r : Fin 512) (w : Fin 256) : (insAt m c t).K (ix2 r w)
    = keysK (m ((c : Thread nD τ).loc main_arg2)) (m ((c : Thread nD τ).loc main_arg3)) (ix2 (ki (ktOf t) r) w) := by
  unfold insAt iblk
  exact rd1 c t (V m c) (V41 m c) r w
theorem ins2 (j : Fin 8) (y : Fin 2048) (w : Fin 128) : (insAt m c t).D (ix3 j y w) = cotK (m ((c : Thread nD τ).loc main_arg4)) (ix3 j y w) := by
  unfold insAt iblk
  exact rd2 c t (V m c) (V45 m c) j y w
theorem ins3 (j a : Fin 8) (y : Fin 2048) : (insAt m c t).L (ix3 j a y) = statK (lseK (scoreK m c) (expK (scoreK m c))) (ix3 j a y) := by
  unfold insAt iblk
  exact rd3 c t (V m c) (V49 m c) j a y
theorem ins4 (j a : Fin 8) (y : Fin 2048) : (insAt m c t).Δ (ix3 j a y)
    = statK (deltaK (m ((c : Thread nD τ).loc main_arg2)) (m ((c : Thread nD τ).loc main_arg4)) (probK (expK (scoreK m c)))) (ix3 j a y) := by
  unfold insAt iblk
  exact rd4 c t (V m c) (V54 m c) j a y

/-! ## What a point reads -/

/-- The kernel's arguments on device `c` are the reals `A`. -/
abbrev HoldsAt (A : Args) : Prop := Holds A (m ((c : Thread nD τ).loc main_arg0)) (m ((c : Thread nD τ).loc main_arg1)) (m ((c : Thread nD τ).loc main_arg2))
  (m ((c : Thread nD τ).loc main_arg3)) (m ((c : Thread nD τ).loc main_arg4))

variable {m c} {A : Args} (H : HoldsAt m c A)
include H

theorem reads : Reads A (ktOf t) (insAt m c t) := by
  refine ⟨fun j y w => ?_, fun r w => ?_, fun j y w => ?_, fun j y => ?_, fun j y => ?_⟩
  · rw [ins0, queriesK_apply H]
  · rw [ins1, keysK_apply H]
  · rw [ins2, cotK_apply H]
  · rw [ins3, statK_apply, lseK_apply H]
  · rw [ins4, statK_apply, deltaK_apply H]

/-! ## The running sum -/

/-- The queries' gradient after `n` key tiles. -/
def sumQ (A : Args) (n : Nat) (j : Fin 8) (w : Fin 256) (y : Fin 2048) : ℝ := ∑ t : Fin 8, if t.val < n then addQ A t j w y else 0

omit H in
theorem sumQ_succ (t : Fin 8) (j : Fin 8) (w : Fin 256) (y : Fin 2048) : sumQ A (t.val + 1) j w y = sumQ A t.val j w y + addQ A t j w y := by
  rw [sumQ, sumQ, ← Fintype.sum_ite_eq t fun t => addQ A t j w y, ← Finset.sum_add_distrib]
  refine Finset.sum_congr rfl fun i _ => ?_
  rcases lt_trichotomy i.val t.val with h | h | h
  · rw [if_pos (by omega), if_pos h, if_neg (by rintro rfl; omega), add_zero]
  · rw [if_pos (by omega), if_neg (by omega), if_pos (Fin.ext h.symm), zero_add]
  · rw [if_neg (by omega), if_neg (by omega), if_neg (by rintro rfl; omega), add_zero]

theorem accAt_is (n : Nat) (hn : n ≤ cfg0.N) (j : Fin 8) (w : Fin 256) (y : Fin 2048) : accAt m c n (ix3 j w y) = ((sumQ A n j w y : ℝ) : EReal) := by
  induction n generalizing j w y with
  | zero =>
    have : sumQ A 0 j w y = 0 := Finset.sum_eq_zero fun t _ => if_neg (Nat.not_lt_zero _)
    rw [this]
    exact Ideal.ofBits_zero .f32
  | succ n ih =>
    have ht : n < cfg0.N := hn
    rw [show n = (⟨n, ht⟩ : Fin cfg0.N).val from rfl, accAt_succ m c ⟨n, ht⟩]
    refine ((point_is (reads ⟨n, ht⟩ H) (sumQ A n) _ fun j w y => ih (by omega) j w y).dq j w y).trans ?_
    have hk : (ktOf ⟨n, ht⟩).val = n := ktOf_val ⟨n, ht⟩
    generalize ktOf ⟨n, ht⟩ = kt at hk ⊢
    subst hk
    rw [if_pos (by omega), ← sumQ_succ]

theorem stAt_is : StIs A (ktOf t) (sumQ A t.val) 7 (stAt m c t) :=
  point_is (reads t H) (sumQ A t.val) _ fun j w y => accAt_is H t.val t.isLt.le j w y

/-! ## The blocks a point writes -/

theorem outKV_apply (r : Fin 512) (w : Fin 256) : outKV (stAt m c t) (ix2 r w)
    = (((∑ h, ∑ q, ds A h q (ki (ktOf t) r) * qp A q h w) + (if H : w.val < 128 then ∑ h, ∑ q, p A h q (ki (ktOf t) r) * A.ct q h ⟨w.val, H⟩ else 0) : ℝ) : EReal) := by
  have hs := stAt_is t H
  generalize stAt m c t = s at hs
  have ho : outKV s (ix2 r w) = s.1.1 (ix2 r w) + if H : w.val < 128 then s.1.2 (ix2 r (⟨w.val, H⟩ : Fin 128)) else 0 := by
    pointwise [outKV, k0_pay1]
  rw [ho, hs.dk, upTo_all 7 le_rfl, EReal.coe_add]
  refine congrArg₂ _ (congrArg _ (sum_queries fun h q => ds A h q (ki (ktOf t) r) * qp A q h w)) ?_
  split
  · rw [hs.dv, upTo_all 7 le_rfl]
    exact congrArg _ (sum_queries fun h q => p A h q (ki (ktOf t) r) * A.ct q h _)
  · rfl

theorem outQ_apply (w : Fin 256) (y : Fin 2048) : outQ (stAt m c t) (ktOf t) (ix3 0 w y)
    = ((∑ k, ds A (hd y) (qi (ktOf t) y) k * kp A k w : ℝ) : EReal) := by
  have hs := stAt_is t H
  generalize stAt m c t = s at hs
  have ho : ∀ kt, outQ s kt (ix3 0 w y) = aAt s.2 kt (ix3 0 w y) := fun kt => by
    pointwise [outQ, k0_pay2]
  rw [ho, aAt_apply, hs.dq, if_pos (by omega)]
  have ht : t.val = (ktOf t).val := (ktOf_val t).symm
  rw [ht, ← sumQ_succ]
  generalize ktOf t = kt
  have : sumQ A (kt.val + 1) kt w y = upTo kt.val fun t => addQ A t kt w y := Finset.sum_congr rfl fun t _ => by simp only [Nat.lt_succ_iff]
  rw [this, upTo_full kt _ fun j hj => addQ_lt hj w y]
  refine congrArg _ ((sum_keys fun k => kp A k w * ds A (hd y) (qi kt y) k).trans (Finset.sum_congr rfl fun k _ => mul_comm _ _))

end

end Cert.KernelIdeal.Value

end
-- ==== Proof.Result.lean ====
/-
  The arrays that the kernel's pipeline leaves are, over the extended reals and for finite
  arguments, the arrays of the reference's term.
-/
module

public import proofs.«01_k».proof.Proof.GridVal
public import proofs.«01_k».proof.Proof.RefTerm
public import proofs.«01_k».proof.Proof.RefVal
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Cert.Attn
open Cert.ReferenceIdeal.Value (Holds dkvT dqtT dqT dsT gT probT expT scoreT)

/-! ## From blocks to arrays -/

section
variable (m : (ℓ : Loc nD τ sig) → Buf (Elt Ideal) ℓ) (c : Dev nD) (t : Fin cfg0.N)

theorem emb5 (r : Fin 512) (w : Fin 256) (X : Vec Ideal S4096x256 .f32) : X ((win0_5.blk t).view.emb (ix2 r w)) = X (ix2 (ki (ktOf t) r) w) := by
  have hk : (ki (ktOf t) r).val = 512 * t.val + r.val := by rw [← ktOf_val]; rfl
  generalize ki (ktOf t) r = k at hk ⊢
  blk_ext [idx t]

theorem emb6 (w : Fin 256) (y : Fin 2048) (X : Vec Ideal S8x256x2048 .bf16) : X ((win0_6.blk t).view.emb (ix3 0 w y)) = X (ix3 (ktOf t) w y) := by
  have hk : (ktOf t).val = t.val := ktOf_val t
  generalize ktOf t = k at hk ⊢
  blk_ext [idx t]

theorem at2 {α : Type} (f g : S512x256.Idx → α) (h : ∀ r w, f (ix2 r w) = g (ix2 r w)) (y : S512x256.Idx) : f y = g y := by
  have : y = ix2 (y 0) (y 1) := by funext i; fin_cases i <;> rfl
  rw [this]; exact h _ _

theorem at3 {α : Type} (f g : S1x256x2048.Idx → α) (h : ∀ w y, f (ix3 0 w y) = g (ix3 0 w y)) (y : S1x256x2048.Idx) : f y = g y := by
  have : y = ix3 0 (y 1) (y 2) := by
    funext i; fin_cases i
    · exact Fin.ext (by have := (y 0).isLt; show (y 0).val = 0; change (y 0).val < 1 at this; omega)
    · rfl
    · rfl
  rw [this]; exact h _ _

theorem arr5 (G : Vec Ideal S4096x256 .f32) (h : ∀ t r w, outKV (stAt m c t) (ix2 r w) = G (ix2 (ki (ktOf t) r) w)) :
    (dats m 0 c).arrAt 5 (cfgs 0).N = G := by
  refine (dats m 0 c).arrAt_eq_of_covers 5 _ (by decide +kernel) fun t hf y => ?_
  blk_simp
  rw [after0_5]
  exact at2 _ (fun y => G ((win0_5.blk t).view.emb y)) (fun r w => (h t r w).trans (emb5 t r w G).symm) y

theorem arr6 (G : Vec Ideal S8x256x2048 .bf16) (h : ∀ t w y, outQ (stAt m c t) (ktOf t) (ix3 0 w y) = G (ix3 (ktOf t) w y)) :
    (dats m 0 c).arrAt 6 (cfgs 0).N = G := by
  refine (dats m 0 c).arrAt_eq_of_covers 6 _ (by decide +kernel) fun t hf y => ?_
  blk_simp
  rw [after0_6]
  exact at3 _ (fun y => G ((win0_6.blk t).view.emb y)) (fun w y => (h t w y).trans (emb6 t w y G).symm) y

end

/-! ## The arrays are the reference's -/

section
variable {m : (ℓ : Loc nD τ sig) → Buf (Elt Ideal) ℓ} {c : Dev nD} {A : Args} (H : HoldsAt m c A)
  {a0 : FVec Ideal S4096x4x128 .f32} {a1 : FVec Ideal S4096x4x64 .f32} {a2 : FVec Ideal S4096x128 .f32}
  {a3 : FVec Ideal S4096x64 .f32} {a4 : FVec Ideal S4096x4x128 .f32} (R : Holds A a0 a1 a2 a3 a4)
include H R

theorem final5 : (dats m 0 c).arrAt 5 (cfgs 0).N = dkvT a0 a1 a4 (probT (expT (scoreT a0 a1 a2 a3))) (dsT (gT a2 a4) (expT (scoreT a0 a1 a2 a3))) :=
  arr5 m c _ fun t r w => (outKV_apply t H r w).trans (Cert.ReferenceIdeal.Value.dkvT_apply R _ w).symm

theorem final6 : (dats m 0 c).arrAt 6 (cfgs 0).N = dqtT (dqT a2 a3 (dsT (gT a2 a4) (expT (scoreT a0 a1 a2 a3)))) :=
  arr6 m c _ fun t w y => (outQ_apply t H w y).trans
    ((Cert.ReferenceIdeal.Value.dqT_apply R _ _ w).symm.trans (Cert.ReferenceIdeal.Value.dqtT_apply _ _ w y).symm)

end

end Cert.KernelIdeal.Value

end
-- ==== Proof.Algebraic.lean ====
/-
  Finite arguments are real numbers, and from such arguments the kernel and the reference leave the same two arrays.
-/
module

public import proofs.«01_k».proof.Defs
public import proofs.«01_k».proof.Proof.Frames
public import proofs.«01_k».proof.Proof.Result

@[expose] public section

set_option maxRecDepth 16384

noncomputable section

open Idealize.ShloMosaic Idealize.ShloMosaic.TcCoe Idealize.SL.Sem Cert.Attn

namespace Cert.Pre_finite

theorem facts : Facts := by
  constructor <;> decide

end Cert.Pre_finite

namespace Cert.Proof

/-! ## Finite arguments are real -/

theorem real_of (x : EReal) (h : max x (-x) < ⊤) : x = ((x.toReal : ℝ) : EReal) := by
  refine (EReal.coe_toReal (fun e => ?_) fun e => ?_).symm <;> · subst e; simp at h

theorem real_of_finite {S S0 : Shape} {dims : Fin S0.rank → Fin S.rank} (hb : S0.BroadcastsInDim S dims) (x : FVec Ideal S .f32)
    (h : cmpf .olt (Host.absf x) (broadcastInDim S dims hb (constant S0 .f32 0x7F800000#32)) = fun _ => 1#1) (i : S.Idx) :
    x i = (((x i : EReal).toReal : ℝ) : EReal) := by
  have htop : Ideal.ofBits .f32 0x7F800000#32 = ⊤ := by simp [Ideal.ofBits, Ideal.ieee]
  have hi : Ideal.cmp .olt (max (x i : EReal) (-(x i : EReal))) (Ideal.ofBits .f32 0x7F800000#32) = 1#1 := congrFun h i
  rw [htop] at hi
  refine real_of _ (by_contra fun hn => ?_)
  simp [Ideal.cmp, hn] at hi

theorem holds_of {a0 : FVec Ideal Cert.Pre_finite.S4096x4x128 .f32} {a1 : FVec Ideal Cert.Pre_finite.S4096x4x64 .f32}
    {a2 : FVec Ideal Cert.Pre_finite.S4096x128 .f32} {a3 : FVec Ideal Cert.Pre_finite.S4096x64 .f32} {a4 : FVec Ideal Cert.Pre_finite.S4096x4x128 .f32}
    [Cert.Pre_finite.Facts]
    (h0 : (Cert.Pre_finite.fn (F := Ideal) a0 a1 a2 a3 a4).1 = fun _ => 1#1) (h1 : (Cert.Pre_finite.fn (F := Ideal) a0 a1 a2 a3 a4).2.1 = fun _ => 1#1)
    (h2 : (Cert.Pre_finite.fn (F := Ideal) a0 a1 a2 a3 a4).2.2.1 = fun _ => 1#1) (h3 : (Cert.Pre_finite.fn (F := Ideal) a0 a1 a2 a3 a4).2.2.2.1 = fun _ => 1#1)
    (h4 : (Cert.Pre_finite.fn (F := Ideal) a0 a1 a2 a3 a4).2.2.2.2 = fun _ => 1#1) :
    ∃ A, Cert.ReferenceIdeal.Value.Holds A a0 a1 a2 a3 a4 :=
  ⟨⟨fun q h c => EReal.toReal (a0 (ix3 q h c)), fun q h c => EReal.toReal (a1 (ix3 q h c)), fun k c => EReal.toReal (a2 (ix2 k c)),
      fun k c => EReal.toReal (a3 (ix2 k c)), fun q h c => EReal.toReal (a4 (ix3 q h c))⟩,
    ⟨fun _ _ _ => real_of_finite _ a0 h0 _, fun _ _ _ => real_of_finite _ a1 h1 _, fun _ _ => real_of_finite _ a2 h2 _,
      fun _ _ => real_of_finite _ a3 h3 _, fun _ _ _ => real_of_finite _ a4 h4 _⟩⟩

/-! ## The claims under the precondition -/

theorem frame_ideal_finite : Cert.quiescent_KernelIdeal_pre_finite (hKernelIdeal := Cert.KernelIdeal.Gen.facts) (hPre_finite := Cert.Pre_finite.facts) :=
  fun m ρ _ => Cert.KernelIdeal.Value.frame_main (F := Ideal) m ρ

theorem frame_reference_finite : Cert.quiescent_ReferenceIdeal_pre_finite (hReferenceIdeal := Cert.ReferenceIdeal.Gen.facts) (hPre_finite := Cert.Pre_finite.facts) :=
  fun m ρ _ => (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨fun c => (Cert.KernelIdeal.Value.dats m 0 c).arrAt 5 (Cert.KernelIdeal.cfgs 0).N, fun c => (Cert.KernelIdeal.Value.dats m 0 c).arrAt 6 (Cert.KernelIdeal.cfgs 0).N, ?_, ?_⟩
  · refine (θ_run Cert.KernelIdeal.defs _ _).mono (fun r h c => ?_) (Cert.KernelIdeal.Value.run_main m g)
    have hr := h.1
    exact ⟨hr.out_eq c 5, hr.out_eq c 6,
      (hr.rest_eq c Cert.KernelIdeal.main_arg0 (by decide)).trans (Cert.KernelIdeal.Gen.V_main_arg0 m c),
      (hr.rest_eq c Cert.KernelIdeal.main_arg1 (by decide)).trans (Cert.KernelIdeal.Gen.V_main_arg1 m c),
      (hr.rest_eq c Cert.KernelIdeal.main_arg2 (by decide)).trans (Cert.KernelIdeal.Gen.V_main_arg2 m c),
      (hr.rest_eq c Cert.KernelIdeal.main_arg3 (by decide)).trans (Cert.KernelIdeal.Gen.V_main_arg3 m c),
      (hr.rest_eq c Cert.KernelIdeal.main_arg4 (by decide)).trans (Cert.KernelIdeal.Gen.V_main_arg4 m c)⟩
  · refine (θ_run Cert.ReferenceIdeal.defs _ _).mono (fun r h c => ?_) (Cert.ReferenceIdeal.Value.run (F := Ideal) m' g')
    obtain ⟨A, H⟩ := @holds_of _ _ _ _ _ Cert.Pre_finite.facts (hpre c).1 (hpre c).2.1 (hpre c).2.2.1 (hpre c).2.2.2.1 (hpre c).2.2.2.2
    have R := H
    rw [← (hagree c).1, ← (hagree c).2.1, ← (hagree c).2.2.1, ← (hagree c).2.2.2.1, ← (hagree c).2.2.2.2] at R
    exact ⟨(h c).1.trans ((Cert.ReferenceIdeal.Value.out0_eq m' c).trans (Cert.KernelIdeal.Value.final5 H R).symm),
      (h c).2.1.trans ((Cert.ReferenceIdeal.Value.out1_eq m' c).trans (Cert.KernelIdeal.Value.final6 H R).symm), (h c).2.2⟩

end Cert.Proof

end
-- ==== Proof.Weights.lean ====
/-
  One grid point of the weight-gradient call. The first eleven points leave a block of the gradients of the gate, up and down
  matrices, the last four a block of the gradient of the output projection; every buffer is read and stored whole.
-/
module

public import Idealize.ShloMosaic.Lib.Pointwise
public import Idealize.ShloMosaic.Lib.VecWindow
public import Idealize.ShloMosaic.Lib.Pipeline.ValueKit
public import proofs.«01_k».proof.Proof.Gen.Kernel2Ideal.Skeleton
public import proofs.«01_k».proof.Proof.Gen.Kernel2Ideal.Frame

@[expose] public section

set_option maxRecDepth 65536
set_option maxHeartbeats 8000000

noncomputable section

namespace Cert.Kernel2Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

/-- A point of the first eleven: one block of the gradients of the feed-forward matrices. -/
theorem point_ffn (c : Dev nD) (i : grid0.Coords) (arg1 : Memref sig .tc .vmem S1024x4096 .bf16) (harg1 : arg1.IsWhole) (arg2 : Memref sig .tc .vmem S1024x4096 .bf16) (harg2 : arg2.IsWhole) (arg3 : Memref sig .tc .vmem S1024x4096 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S1024x256 .bf16) (harg12 : arg12.IsWhole) (h₁ : k0_cond1 i = 1#1) (h₂ : ¬ k0_cond2 i = 1#1) (x1 : Vec F S1024x4096 .bf16) (x2 : Vec F S1024x4096 .bf16) (x4 : Vec F S4096x256 .bf16) (x5 : Vec F S4096x256 .bf16) (x6 : Vec F S4096x256 .bf16) (x7 : Vec F S4096x256 .bf16) (K : PUnit → sProp 𝕄) :
    iprop(owns (c : Thread nD τ) arg1 fullShare x1 ∗ owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ (∃ d : Vec F S256x1024 .bf16, owns (c : Thread nD τ) arg9 fullShare d) ∗ (∃ d : Vec F S256x1024 .bf16, owns (c : Thread nD τ) arg10 fullShare d) ∗ (∃ d : Vec F S256x1024 .bf16, owns (c : Thread nD τ) arg11 fullShare d) ∗ (iprop(owns (c : Thread nD τ) arg1 fullShare x1 ∗ owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare (k0_pay2 x2 x4) ∗ owns (c : Thread nD τ) arg10 fullShare (k0_pay3 x2 x5) ∗ owns (c : Thread nD τ) arg11 fullShare (k0_pay4 x6 x7 x1)) -∗ K ⟨⟩))
      ⊢ wp frame (wpE (defs₀ (F := F)) Variants.none c none) Set.univ (cc0_row_contracted_grads (F := F) i arg1 harg1 arg2 harg2 arg3 harg3 arg4 harg4 arg5 harg5 arg6 harg6 arg7 harg7 arg8 harg8 arg9 harg9 arg10 harg10 arg11 harg11 arg12 harg12) K := by
  simp only [cc0_row_contracted_grads_eq_skeleton]
  unfold cc0_row_contracted_grads_skel
  simp only [dif_pos h₁, dif_neg h₂]
  unfold owns
  iintro ⟨⟨%f1, %e1, H1⟩, ⟨%f2, %e2, H2⟩, ⟨%f4, %e4, H4⟩, ⟨%f5, %e5, H5⟩, ⟨%f6, %e6, H6⟩, ⟨%f7, %e7, H7⟩, ⟨%d9, %f9, %e9, H9⟩, ⟨%d10, %f10, %e10, H10⟩, ⟨%d11, %f11, %e11, H11⟩, Hk⟩
  subst e1 e2 e4 e5 e6 e7
  sl_exec
  sl_step
  iapply Hk
  isplitl [H1]
  · iexists f1; isplitr
    · ipureintro; rfl
    · iexact H1
  isplitl [H2]
  · iexists f2; isplitr
    · ipureintro; rfl
    · iexact H2
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H9]
  · iexists _; isplitr
    swap
    · iexact H9
    ipureintro
    refine (View.read_writes_full _ _ _ _ _).trans ?_
    rw [View.readAt_full, View.readAt_full]
  isplitl [H10]
  · iexists _; isplitr
    swap
    · iexact H10
    ipureintro
    refine (View.read_writes_full _ _ _ _ _).trans ?_
    rw [View.readAt_full, View.readAt_full]
  iexists _; isplitr
  swap
  · iexact H11
  ipureintro
  refine (View.read_writes_full _ _ _ _ _).trans ?_
  rw [View.readAt_full, View.readAt_full, View.readAt_full]

/-- A point of the last four: one block of the gradient of the output projection. -/
theorem point_out (c : Dev nD) (i : grid0.Coords) (arg1 : Memref sig .tc .vmem S1024x4096 .bf16) (harg1 : arg1.IsWhole) (arg2 : Memref sig .tc .vmem S1024x4096 .bf16) (harg2 : arg2.IsWhole) (arg3 : Memref sig .tc .vmem S1024x4096 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S1024x256 .bf16) (harg12 : arg12.IsWhole) (h₁ : ¬ k0_cond1 i = 1#1) (h₂ : k0_cond2 i = 1#1) (x3 : Vec F S1024x4096 .bf16) (x8 : Vec F S4096x256 .bf16) (K : PUnit → sProp 𝕄) :
    iprop(owns (c : Thread nD τ) arg3 fullShare x3 ∗ owns (c : Thread nD τ) arg8 fullShare x8 ∗ (∃ d : Vec F S1024x256 .bf16, owns (c : Thread nD τ) arg12 fullShare d) ∗ (iprop(owns (c : Thread nD τ) arg3 fullShare x3 ∗ owns (c : Thread nD τ) arg8 fullShare x8 ∗ owns (c : Thread nD τ) arg12 fullShare (k0_pay5 x3 x8)) -∗ K ⟨⟩))
      ⊢ wp frame (wpE (defs₀ (F := F)) Variants.none c none) Set.univ (cc0_row_contracted_grads (F := F) i arg1 harg1 arg2 harg2 arg3 harg3 arg4 harg4 arg5 harg5 arg6 harg6 arg7 harg7 arg8 harg8 arg9 harg9 arg10 harg10 arg11 harg11 arg12 harg12) K := by
  simp only [cc0_row_contracted_grads_eq_skeleton]
  unfold cc0_row_contracted_grads_skel
  simp only [dif_neg h₁, dif_pos h₂]
  unfold owns
  iintro ⟨⟨%f3, %e3, H3⟩, ⟨%f8, %e8, H8⟩, ⟨%d12, %f12, %e12, H12⟩, Hk⟩
  subst e3 e8
  sl_exec
  sl_step
  iapply Hk
  isplitl [H3]
  · iexists f3; isplitr
    · ipureintro; rfl
    · iexact H3
  isplitl [H8]
  · iexists f8; isplitr
    · ipureintro; rfl
    · iexact H8
  iexists _; isplitr
  swap
  · iexact H12
  ipureintro
  refine (View.read_writes_full _ _ _ _ _).trans ?_
  rw [View.readAt_full, View.readAt_full]

/-! ## The blocks -/

/-- The block of a feed-forward matrix that point `t` works on. -/
def fb (t : Fin cfg0.N) : Fin 11 := ⟨min t.val 10, by omega⟩
/-- The block of the output projection that point `t` works on. -/
def wb (t : Fin cfg0.N) : Fin 4 := ⟨t.val - 11, by have h : t.val < 15 := t.isLt; omega⟩
/-- Row `r` of block `b` of a feed-forward matrix. -/
def fcol (b : Fin 11) (r : Fin 256) : Fin 2816 := ⟨256 * b.val + r.val, by omega⟩
/-- Column `r` of block `b` of the output projection. -/
def wcol (b : Fin 4) (r : Fin 256) : Fin 1024 := ⟨256 * b.val + r.val, by omega⟩

theorem idx : ∀ t : Fin cfg0.N, win0_0.index t = ![0, 0] ∧ win0_1.index t = ![0, 0] ∧ win0_2.index t = ![0, 0] ∧ win0_3.index t = ![0, min t.val 10]
    ∧ win0_4.index t = ![0, min t.val 10] ∧ win0_5.index t = ![0, min t.val 10] ∧ win0_6.index t = ![0, min t.val 10] ∧ win0_7.index t = ![0, t.val - 11]
    ∧ win0_8.index t = ![min t.val 10, 0] ∧ win0_9.index t = ![min t.val 10, 0] ∧ win0_10.index t = ![min t.val 10, 0] ∧ win0_11.index t = ![0, t.val - 11] :=
  (by decide +kernel : ∀ t : Fin grid0.N, _)

/-- The columns of block `b`. -/
def fblock (X : Vec F S4096x2816 .bf16) (b : Fin 11) : Vec F S4096x256 .bf16 := fun y => X (ix2 (y 0) (fcol b (y 1)))
def wblock (X : Vec F S4096x1024 .bf16) (b : Fin 4) : Vec F S4096x256 .bf16 := fun y => X (ix2 (y 0) (wcol b (y 1)))

section
variable (c : Dev nD) (t : Fin cfg0.N) (f : (b : Ref sig .tc) → Buf (Elt F) ((c : Thread nD τ).loc b))

theorem emb0 (d : Fin 1024) (s : Fin 4096) (X : Vec F S1024x4096 .bf16) : X ((win0_0.blk t).view.emb (ix2 d s)) = X (ix2 d s) := by
  blk_ext [idx t]
theorem emb1 (d : Fin 1024) (s : Fin 4096) (X : Vec F S1024x4096 .bf16) : X ((win0_1.blk t).view.emb (ix2 d s)) = X (ix2 d s) := by
  blk_ext [idx t]
theorem emb2 (d : Fin 1024) (s : Fin 4096) (X : Vec F S1024x4096 .bf16) : X ((win0_2.blk t).view.emb (ix2 d s)) = X (ix2 d s) := by
  blk_ext [idx t]
theorem emb3 (s : Fin 4096) (r : Fin 256) (X : Vec F S4096x2816 .bf16) : X ((win0_3.blk t).view.emb (ix2 s r)) = X (ix2 s (fcol (fb t) r)) := by
  have hk : (fcol (fb t) r).val = 256 * (min t.val 10) + r.val := rfl
  generalize fcol (fb t) r = k at hk ⊢
  blk_ext [idx t]
theorem emb4 (s : Fin 4096) (r : Fin 256) (X : Vec F S4096x2816 .bf16) : X ((win0_4.blk t).view.emb (ix2 s r)) = X (ix2 s (fcol (fb t) r)) := by
  have hk : (fcol (fb t) r).val = 256 * (min t.val 10) + r.val := rfl
  generalize fcol (fb t) r = k at hk ⊢
  blk_ext [idx t]
theorem emb5 (s : Fin 4096) (r : Fin 256) (X : Vec F S4096x2816 .bf16) : X ((win0_5.blk t).view.emb (ix2 s r)) = X (ix2 s (fcol (fb t) r)) := by
  have hk : (fcol (fb t) r).val = 256 * (min t.val 10) + r.val := rfl
  generalize fcol (fb t) r = k at hk ⊢
  blk_ext [idx t]
theorem emb6 (s : Fin 4096) (r : Fin 256) (X : Vec F S4096x2816 .bf16) : X ((win0_6.blk t).view.emb (ix2 s r)) = X (ix2 s (fcol (fb t) r)) := by
  have hk : (fcol (fb t) r).val = 256 * (min t.val 10) + r.val := rfl
  generalize fcol (fb t) r = k at hk ⊢
  blk_ext [idx t]
theorem emb7 (s : Fin 4096) (r : Fin 256) (X : Vec F S4096x1024 .bf16) : X ((win0_7.blk t).view.emb (ix2 s r)) = X (ix2 s (wcol (wb t) r)) := by
  have hk : (wcol (wb t) r).val = 256 * (t.val - 11) + r.val := rfl
  generalize wcol (wb t) r = k at hk ⊢
  blk_ext [idx t]
theorem emb8 (r : Fin 256) (d : Fin 1024) (X : Vec F S2816x1024 .bf16) : X ((win0_8.blk t).view.emb (ix2 r d)) = X (ix2 (fcol (fb t) r) d) := by
  have hk : (fcol (fb t) r).val = 256 * (min t.val 10) + r.val := rfl
  generalize fcol (fb t) r = k at hk ⊢
  blk_ext [idx t]
theorem emb9 (r : Fin 256) (d : Fin 1024) (X : Vec F S2816x1024 .bf16) : X ((win0_9.blk t).view.emb (ix2 r d)) = X (ix2 (fcol (fb t) r) d) := by
  have hk : (fcol (fb t) r).val = 256 * (min t.val 10) + r.val := rfl
  generalize fcol (fb t) r = k at hk ⊢
  blk_ext [idx t]
theorem emb10 (r : Fin 256) (d : Fin 1024) (X : Vec F S2816x1024 .bf16) : X ((win0_10.blk t).view.emb (ix2 r d)) = X (ix2 (fcol (fb t) r) d) := by
  have hk : (fcol (fb t) r).val = 256 * (min t.val 10) + r.val := rfl
  generalize fcol (fb t) r = k at hk ⊢
  blk_ext [idx t]
theorem emb11 (d : Fin 1024) (r : Fin 256) (X : Vec F S1024x1024 .bf16) : X ((win0_11.blk t).view.emb (ix2 d r)) = X (ix2 d (wcol (wb t) r)) := by
  have hk : (wcol (wb t) r).val = 256 * (t.val - 11) + r.val := rfl
  generalize wcol (wb t) r = k at hk ⊢
  blk_ext [idx t]

theorem rd0 : ((cfg0.win 0).blk t).view.read (Elt F) (f (Pipeline.arrRef spec0 0)) = f main_v10 := by
  funext y
  rw [← ix2_eta y]
  exact emb0 t (y 0) (y 1) (f main_v10)
theorem rd1 : ((cfg0.win 1).blk t).view.read (Elt F) (f (Pipeline.arrRef spec0 1)) = f main_v12 := by
  funext y
  rw [← ix2_eta y]
  exact emb1 t (y 0) (y 1) (f main_v12)
theorem rd2 : ((cfg0.win 2).blk t).view.read (Elt F) (f (Pipeline.arrRef spec0 2)) = f main_v14 := by
  funext y
  rw [← ix2_eta y]
  exact emb2 t (y 0) (y 1) (f main_v14)
theorem rd3 : ((cfg0.win 3).blk t).view.read (Elt F) (f (Pipeline.arrRef spec0 3)) = fblock (f main_v15) (fb t) := by
  funext y
  rw [← ix2_eta y]
  exact emb3 t (y 0) (y 1) (f main_v15)
theorem rd4 : ((cfg0.win 4).blk t).view.read (Elt F) (f (Pipeline.arrRef spec0 4)) = fblock (f main_v16) (fb t) := by
  funext y
  rw [← ix2_eta y]
  exact emb4 t (y 0) (y 1) (f main_v16)
theorem rd5 : ((cfg0.win 5).blk t).view.read (Elt F) (f (Pipeline.arrRef spec0 5)) = fblock (f main_v17) (fb t) := by
  funext y
  rw [← ix2_eta y]
  exact emb5 t (y 0) (y 1) (f main_v17)
theorem rd6 : ((cfg0.win 6).blk t).view.read (Elt F) (f (Pipeline.arrRef spec0 6)) = fblock (f main_v18) (fb t) := by
  funext y
  rw [← ix2_eta y]
  exact emb6 t (y 0) (y 1) (f main_v18)
theorem rd7 : ((cfg0.win 7).blk t).view.read (Elt F) (f (Pipeline.arrRef spec0 7)) = wblock (f main_v19) (wb t) := by
  funext y
  rw [← ix2_eta y]
  exact emb7 t (y 0) (y 1) (f main_v19)

end

/-! ## The run's data -/

section
variable (m : (ℓ : Loc nD τ sig) → Buf (Elt F) ℓ) (ρ : Dev nD → PrngReg)

theorem iblk_0 (c : Dev nD) (t : Fin cfg0.N) : iblk m c 0 t = V m c main_v10 := by
  unfold iblk
  exact rd0 c t (V m c)
theorem iblk_1 (c : Dev nD) (t : Fin cfg0.N) : iblk m c 1 t = V m c main_v12 := by
  unfold iblk
  exact rd1 c t (V m c)
theorem iblk_2 (c : Dev nD) (t : Fin cfg0.N) : iblk m c 2 t = V m c main_v14 := by
  unfold iblk
  exact rd2 c t (V m c)
theorem iblk_3 (c : Dev nD) (t : Fin cfg0.N) : iblk m c 3 t = fblock (V m c main_v15) (fb t) := by
  unfold iblk
  exact rd3 c t (V m c)
theorem iblk_4 (c : Dev nD) (t : Fin cfg0.N) : iblk m c 4 t = fblock (V m c main_v16) (fb t) := by
  unfold iblk
  exact rd4 c t (V m c)
theorem iblk_5 (c : Dev nD) (t : Fin cfg0.N) : iblk m c 5 t = fblock (V m c main_v17) (fb t) := by
  unfold iblk
  exact rd5 c t (V m c)
theorem iblk_6 (c : Dev nD) (t : Fin cfg0.N) : iblk m c 6 t = fblock (V m c main_v18) (fb t) := by
  unfold iblk
  exact rd6 c t (V m c)
theorem iblk_7 (c : Dev nD) (t : Fin cfg0.N) : iblk m c 7 t = wblock (V m c main_v19) (wb t) := by
  unfold iblk
  exact rd7 c t (V m c)

/-- The block of a feed-forward matrix's gradient, and of the output projection's. -/
def gateAt (c : Dev nD) (b : Fin 11) : Vec F S256x1024 .bf16 := k0_pay2 (V m c main_v12) (fblock (V m c main_v15) b)
def upAt (c : Dev nD) (b : Fin 11) : Vec F S256x1024 .bf16 := k0_pay3 (V m c main_v12) (fblock (V m c main_v16) b)
def downAt (c : Dev nD) (b : Fin 11) : Vec F S256x1024 .bf16 := k0_pay4 (fblock (V m c main_v17) b) (fblock (V m c main_v18) b) (V m c main_v10)
def projAt (c : Dev nD) (b : Fin 4) : Vec F S1024x256 .bf16 := k0_pay5 (V m c main_v14) (wblock (V m c main_v19) b)

def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => gateAt m c (fb t)
    | ⟨9, _⟩ => upAt m c (fb t)
    | ⟨10, _⟩ => downAt m c (fb t)
    | ⟨11, _⟩ => projAt m c (wb t)
    | ⟨_ + 12, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = gateAt m c (fb t) := by dsimp only [dats]
theorem after0_9 (c : Dev nD) (t : Fin cfg0.N) : (dats m 0 c).after 9 t = upAt m c (fb t) := by dsimp only [dats]
theorem after0_10 (c : Dev nD) (t : Fin cfg0.N) : (dats m 0 c).after 10 t = downAt m c (fb t) := by dsimp only [dats]
theorem after0_11 (c : Dev nD) (t : Fin cfg0.N) : (dats m 0 c).after 11 t = projAt m c (wb t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## Which point writes what -/

theorem cond1 : ∀ t : Fin cfg0.N, k0_cond1 (grid0.coords t) = 1#1 ↔ t.val < 11 := (by decide +kernel : ∀ t : Fin grid0.N, _)
theorem cond2 : ∀ t : Fin cfg0.N, k0_cond2 (grid0.coords t) = 1#1 ↔ ¬ t.val < 11 := (by decide +kernel : ∀ t : Fin grid0.N, _)
theorem live8 : ∀ t : Fin cfg0.N, t.val < 11 → cfg0.idle 8 (cfg0.grid.coords t) = false := (by decide +kernel : ∀ t : Fin grid0.N, _)
theorem idle8 : ∀ t : Fin cfg0.N, ¬ t.val < 11 → cfg0.idle 8 (cfg0.grid.coords t) = true := (by decide +kernel : ∀ t : Fin grid0.N, _)
theorem flush8 : ∀ t : Fin cfg0.N, (cfg0.win 8).flush t = (decide (t.val < 10) || decide (t.val = 14)) := (by decide +kernel : ∀ t : Fin grid0.N, _)
theorem fetch8 : ∀ t : Fin cfg0.N, (cfg0.win 8).fetch t = false := (by decide +kernel : ∀ t : Fin grid0.N, _)
theorem live9 : ∀ t : Fin cfg0.N, t.val < 11 → cfg0.idle 9 (cfg0.grid.coords t) = false := (by decide +kernel : ∀ t : Fin grid0.N, _)
theorem idle9 : ∀ t : Fin cfg0.N, ¬ t.val < 11 → cfg0.idle 9 (cfg0.grid.coords t) = true := (by decide +kernel : ∀ t : Fin grid0.N, _)
theorem flush9 : ∀ t : Fin cfg0.N, (cfg0.win 9).flush t = (decide (t.val < 10) || decide (t.val = 14)) := (by decide +kernel : ∀ t : Fin grid0.N, _)
theorem fetch9 : ∀ t : Fin cfg0.N, (cfg0.win 9).fetch t = false := (by decide +kernel : ∀ t : Fin grid0.N, _)
theorem live10 : ∀ t : Fin cfg0.N, t.val < 11 → cfg0.idle 10 (cfg0.grid.coords t) = false := (by decide +kernel : ∀ t : Fin grid0.N, _)
theorem idle10 : ∀ t : Fin cfg0.N, ¬ t.val < 11 → cfg0.idle 10 (cfg0.grid.coords t) = true := (by decide +kernel : ∀ t : Fin grid0.N, _)
theorem flush10 : ∀ t : Fin cfg0.N, (cfg0.win 10).flush t = (decide (t.val < 10) || decide (t.val = 14)) := (by decide +kernel : ∀ t : Fin grid0.N, _)
theorem fetch10 : ∀ t : Fin cfg0.N, (cfg0.win 10).fetch t = false := (by decide +kernel : ∀ t : Fin grid0.N, _)
theorem idle11 : ∀ t : Fin cfg0.N, t.val < 11 → cfg0.idle 11 (cfg0.grid.coords t) = true := (by decide +kernel : ∀ t : Fin grid0.N, _)
theorem live11 : ∀ t : Fin cfg0.N, ¬ t.val < 11 → cfg0.idle 11 (cfg0.grid.coords t) = false := (by decide +kernel : ∀ t : Fin grid0.N, _)
theorem flush11 : ∀ t : Fin cfg0.N, t.val < 11 → (cfg0.win 11).flush t = false := (by decide +kernel : ∀ t : Fin grid0.N, _)

/-- After the eleventh point the buffer keeps its last block. -/
theorem before0_8 (c : Dev nD) (d) : ∀ (n : Nat) (h : n < 15), 11 ≤ n → (dats m 0 c).before 8 ⟨n, h⟩ d = gateAt m c 10
  | 0, _, h0 => absurd h0 (by omega)
  | n + 1, h, h0 => by
    rw [(dats m 0 c).before_of_pos 8 ⟨n + 1, h⟩ (Nat.succ_ne_zero n) (fetch8 _) d, flush8, if_neg (by simp; omega)]
    have hN : n < cfg0.N := (show n < 15 by omega)
    show (dats m 0 c).left 8 ⟨n, hN⟩ d = _
    unfold Pipeline.Dat.left
    by_cases hn : n < 11
    · rw [live8 ⟨n, hN⟩ hn]
      obtain rfl : n = 10 := by omega
      exact after0_8 m c ⟨10, by decide⟩
    · rw [idle8 ⟨n, hN⟩ hn]
      exact before0_8 c d n (by omega) (by omega)
/-- After the eleventh point the buffer keeps its last block. -/
theorem before0_9 (c : Dev nD) (d) : ∀ (n : Nat) (h : n < 15), 11 ≤ n → (dats m 0 c).before 9 ⟨n, h⟩ d = upAt m c 10
  | 0, _, h0 => absurd h0 (by omega)
  | n + 1, h, h0 => by
    rw [(dats m 0 c).before_of_pos 9 ⟨n + 1, h⟩ (Nat.succ_ne_zero n) (fetch9 _) d, flush9, if_neg (by simp; omega)]
    have hN : n < cfg0.N := (show n < 15 by omega)
    show (dats m 0 c).left 9 ⟨n, hN⟩ d = _
    unfold Pipeline.Dat.left
    by_cases hn : n < 11
    · rw [live9 ⟨n, hN⟩ hn]
      obtain rfl : n = 10 := by omega
      exact after0_9 m c ⟨10, by decide⟩
    · rw [idle9 ⟨n, hN⟩ hn]
      exact before0_9 c d n (by omega) (by omega)
/-- After the eleventh point the buffer keeps its last block. -/
theorem before0_10 (c : Dev nD) (d) : ∀ (n : Nat) (h : n < 15), 11 ≤ n → (dats m 0 c).before 10 ⟨n, h⟩ d = downAt m c 10
  | 0, _, h0 => absurd h0 (by omega)
  | n + 1, h, h0 => by
    rw [(dats m 0 c).before_of_pos 10 ⟨n + 1, h⟩ (Nat.succ_ne_zero n) (fetch10 _) d, flush10, if_neg (by simp; omega)]
    have hN : n < cfg0.N := (show n < 15 by omega)
    show (dats m 0 c).left 10 ⟨n, hN⟩ d = _
    unfold Pipeline.Dat.left
    by_cases hn : n < 11
    · rw [live10 ⟨n, hN⟩ hn]
      obtain rfl : n = 10 := by omega
      exact after0_10 m c ⟨10, by decide⟩
    · rw [idle10 ⟨n, hN⟩ hn]
      exact before0_10 c d n (by omega) (by omega)

/-! ## The body obligation -/

theorem body_obligation (c : Dev nD) : Pipeline.BodyObligation (dats (F := F) m 0 c) (defs₀ (F := F)) Variants.none () Set.univ := fun t => by
  rw [bigSep_W0, bigSep_W0]
  sl_whnfR [defs₀, Defs.onTc]
  simp only [before0_0, before0_1, before0_2, before0_3, before0_4, before0_5, before0_6, before0_7]
  rw [show (dats m 0 c).owesAt () t.succ = (dats m 0 c).owesAt () t.castSucc from rfl, show (dats m 0 c).Φ t.succ = (dats m 0 c).Φ t.castSucc from rfl,
    after0_0, after0_1, after0_2, after0_3, after0_4, after0_5, after0_6, after0_7, after0_8, after0_9, after0_10, after0_11]
  by_cases h : t.val < 11
  · have e8 : idle0 8 (grid0.coords t) = false := live8 t h
    have e9 : idle0 9 (grid0.coords t) = false := live9 t h
    have e10 : idle0 10 (grid0.coords t) = false := live10 t h
    have e11 : idle0 11 (grid0.coords t) = true := idle11 t h
    have g11 : (win0 11).flush t = false := flush11 t h
    simp only [e8, e9, e10, e11, g11]
    iintro ⟨Hφ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
    iapply (point_ffn c (grid0.coords t) _ _ _ _ _ _ _ _ _ _ _ _ _ _ _ _ _ _ _ _ _ _ _ _ ((cond1 t).2 h) (fun h2 => (cond2 t).1 h2 h) (iblk m c 0 t) (iblk m c 1 t) (iblk m c 3 t) (iblk m c 4 t) (iblk m c 5 t) (iblk m c 6 t) _)
    isplitl [H0]; · iexact H0
    isplitl [H1]; · iexact H1
    isplitl [H3]; · iexact H3
    isplitl [H4]; · iexact H4
    isplitl [H5]; · iexact H5
    isplitl [H6]; · iexact H6
    isplitl [H8]; · iexists _; iexact H8
    isplitl [H9]; · iexists _; iexact H9
    isplitl [H10]; · iexists _; iexact H10
    iintro ⟨H0, H1, H3, H4, H5, H6, H8, H9, H10⟩
    rw [show k0_pay2 (iblk m c 1 t) (iblk m c 3 t) = gateAt m c (fb t) by rw [iblk_1, iblk_3]; rfl,
      show k0_pay3 (iblk m c 1 t) (iblk m c 4 t) = upAt m c (fb t) by rw [iblk_1, iblk_4]; rfl,
      show k0_pay4 (iblk m c 5 t) (iblk m c 6 t) (iblk m c 0 t) = downAt m c (fb t) by rw [iblk_0, iblk_5, iblk_6]; rfl]
    isplitl [Hφ]; · iexact Hφ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have e8 : idle0 8 (grid0.coords t) = true := idle8 t h
    have e9 : idle0 9 (grid0.coords t) = true := idle9 t h
    have e10 : idle0 10 (grid0.coords t) = true := idle10 t h
    have e11 : idle0 11 (grid0.coords t) = false := live11 t h
    have b8 := fun d => before0_8 m c d t.val t.isLt (by omega)
    have b9 := fun d => before0_9 m c d t.val t.isLt (by omega)
    have b10 := fun d => before0_10 m c d t.val t.isLt (by omega)
    have hf : fb t = 10 := Fin.ext (by show min t.val 10 = 10; omega)
    simp only [e8, e9, e10, e11]
    iintro ⟨Hφ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (point_out c (grid0.coords t) _ _ _ _ _ _ _ _ _ _ _ _ _ _ _ _ _ _ _ _ _ _ _ _ (fun h1 => h ((cond1 t).1 h1)) ((cond2 t).2 h) (iblk m c 2 t) (iblk m c 7 t) _)
    isplitl [H2]; · iexact H2
    isplitl [H7]; · iexact H7
    isplitl [H11]; · iexists _; iexact H11
    iintro ⟨H2, H7, H11⟩
    rw [show k0_pay5 (iblk m c 2 t) (iblk m c 7 t) = projAt m c (wb t) by rw [iblk_2, iblk_7]; rfl]
    isplitl [Hφ]; · iexact Hφ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    by_cases h14 : t.val = 14
    · have g8 : (win0 8).flush t = true := (flush8 t).trans (by simp [h14])
      have g9 : (win0 9).flush t = true := (flush9 t).trans (by simp [h14])
      have g10 : (win0 10).flush t = true := (flush10 t).trans (by simp [h14])
      simp only [g8, g9, g10]
      rw [hf, ← b8 d8, ← b9 d9, ← b10 d10]
      isplitl [H8]; · iexact H8
      isplitl [H9]; · iexact H9
      isplitl [H10]; · iexact H10
      iexact H11
    · have g8 : (win0 8).flush t = false := (flush8 t).trans (by simp [h14]; omega)
      have g9 : (win0 9).flush t = false := (flush9 t).trans (by simp [h14]; omega)
      have g10 : (win0 10).flush t = false := (flush10 t).trans (by simp [h14]; omega)
      simp only [g8, g9, g10]
      isplitl [H8]; · iexists _; iexact H8
      isplitl [H9]; · iexists _; iexact H9
      isplitl [H10]; · iexists _; iexact H10
      iexact H11

/-! ## The run -/

set_option backward.isDefEq.respectTransparency.types false in
/-- Every execution ends, the results at the blocks' values and every semaphore at zero. -/
theorem run_main : θ_run (defs (F := F)) (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hin := fun _ => BIBase.Entails.rfl) (hout := fun _ => BIBase.Entails.rfl)

/-- Every execution ends, the arguments as they were and every semaphore at zero. -/
theorem frame_main : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_with_sems (frame_of m ρ (dats m) fun _ _ => rfl) (run_main m ρ)

end

end Cert.Kernel2Ideal.Value
-- ==== Proof.Words2.lean ====
/-
  The weight-gradient call as it runs has the same text as the call read over the extended reals.
-/
module

public import proofs.«01_k».proof.Defs

@[expose] public section

set_option maxRecDepth 65536
set_option maxHeartbeats 4000000

noncomputable section

open Idealize.ShloMosaic Idealize.ShloMosaic.TcCoe Idealize.SL.Sem

namespace Cert.Weights

variable [hK : Cert.Kernel2.Facts] [hKI : Cert.Kernel2Ideal.Facts]

theorem body_eq : @Cert.Kernel2Ideal.cc0_row_contracted_grads Bits _ hKI = Cert.Kernel2.cc0_row_contracted_grads (F := Bits) := by rfl

theorem defs0_eq : @Cert.Kernel2Ideal.defs₀ Bits _ hKI = Cert.Kernel2.defs₀ (F := Bits) := by
  unfold Kernel2Ideal.defs₀ Kernel2.defs₀
  refine congrArg Defs.onTc (funext fun k => funext fun x => ?_)
  match k, x with
  | 0, (t, s) =>
    show @Cert.Kernel2Ideal.cc0_row_contracted_grads Bits _ hKI _ _ _ _ _ _ _ _ _ _ _ _ _ _ _ _ _ _ _ _ _ _ _ _ _ = _
    rw [body_eq]
    rfl

theorem defs_eq : @Cert.Kernel2Ideal.defs Bits _ hKI = Cert.Kernel2.defs (F := Bits) :=
  congrArg (Pipeline.defs (Cert.Kernel2.pcfgs (F := Bits))) defs0_eq

theorem main_eq : @Cert.Kernel2Ideal.main Bits _ hKI = Cert.Kernel2.main (F := Bits) := by rfl

end Cert.Weights
-- ==== Proof.Frames2.lean ====
/-
  The frames of the weight-gradient call: every execution of each program ends, its arguments as they were and every semaphore
  counter at zero.
-/
module

public import proofs.«01_k».proof.Proof.Weights
public import proofs.«01_k».proof.Proof.Words2
public import proofs.«01_k».proof.Proof.Gen.Kernel2
public import proofs.«01_k».proof.Proof.Gen.Reference2Ideal.Run
public import proofs.«01_k».proof.Proof.Gen.Reference2Ideal

@[expose] public section

set_option maxRecDepth 65536

noncomputable section

open Idealize.ShloMosaic Idealize.ShloMosaic.TcCoe Idealize.SL.Sem

namespace Cert.Proof

theorem frame_kernel2 : Cert.quiescent_Kernel2 (hKernel2 := Cert.Kernel2.Gen.facts) := by
  intro m ρ _
  have h := @Cert.Kernel2Ideal.Value.frame_main Bits _ m ρ
  rw [Weights.defs_eq (hK := Cert.Kernel2.Gen.facts), Weights.main_eq (hK := Cert.Kernel2.Gen.facts)] at h
  exact h

theorem frame_ideal2 : Cert.quiescent_Kernel2Ideal (hKernel2Ideal := Cert.Kernel2Ideal.Gen.facts) :=
  fun m ρ _ => Cert.Kernel2Ideal.Value.frame_main (F := Ideal) m ρ

theorem frame_reference2 : Cert.quiescent_Reference2Ideal (hReference2Ideal := Cert.Reference2Ideal.Gen.facts) := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

theorem preserves2 : Cert.preserves_Kernel2_Kernel2Ideal := trivial

end Cert.Proof
-- ==== Proof.WeightsVal.lean ====
/-
  What the weight-gradient call reads and leaves, entry by entry: the host's arrays in terms of the arguments, and each block as sums
  over the positions.
-/
module

public import proofs.«01_k».proof.Proof.Weights
public import proofs.«01_k».proof.Proof.Gen.Reference2Ideal

@[expose] public section

set_option maxRecDepth 65536
set_option maxHeartbeats 8000000

noncomputable section

namespace Cert.Kernel2Ideal.Value

open Cert.Kernel2Ideal Cert.Kernel2Ideal.Gen Idealize.ShloMosaic Idealize.ShloMosaic.TcCoe Idealize.ShloMosaic.Tactic

/-! ## The arrays the host computes -/

abbrev Mat (a b : Nat) := FVec Ideal (⟨2, ![a, b]⟩ : Shape) .f32

/-- The logistic function of every entry. -/
def sigT (a : Mat 4096 2816) : Mat 4096 2816 :=
  Host.divf (broadcastInDim S4096x2816 ![] bcast_S_S4096x2816 (constant S_ .f32 0x3F800000#32))
    (addf (broadcastInDim S4096x2816 ![] bcast_S_S4096x2816 (constant S_ .f32 0x3F800000#32)) (Host.exp (Host.negf a)))
/-- The gradient by the gate's product, from the gate's and the up product and the cotangent of their combination. -/
def daT (a b g : Mat 4096 2816) : Mat 4096 2816 :=
  addf (mulf (mulf g b) (sigT a))
    (mulf (mulf a (mulf g b)) (mulf (sigT a) (subf (broadcastInDim S4096x2816 ![] bcast_S_S4096x2816 (constant S_ .f32 0x3F800000#32)) (sigT a))))
/-- The gradient by the up product. -/
def dbT (a g : Mat 4096 2816) : Mat 4096 2816 := mulf (mulf a (sigT a)) g
/-- The product of the input with a weight matrix. -/
def proj (h : Mat 4096 1024) (w : Mat 1024 2816) : Mat 4096 2816 := Host.dotGeneral dot_S4096x1024_S1024x2816_S4096x2816_1_0_0_1_n_n none h w
/-- The cotangent of the combination of gate and up product. -/
def cotT (g : Mat 4096 1024) (w : Mat 2816 1024) : Mat 4096 2816 := proj g (transpose S1024x2816 [1, 0] w transposes_S2816x1024_S1024x2816_1_0)

/-- An input turned over and cast. -/
def turnT (x : Mat 4096 1024) : FVec Ideal S1024x4096 .bf16 :=
  truncf .bf16 (transpose S1024x4096 [1, 0] x transposes_S4096x1024_S1024x4096_1_0) bitsLt_bf16_f32
def castT (x : Mat 4096 1024) : FVec Ideal S4096x1024 .bf16 := truncf .bf16 x bitsLt_bf16_f32
def castF (x : Mat 4096 2816) : FVec Ideal S4096x2816 .bf16 := truncf .bf16 x bitsLt_bf16_f32

section
variable (m : (ℓ : Loc nD τ sig) → Buf (Elt Ideal) ℓ) (c : Dev nD)

theorem V10 : V m c main_v10 = turnT (m ((c : Thread nD τ).loc main_arg4)) := by
  simp only [V, hostOps0, hostOps0_1, hostOps0_2, hostOps0_3, hostOps0_4, List.flatten_cons, List.flatten_nil, List.append_nil, List.cons_append, List.nil_append]
  entry_read
  rfl
theorem V12 : V m c main_v12 = turnT (m ((c : Thread nD τ).loc main_arg0)) := by
  simp only [V, hostOps0, hostOps0_1, hostOps0_2, hostOps0_3, hostOps0_4, List.flatten_cons, List.flatten_nil, List.append_nil, List.cons_append, List.nil_append]
  entry_read
  rfl
theorem V14 : V m c main_v14 = turnT (m ((c : Thread nD τ).loc main_arg5)) := by
  simp only [V, hostOps0, hostOps0_1, hostOps0_2, hostOps0_3, hostOps0_4, List.flatten_cons, List.flatten_nil, List.append_nil, List.cons_append, List.nil_append]
  entry_read
  rfl
theorem V19 : V m c main_v19 = castT (m ((c : Thread nD τ).loc main_arg7)) := by
  simp only [V, hostOps0, hostOps0_1, hostOps0_2, hostOps0_3, hostOps0_4, List.flatten_cons, List.flatten_nil, List.append_nil, List.cons_append, List.nil_append]
  entry_read
  rfl
theorem V17 : V m c main_v17 = castF (proj (m ((c : Thread nD τ).loc main_arg0)) (m ((c : Thread nD τ).loc main_arg1))) := by
  simp only [V, hostOps0, hostOps0_1, hostOps0_2, hostOps0_3, hostOps0_4, List.flatten_cons, List.flatten_nil, List.append_nil, List.cons_append, List.nil_append]
  entry_read
  rfl
theorem V18 : V m c main_v18 = castF (proj (m ((c : Thread nD τ).loc main_arg0)) (m ((c : Thread nD τ).loc main_arg2))) := by
  simp only [V, hostOps0, hostOps0_1, hostOps0_2, hostOps0_3, hostOps0_4, List.flatten_cons, List.flatten_nil, List.append_nil, List.cons_append, List.nil_append]
  entry_read
  rfl
theorem V15 : V m c main_v15 = castF (daT (proj (m ((c : Thread nD τ).loc main_arg0)) (m ((c : Thread nD τ).loc main_arg1)))
    (proj (m ((c : Thread nD τ).loc main_arg0)) (m ((c : Thread nD τ).loc main_arg2))) (cotT (m ((c : Thread nD τ).loc main_arg4)) (m ((c : Thread nD τ).loc main_arg3)))) := by
  simp only [V, hostOps0, hostOps0_1, hostOps0_2, hostOps0_3, hostOps0_4, List.flatten_cons, List.flatten_nil, List.append_nil, List.cons_append, List.nil_append]
  entry_read
  rfl
theorem V16 : V m c main_v16 = castF (dbT (proj (m ((c : Thread nD τ).loc main_arg0)) (m ((c : Thread nD τ).loc main_arg1)))
    (cotT (m ((c : Thread nD τ).loc main_arg4)) (m ((c : Thread nD τ).loc main_arg3)))) := by
  simp only [V, hostOps0, hostOps0_1, hostOps0_2, hostOps0_3, hostOps0_4, List.flatten_cons, List.flatten_nil, List.append_nil, List.cons_append, List.nil_append]
  entry_read
  rfl
end

/-! ## The blocks' entries -/

section
variable (X : Vec Ideal S1024x4096 .bf16) (Y Z : Vec Ideal S4096x256 .bf16)

theorem pay2_apply (r : Fin 256) (d : Fin 1024) : k0_pay2 X Y (ix2 r d) = ∑ s : Fin 4096, X (ix2 d s) * Y (ix2 s r) := by
  pointwise [k0_pay2, k0_pay1]
theorem pay3_apply (r : Fin 256) (d : Fin 1024) : k0_pay3 X Y (ix2 r d) = ∑ s : Fin 4096, X (ix2 d s) * Y (ix2 s r) := by
  pointwise [k0_pay3, k0_pay1]
theorem pay5_apply (d : Fin 1024) (r : Fin 256) : k0_pay5 X Y (ix2 d r) = ∑ s : Fin 4096, X (ix2 d s) * Y (ix2 s r) := by
  pointwise [k0_pay5]
/-- The logistic function on the extended reals. -/
def sg (x : EReal) : EReal := Ideal.div 1 (1 + Ideal.exp (-x))
theorem pay4_apply (r : Fin 256) (d : Fin 1024) : k0_pay4 Y Z X (ix2 r d) = ∑ s : Fin 4096, X (ix2 d s) * (Y (ix2 s r) * sg (Y (ix2 s r)) * Z (ix2 s r)) := by
  pointwise [k0_pay4]
  rfl
theorem sigT_apply (a : Mat 4096 2816) (s : Fin 4096) (f : Fin 2816) : sigT a (ix2 s f) = sg (a (ix2 s f)) := by
  pointwise [sigT]
  rfl
theorem turnT_apply (x : Mat 4096 1024) (d : Fin 1024) (s : Fin 4096) : turnT x (ix2 d s) = x (ix2 s d) := by
  pointwise [turnT]

/-! ## The gradients, as the reference has them -/

/-- The gradient by the gate or the up matrix, turned over, from the gradient by its product. -/
def inGradT (g : Mat 4096 2816) (h : Mat 4096 1024) : FVec Ideal Cert.Reference2Ideal.S2816x1024 .bf16 :=
  truncf .bf16 (transpose Cert.Reference2Ideal.S2816x1024 [1, 0] (transpose Cert.Reference2Ideal.S1024x2816 [1, 0]
    (Host.dotGeneral Cert.Reference2Ideal.dot_S4096x2816_S4096x1024_S2816x1024_0_0_1_1_n_n none g h)
    Cert.Reference2Ideal.Facts₀.transposes_S2816x1024_S1024x2816_1_0) Cert.Reference2Ideal.Facts₀.transposes_S1024x2816_S2816x1024_1_0) Cert.Reference2Ideal.Facts₀.bitsLt_bf16_f32
/-- The gradient by the down matrix. -/
def downGradT (g : Mat 4096 1024) (u : Mat 4096 2816) : FVec Ideal Cert.Reference2Ideal.S2816x1024 .bf16 :=
  truncf .bf16 (transpose Cert.Reference2Ideal.S2816x1024 [1, 0]
    (Host.dotGeneral Cert.Reference2Ideal.dot_S4096x1024_S4096x2816_S1024x2816_0_0_1_1_n_n none g u)
    Cert.Reference2Ideal.Facts₀.transposes_S1024x2816_S2816x1024_1_0) Cert.Reference2Ideal.Facts₀.bitsLt_bf16_f32
/-- The gradient by the output projection. -/
def outGradT (g x : Mat 4096 1024) : FVec Ideal Cert.Reference2Ideal.S1024x1024 .bf16 :=
  truncf .bf16 (transpose Cert.Reference2Ideal.S1024x1024 [1, 0]
    (Host.dotGeneral Cert.Reference2Ideal.dot_S4096x1024_S4096x1024_S1024x1024_0_0_1_1_n_n none g x)
    Cert.Reference2Ideal.Facts₀.transposes_S1024x1024_S1024x1024_1_0) Cert.Reference2Ideal.Facts₀.bitsLt_bf16_f32
/-- The combination of gate and up product. -/
def actT (a b : Mat 4096 2816) : Mat 4096 2816 := mulf (mulf a (sigT a)) b

theorem inGradT_apply (g : Mat 4096 2816) (h : Mat 4096 1024) (f : Fin 2816) (d : Fin 1024) :
    inGradT g h (ix2 f d) = ∑ s : Fin 4096, g (ix2 s f) * h (ix2 s d) := by
  pointwise [inGradT]
theorem downGradT_apply (g : Mat 4096 1024) (u : Mat 4096 2816) (f : Fin 2816) (d : Fin 1024) :
    downGradT g u (ix2 f d) = ∑ s : Fin 4096, g (ix2 s d) * u (ix2 s f) := by
  pointwise [downGradT]
theorem outGradT_apply (g x : Mat 4096 1024) (d : Fin 1024) (e : Fin 1024) :
    outGradT g x (ix2 d e) = ∑ s : Fin 4096, g (ix2 s e) * x (ix2 s d) := by
  pointwise [outGradT]
theorem actT_apply (a b : Mat 4096 2816) (s : Fin 4096) (f : Fin 2816) : actT a b (ix2 s f) = a (ix2 s f) * sg (a (ix2 s f)) * b (ix2 s f) := by
  unfold actT
  generalize hk : sigT a = k
  have hs := sigT_apply a s f
  rw [hk] at hs
  rw [← hs]
  pointwise []

/-! ## Each block is a block of the reference's gradient -/

theorem gate_block (g : Mat 4096 2816) (h : Mat 4096 1024) (b : Fin 11) (r : Fin 256) (d : Fin 1024) :
    k0_pay2 (turnT h) (fblock (castF g) b) (ix2 r d) = inGradT g h (ix2 (fcol b r) d) := by
  rw [pay2_apply, inGradT_apply]
  exact Finset.sum_congr rfl fun s _ => (congrArg (· * _) (turnT_apply h d s)).trans (mul_comm _ _)
theorem up_block (g : Mat 4096 2816) (h : Mat 4096 1024) (b : Fin 11) (r : Fin 256) (d : Fin 1024) :
    k0_pay3 (turnT h) (fblock (castF g) b) (ix2 r d) = inGradT g h (ix2 (fcol b r) d) := by
  rw [pay3_apply, inGradT_apply]
  exact Finset.sum_congr rfl fun s _ => (congrArg (· * _) (turnT_apply h d s)).trans (mul_comm _ _)
theorem down_block (a u : Mat 4096 2816) (g : Mat 4096 1024) (b : Fin 11) (r : Fin 256) (d : Fin 1024) :
    k0_pay4 (fblock (castF a) b) (fblock (castF u) b) (turnT g) (ix2 r d) = downGradT g (actT a u) (ix2 (fcol b r) d) := by
  rw [pay4_apply, downGradT_apply]
  exact Finset.sum_congr rfl fun s _ => congrArg₂ (· * ·) (turnT_apply g d s) (actT_apply a u s (fcol b r)).symm
theorem out_block (x g : Mat 4096 1024) (b : Fin 4) (d : Fin 1024) (r : Fin 256) :
    k0_pay5 (turnT x) (wblock (castT g) b) (ix2 d r) = outGradT g x (ix2 d (wcol b r)) := by
  rw [pay5_apply, outGradT_apply]
  exact Finset.sum_congr rfl fun s _ => (congrArg (· * _) (turnT_apply x d s)).trans (mul_comm _ _)
end

/-! ## The results -/

section
variable (m : (ℓ : Loc nD τ sig) → Buf (Elt Ideal) ℓ) (c : Dev nD)

theorem at2 {a b : Nat} {α : Type} (f g : (⟨2, ![a, b]⟩ : Shape).Idx → α) (h : ∀ r w, f (ix2 r w) = g (ix2 r w)) (y : (⟨2, ![a, b]⟩ : Shape).Idx) : f y = g y := by
  rw [← ix2_eta y]; exact h _ _

theorem arr8 (G : Vec Ideal S2816x1024 .bf16) (h : ∀ b r d, gateAt m c b (ix2 r d) = G (ix2 (fcol b r) d)) : (dats m 0 c).arrAt 8 (cfgs 0).N = G := by
  refine (dats m 0 c).arrAt_eq_of_covers 8 _ (by decide +kernel) fun t hf y => ?_
  blk_simp
  rw [after0_8]
  exact at2 _ (fun y => G ((win0_8.blk t).view.emb y)) (fun r d => (h (fb t) r d).trans (emb8 t r d G).symm) y
theorem arr9 (G : Vec Ideal S2816x1024 .bf16) (h : ∀ b r d, upAt m c b (ix2 r d) = G (ix2 (fcol b r) d)) : (dats m 0 c).arrAt 9 (cfgs 0).N = G := by
  refine (dats m 0 c).arrAt_eq_of_covers 9 _ (by decide +kernel) fun t hf y => ?_
  blk_simp
  rw [after0_9]
  exact at2 _ (fun y => G ((win0_9.blk t).view.emb y)) (fun r d => (h (fb t) r d).trans (emb9 t r d G).symm) y
theorem arr10 (G : Vec Ideal S2816x1024 .bf16) (h : ∀ b r d, downAt m c b (ix2 r d) = G (ix2 (fcol b r) d)) : (dats m 0 c).arrAt 10 (cfgs 0).N = G := by
  refine (dats m 0 c).arrAt_eq_of_covers 10 _ (by decide +kernel) fun t hf y => ?_
  blk_simp
  rw [after0_10]
  exact at2 _ (fun y => G ((win0_10.blk t).view.emb y)) (fun r d => (h (fb t) r d).trans (emb10 t r d G).symm) y
theorem arr11 (G : Vec Ideal S1024x1024 .bf16) (h : ∀ b d r, projAt m c b (ix2 d r) = G (ix2 d (wcol b r))) : (dats m 0 c).arrAt 11 (cfgs 0).N = G := by
  refine (dats m 0 c).arrAt_eq_of_covers 11 _ (by decide +kernel) fun t hf y => ?_
  blk_simp
  rw [after0_11]
  exact at2 _ (fun y => G ((win0_11.blk t).view.emb y)) (fun d r => (h (wb t) d r).trans (emb11 t d r G).symm) y

/-- The gate's and the up product of the arguments, and the cotangent of their combination. -/
abbrev gateP : Mat 4096 2816 := proj (m ((c : Thread nD τ).loc main_arg0)) (m ((c : Thread nD τ).loc main_arg1))
abbrev upP : Mat 4096 2816 := proj (m ((c : Thread nD τ).loc main_arg0)) (m ((c : Thread nD τ).loc main_arg2))
abbrev cotP : Mat 4096 2816 := cotT (m ((c : Thread nD τ).loc main_arg4)) (m ((c : Thread nD τ).loc main_arg3))

theorem final8 : (dats m 0 c).arrAt 8 (cfgs 0).N = inGradT (daT (gateP m c) (upP m c) (cotP m c)) (m ((c : Thread nD τ).loc main_arg0)) :=
  arr8 m c _ fun b r d => by unfold gateAt; rw [V12, V15]; exact gate_block _ _ b r d
theorem final9 : (dats m 0 c).arrAt 9 (cfgs 0).N = inGradT (dbT (gateP m c) (cotP m c)) (m ((c : Thread nD τ).loc main_arg0)) :=
  arr9 m c _ fun b r d => by unfold upAt; rw [V12, V16]; exact up_block _ _ b r d
theorem final10 : (dats m 0 c).arrAt 10 (cfgs 0).N = downGradT (m ((c : Thread nD τ).loc main_arg4)) (actT (gateP m c) (upP m c)) :=
  arr10 m c _ fun b r d => by unfold downAt; rw [V10, V17, V18]; exact down_block _ _ _ b r d
theorem final11 : (dats m 0 c).arrAt 11 (cfgs 0).N = outGradT (m ((c : Thread nD τ).loc main_arg7)) (m ((c : Thread nD τ).loc main_arg5)) :=
  arr11 m c _ fun b d r => by unfold projAt; rw [V14, V19]; exact out_block _ _ b d r
end

end Cert.Kernel2Ideal.Value
-- ==== Proof.Algebraic2.lean ====
/-
  From the same arguments the weight-gradient call and its reference leave the same four arrays.
-/
module

public import proofs.«01_k».proof.Defs
public import proofs.«01_k».proof.Proof.Frames2
public import proofs.«01_k».proof.Proof.WeightsVal

@[expose] public section

set_option maxRecDepth 16384

noncomputable section

open Idealize.ShloMosaic Idealize.ShloMosaic.TcCoe Idealize.SL.Sem

namespace Cert.Reference2Ideal.Value

open Cert.Reference2Ideal Cert.Reference2Ideal.Gen Cert.Kernel2Ideal.Value

/-- The cotangent by a product with the rows of the weight matrix is the product with the matrix turned over. -/
theorem cot_eq (g : Mat 4096 1024) (w : Mat 2816 1024) :
    Host.dotGeneral dot_S4096x1024_S2816x1024_S4096x2816_1_1_0_0_n_n none g w = cotT g w := by
  funext y
  rw [← ix2_eta y]
  generalize y 0 = s
  generalize y 1 = f
  pointwise [cotT, proj]

section
variable (a0 : Mat 4096 1024) (a1 a2 : Mat 1024 2816) (a3 : Mat 2816 1024) (a4 a5 a7 : Mat 4096 1024)

theorem out0_eq : truncf .bf16 (transpose S2816x1024 [1, 0] (transpose S1024x2816 [1, 0] (Host.dotGeneral dot_S4096x2816_S4096x1024_S2816x1024_0_0_1_1_n_n none (addf (mulf (mulf (Host.dotGeneral dot_S4096x1024_S2816x1024_S4096x2816_1_1_0_0_n_n none a4 a3) (Host.dotGeneral dot_S4096x1024_S1024x2816_S4096x2816_1_0_0_1_n_n none a0 a2)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none a0 a1)))))) (mulf (mulf (Host.dotGeneral dot_S4096x1024_S1024x2816_S4096x2816_1_0_0_1_n_n none a0 a1) (mulf (Host.dotGeneral dot_S4096x1024_S2816x1024_S4096x2816_1_1_0_0_n_n none a4 a3) (Host.dotGeneral dot_S4096x1024_S1024x2816_S4096x2816_1_0_0_1_n_n none a0 a2))) (mulf (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none a0 a1))))) (subf (broadcastInDim S4096x2816 ![] bcast_S_S4096x2816 (constant S_ .f32 0x3F800000#32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none a0 a1))))))))) a0) transposes_S2816x1024_S1024x2816_1_0) transposes_S1024x2816_S2816x1024_1_0) bitsLt_bf16_f32
    = inGradT (daT (proj a0 a1) (proj a0 a2) (cotT a4 a3)) a0 := by
  rw [← cot_eq]
  rfl

theorem out1_eq : truncf .bf16 (transpose S2816x1024 [1, 0] (transpose S1024x2816 [1, 0] (Host.dotGeneral dot_S4096x2816_S4096x1024_S2816x1024_0_0_1_1_n_n none (mulf (mulf (Host.dotGeneral dot_S4096x1024_S1024x2816_S4096x2816_1_0_0_1_n_n none a0 a1) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none a0 a1)))))) (Host.dotGeneral dot_S4096x1024_S2816x1024_S4096x2816_1_1_0_0_n_n none a4 a3)) a0) transposes_S2816x1024_S1024x2816_1_0) transposes_S1024x2816_S2816x1024_1_0) bitsLt_bf16_f32
    = inGradT (dbT (proj a0 a1) (cotT a4 a3)) a0 := by
  rw [← cot_eq]
  rfl

theorem out2_eq : truncf .bf16 (transpose S2816x1024 [1, 0] (Host.dotGeneral dot_S4096x1024_S4096x2816_S1024x2816_0_0_1_1_n_n none a4 (mulf (mulf (Host.dotGeneral dot_S4096x1024_S1024x2816_S4096x2816_1_0_0_1_n_n none a0 a1) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none a0 a1)))))) (Host.dotGeneral dot_S4096x1024_S1024x2816_S4096x2816_1_0_0_1_n_n none a0 a2))) transposes_S1024x2816_S2816x1024_1_0) bitsLt_bf16_f32
    = downGradT a4 (actT (proj a0 a1) (proj a0 a2)) := by
  rfl

theorem out3_eq : truncf .bf16 (transpose S1024x1024 [1, 0] (Host.dotGeneral dot_S4096x1024_S4096x1024_S1024x1024_0_0_1_1_n_n none a7 a5) transposes_S1024x1024_S1024x1024_1_0) bitsLt_bf16_f32
    = outGradT a7 a5 := by
  rfl

end

end Cert.Reference2Ideal.Value

namespace Cert.Proof

theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => (Cert.Kernel2Ideal.Value.dats m 0 c).arrAt 8 (Cert.Kernel2Ideal.cfgs 0).N, fun c => (Cert.Kernel2Ideal.Value.dats m 0 c).arrAt 9 (Cert.Kernel2Ideal.cfgs 0).N,
    fun c => (Cert.Kernel2Ideal.Value.dats m 0 c).arrAt 10 (Cert.Kernel2Ideal.cfgs 0).N, fun c => (Cert.Kernel2Ideal.Value.dats m 0 c).arrAt 11 (Cert.Kernel2Ideal.cfgs 0).N, ?_, ?_⟩
  · refine (θ_run Cert.Kernel2Ideal.defs _ _).mono (fun r h c => ?_) (Cert.Kernel2Ideal.Value.run_main m g)
    have hr := h.1
    exact ⟨hr.out_eq c 8, hr.out_eq c 9, hr.out_eq c 10, hr.out_eq c 11,
      (hr.rest_eq c Cert.Kernel2Ideal.main_arg0 (by decide)).trans (Cert.Kernel2Ideal.Gen.V_main_arg0 m c),
      (hr.rest_eq c Cert.Kernel2Ideal.main_arg1 (by decide)).trans (Cert.Kernel2Ideal.Gen.V_main_arg1 m c),
      (hr.rest_eq c Cert.Kernel2Ideal.main_arg2 (by decide)).trans (Cert.Kernel2Ideal.Gen.V_main_arg2 m c),
      (hr.rest_eq c Cert.Kernel2Ideal.main_arg3 (by decide)).trans (Cert.Kernel2Ideal.Gen.V_main_arg3 m c),
      (hr.rest_eq c Cert.Kernel2Ideal.main_arg4 (by decide)).trans (Cert.Kernel2Ideal.Gen.V_main_arg4 m c),
      (hr.rest_eq c Cert.Kernel2Ideal.main_arg5 (by decide)).trans (Cert.Kernel2Ideal.Gen.V_main_arg5 m c),
      (hr.rest_eq c Cert.Kernel2Ideal.main_arg6 (by decide)).trans (Cert.Kernel2Ideal.Gen.V_main_arg6 m c),
      (hr.rest_eq c Cert.Kernel2Ideal.main_arg7 (by decide)).trans (Cert.Kernel2Ideal.Gen.V_main_arg7 m c)⟩
  · refine (θ_run Cert.Reference2Ideal.defs _ _).mono (fun r h c => ?_) (Cert.Reference2Ideal.Value.run (F := Ideal) m' g')
    obtain ⟨e0, e1, e2, e3, e4, e5, e6, e7⟩ := hagree c
    obtain ⟨h8, h9, h10, h11, hrest⟩ := h c
    refine ⟨h8.trans ?_, h9.trans ?_, h10.trans ?_, h11.trans ?_, hrest⟩
    · rw [e0, e1, e2, e3, e4]
      exact (Cert.Reference2Ideal.Value.out0_eq _ _ _ _ _).trans (Cert.Kernel2Ideal.Value.final8 m c).symm
    · rw [e0, e1, e3, e4]
      exact (Cert.Reference2Ideal.Value.out1_eq _ _ _ _).trans (Cert.Kernel2Ideal.Value.final9 m c).symm
    · rw [e0, e1, e2, e4]
      exact (Cert.Reference2Ideal.Value.out2_eq _ _ _ _).trans (Cert.Kernel2Ideal.Value.final10 m c).symm
    · rw [e5, e7]
      exact (Cert.Reference2Ideal.Value.out3_eq _ _).trans (Cert.Kernel2Ideal.Value.final11 m c).symm

end Cert.Proof

end
-- ==== Proof.TokenRun.lean ====
/-
  One grid point of the feed-forward call after the first: run over staging buffers held whole. The run finds the pieces it
  writes over each buffer it fills; the seven running sums, which every point adds to, it leaves at some contents.
-/
module

public import proofs.«01_k».proof.Proof.Gen.Kernel3Ideal.Frame.RunA

@[expose] public section

set_option maxRecDepth 16384

noncomputable section

namespace Cert.Kernel3Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (UR sig nD τ) ℕ

/-- The bytes of a buffer, holding the pieces of a list written one after the other over some contents. -/
abbrev filled {S : Shape} {e : EltTy} (c : Dev nD) (a : Memref sig .tc .vmem S e) (L : List (View.Piece (Elt F) S e)) : sProp 𝕄 :=
  iprop(∃ f, a.view.loc (c : Thread nD τ) ↦[a.view.set]{fullShare} a.view.writes (Elt F) f L)
/-- A buffer at some contents. -/
abbrev any {S : Shape} {e : EltTy} (c : Dev nD) (a : Memref sig .tc .vmem S e) : sProp 𝕄 := iprop(∃ d : Vec F S e, owns (c : Thread nD τ) a fullShare d)
/-- A buffer at given contents. -/
abbrev at_ {S : Shape} {e : EltTy} (c : Dev nD) (a : Memref sig .tc .vmem S e) (d : Vec F S e) : sProp 𝕄 := owns (c : Thread nD τ) a fullShare d

set_option maxHeartbeats 6000000 in
def laterPoint (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S1x6144 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1024x256 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S1024x256 .bf16) (harg17 : arg17.IsWhole) (arg18 : Memref sig .tc .vmem S256x1024 .f32) (harg18 : arg18.IsWhole) (arg19 : Memref sig .tc .vmem S256x1024 .bf16) (harg19 : arg19.IsWhole) (arg20 : Memref sig .tc .vmem S1024x256 .bf16) (harg20 : arg20.IsWhole) (arg21 : Memref sig .tc .vmem S256x512 .bf16) (harg21 : arg21.IsWhole) (arg22 : Memref sig .tc .vmem S256x512 .f32) (harg22 : arg22.IsWhole) (arg23 : Memref sig .tc .vmem S8x128 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S256x2816 .bf16) (harg30 : arg30.IsWhole) (hc0 : ¬ cond0_0 i)
    (x0 : Vec F S256x1024 .f32) (x1 : Vec F S256x512 .bf16) (x2 : Vec F S256x512 .bf16) (x3 : Vec F S1x6144 .f32) (x4 : Vec F S1024x1024 .bf16) (x5 : Vec F S1x1024 .f32) (x6 : Vec F S2816x1024 .bf16) (x7 : Vec F S2816x1024 .bf16) (x8 : Vec F S2816x1024 .bf16) (x9 : Vec F S1x1024 .f32) (x10 : Vec F S256x1024 .f32) :
    Σ' (L11 : List (View.Piece (Elt F) S1024x256 .bf16)), Σ' (L12 : List (View.Piece (Elt F) S256x2816 .bf16)), Σ' (L13 : List (View.Piece (Elt F) S256x2816 .bf16)), Σ' (L14 : List (View.Piece (Elt F) S256x2816 .bf16)), Σ' (L15 : List (View.Piece (Elt F) S256x2816 .bf16)), Σ' (L16 : List (View.Piece (Elt F) S1024x256 .bf16)), Σ' (L17 : List (View.Piece (Elt F) S256x1024 .f32)), Σ' (L18 : List (View.Piece (Elt F) S256x1024 .bf16)), Σ' (L19 : List (View.Piece (Elt F) S1024x256 .bf16)), Σ' (L20 : List (View.Piece (Elt F) S256x512 .bf16)), { L21 : List (View.Piece (Elt F) S256x512 .f32) //
      ∀ (E : Set ℕ) (K : PUnit → sProp 𝕄),
        iprop(at_ c arg1 x0 ∗ at_ c arg2 x1 ∗ at_ c arg3 x2 ∗ at_ c arg4 x3 ∗ at_ c arg5 x4 ∗ at_ c arg6 x5 ∗ at_ c arg7 x6 ∗ at_ c arg8 x7 ∗ at_ c arg9 x8 ∗ at_ c arg10 x9 ∗ at_ c arg11 x10 ∗ any (F := F) c arg12 ∗ any (F := F) c arg13 ∗ any (F := F) c arg14 ∗ any (F := F) c arg15 ∗ any (F := F) c arg16 ∗ any (F := F) c arg17 ∗ any (F := F) c arg18 ∗ any (F := F) c arg19 ∗ any (F := F) c arg20 ∗ any (F := F) c arg21 ∗ any (F := F) c arg22 ∗ any (F := F) c arg23 ∗ any (F := F) c arg24 ∗ any (F := F) c arg25 ∗ any (F := F) c arg26 ∗ any (F := F) c arg27 ∗ any (F := F) c arg28 ∗ any (F := F) c arg29 ∗ any (F := F) c arg30
            ∗ (iprop(at_ c arg1 x0 ∗ at_ c arg2 x1 ∗ at_ c arg3 x2 ∗ at_ c arg4 x3 ∗ at_ c arg5 x4 ∗ at_ c arg6 x5 ∗ at_ c arg7 x6 ∗ at_ c arg8 x7 ∗ at_ c arg9 x8 ∗ at_ c arg10 x9 ∗ at_ c arg11 x10 ∗ filled c arg12 L11 ∗ filled c arg13 L12 ∗ filled c arg14 L13 ∗ filled c arg15 L14 ∗ filled c arg16 L15 ∗ filled c arg17 L16 ∗ filled c arg18 L17 ∗ filled c arg19 L18 ∗ filled c arg20 L19 ∗ filled c arg21 L20 ∗ filled c arg22 L21 ∗ any (F := F) c arg23 ∗ any (F := F) c arg24 ∗ any (F := F) c arg25 ∗ any (F := F) c arg26 ∗ any (F := F) c arg27 ∗ any (F := F) c arg28 ∗ any (F := F) c arg29 ∗ any (F := F) c arg30) -∗ K ⟨⟩))
          ⊢ wp frame (wpE (defs₀ (F := F)) Variants.none c none) E (cc0_ffn_fwd_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, ?_, ?_, ?_, ?_, ?_, ?_, fun E K => ?run⟩
  case run =>
    simp only [cc0_ffn_fwd_bwd_eq_skeleton]; unfold cc0_ffn_fwd_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold filled any at_ owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, %hf20, H20⟩, ⟨%d21, %f21, %hf21, H21⟩, ⟨%d22, %f22, %hf22, H22⟩, ⟨%d23, %f23, %hf23, H23⟩, ⟨%d24, %f24, %hf24, H24⟩, ⟨%d25, %f25, %hf25, H25⟩, ⟨%d26, %f26, %hf26, H26⟩, ⟨%d27, %f27, %hf27, H27⟩, ⟨%d28, %f28, %hf28, H28⟩, ⟨%d29, %f29, %hf29, H29⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexists _; isplitr; swap; (· iexact H22); ipureintro; rfl
    isplitl [H23]; · iexists _; iexists _; isplitr; swap; (· iexact H23); ipureintro; rfl
    isplitl [H24]; · iexists _; iexists _; isplitr; swap; (· iexact H24); ipureintro; rfl
    isplitl [H25]; · iexists _; iexists _; isplitr; swap; (· iexact H25); ipureintro; rfl
    isplitl [H26]; · iexists _; iexists _; isplitr; swap; (· iexact H26); ipureintro; rfl
    isplitl [H27]; · iexists _; iexists _; isplitr; swap; (· iexact H27); ipureintro; rfl
    isplitl [H28]; · iexists _; iexists _; isplitr; swap; (· iexact H28); ipureintro; rfl
    iexists _; iexists _; isplitr; swap; (· iexact H29); ipureintro; rfl

end Cert.Kernel3Ideal.Value

end
-- ==== Proof.TokenForm.lean ====
/-
  What one grid point of the feed-forward call leaves in each buffer it fills, as a function of the blocks it reads.
-/
module

public import Idealize.ShloMosaic.Lib.Pointwise
public import Idealize.ShloMosaic.Lib.Ring
public import Idealize.ShloMosaic.Lib.VecWindow
public import Idealize.ShloMosaic.Lib.Pipeline.ValueKit
public import proofs.«01_k».proof.Proof.Gen.Kernel3Ideal.Skeleton

@[expose] public section

set_option maxRecDepth 16384

noncomputable section

namespace Cert.Kernel3Ideal.Value

open Idealize.ShloMosaic Idealize.ShloMosaic.TcCoe Idealize.ShloMosaic.Tactic
open Cert.Kernel3Ideal Cert.Kernel3Ideal.Gen

variable {F : FTy → Type} [FloatOps F]

/-- The blocks a point reads. -/
structure Blk (F : FTy → Type) where
  x : Vec F S256x1024 .f32
  ym : Vec F S256x512 .bf16
  yp : Vec F S256x512 .bf16
  cond : Vec F S1x6144 .f32
  wo : Vec F S1024x1024 .bf16
  gffn : Vec F S1x1024 .f32
  wg : Vec F S2816x1024 .bf16
  wu : Vec F S2816x1024 .bf16
  wd : Vec F S2816x1024 .bf16
  gfin : Vec F S1x1024 .f32
  tgt : Vec F S256x1024 .f32

/-- Rows `256 k` to `256 k + 255` of a feed-forward matrix. -/
def rows (w : Vec F S2816x1024 .bf16) (k : Fin 11) : Vec F S256x1024 .bf16 :=
  View.ld w (Rect.unit (s := S2816x1024) ![256 * k.val, 0] S256x1024.size (by
    intro a; have := k.isLt; fin_cases a <;> simp [Shape.size] <;> omega))
theorem inbCols (k : Fin 11) : ∀ a, (![0, 256 * k.val] : Fin 2 → ℕ) a + S256x256.size a ≤ S256x2816.size a := by
  intro a; have := k.isLt; fin_cases a <;> simp [Shape.size] <;> omega
/-- The box of columns `256 k` to `256 k + 255` of a block of hidden features. -/
abbrev colBox (k : Fin 11) : Rect S256x2816 := Rect.unit (s := S256x2816) ![0, 256 * k.val] S256x256.size (inbCols k)
/-- A block of hidden features from its eleven chunks of columns. -/
def tiled (p : Fin 11 → Vec F S256x256 .bf16) : Vec F S256x2816 .bf16 := fun y =>
  p ⟨(y 1).val / 256, by have h : (y 1).val < 2816 := (y 1).isLt; omega⟩ (ix2 ⟨(y 0).val, (y 0).isLt⟩ ⟨(y 1).val % 256, Nat.mod_lt _ (by omega)⟩)
/-- The stores of the eleven chunks, the last first. -/
def tiles (p : Fin 11 → Vec F S256x256 .bf16) : List (View.Piece (Elt F) S256x2816 .bf16) :=
  [⟨colBox 10, p 10⟩, ⟨colBox 9, p 9⟩, ⟨colBox 8, p 8⟩, ⟨colBox 7, p 7⟩, ⟨colBox 6, p 6⟩, ⟨colBox 5, p 5⟩, ⟨colBox 4, p 4⟩, ⟨colBox 3, p 3⟩, ⟨colBox 2, p 2⟩,
    ⟨colBox 1, p 1⟩, ⟨colBox 0, p 0⟩]

theorem tiled_emb (p : Fin 11 → Vec F S256x256 .bf16) (k : Fin 11) (x : S256x256.Idx) : tiled p ((colBox k).emb x) = p k x := by
  have h1 : (x 1).val < 256 := (x 1).isLt
  have e0 : (((colBox k).emb x) 0).val = (x 0).val := (show 0 + 1 * (x 0).val = (x 0).val by omega)
  have e1 : (((colBox k).emb x) 1).val = 256 * k.val + (x 1).val := (show 256 * k.val + 1 * (x 1).val = 256 * k.val + (x 1).val by omega)
  have hk : (⟨(((colBox k).emb x) 1).val / 256, by rw [e1]; have := k.isLt; omega⟩ : Fin 11) = k := Fin.ext (by
    show (((colBox k).emb x) 1).val / 256 = k.val
    omega)
  unfold tiled
  have hx : (ix2 (n0 := 256) (n1 := 256) ⟨(((colBox k).emb x) 0).val, by rw [e0]; exact (x 0).isLt⟩ ⟨(((colBox k).emb x) 1).val % 256, Nat.mod_lt _ (by omega)⟩ : S256x256.Idx) = x := by
    funext a
    apply Fin.ext
    fin_cases a
    · exact e0
    · show (((colBox k).emb x) 1).val % 256 = (x 1).val
      omega
  exact (congrArg₂ (fun q z => p q z) hk hx)

theorem tiles_cover (p : Fin 11 → Vec F S256x256 .bf16) : ∀ y, ∃ q ∈ tiles p, y ∈ q.1.set :=
  View.cover_of_tiledL (tiles p) S256x256.size (by sl_kernel_rfl)
theorem canon_tiles (p : Fin 11 → Vec F S256x256 .bf16) : View.canon (tiles p) = tiled p := by
  funext y
  refine View.canon_apply_of_pieces (tiled p) (tiles p) ?_ y (tiles_cover p y)
  intro q hq x
  simp only [tiles, List.mem_cons, List.not_mem_nil, or_false] at hq
  rcases hq with rfl | rfl | rfl | rfl | rfl | rfl | rfl | rfl | rfl | rfl | rfl <;> exact (tiled_emb p _ x).symm

theorem readCov_tiles (v : View sig .tc .vmem S256x2816 .bf16) (p : Fin 11 → Vec F S256x256 .bf16) (k : Fin 11) :
    v.readCov (Val := Elt F) (tiles p) (colBox k).toLoadRect = p k := by
  rw [View.readCov_eq_canon _ _ _ (fun j => tiles_cover p _), canon_tiles]
  funext x
  exact tiled_emb p k x
theorem readCov_tiles_whole (v : View sig .tc .vmem S256x2816 .bf16) (p : Fin 11 → Vec F S256x256 .bf16) :
    v.readCov (Val := Elt F) (tiles p) (Rect.unit (s := S256x2816) ![0, 0] S256x2816.size inb_S256x2816_S256x2816_0_0).toLoadRect = tiled p := by
  rw [View.readCov_eq_canon _ _ _ (fun j => tiles_cover p _), canon_tiles]
  exact View.ld_unit_zero (S := S256x2816) (funext fun a => by fin_cases a <;> rfl) _ _

namespace Blk
variable (I : Blk F)

/-- The four parts of the conditioning row the call uses: the gate of the mixer, the shift and the scale of the feed-forward, its gate. -/
def gt1 : Vec F S1x1024 .f32 := View.ld I.cond (Rect.unit (s := S1x6144) ![0, 2048] S1x1024.size inb_S1x6144_S1x1024_0_2048)
def sh2 : Vec F S1x1024 .f32 := View.ld I.cond (Rect.unit (s := S1x6144) ![0, 3072] S1x1024.size inb_S1x6144_S1x1024_0_3072)
def sc2 : Vec F S1x1024 .f32 := View.ld I.cond (Rect.unit (s := S1x6144) ![0, 4096] S1x1024.size inb_S1x6144_S1x1024_0_4096)
def gt2 : Vec F S1x1024 .f32 := View.ld I.cond (Rect.unit (s := S1x6144) ![0, 5120] S1x1024.size inb_S1x6144_S1x1024_0_5120)
/-- The rows after the mixer, and their mean squares. -/
def x2 : FVec F S256x1024 .f32 := k0_pay13 I.gt1 I.ym I.yp I.wo I.x
def ms : FVec F S256x1 .f32 := k0_pay14 I.gt1 I.ym I.yp I.wo I.x
/-- The rows the feed-forward reads. -/
def hid : FVec F S256x1024 .bf16 := k0_pay18 I.sh2 I.sc2 I.gffn I.x2 I.ms
/-- The chunks of the two products, and of the activation. -/
def aC (k : Fin 11) : Vec F S256x256 .bf16 := k0_pay28 I.hid (rows I.wg k)
def bC (k : Fin 11) : Vec F S256x256 .bf16 := k0_pay28 I.hid (rows I.wu k)
def fC (k : Fin 11) : Vec F S256x256 .bf16 := k0_pay34 I.hid (rows I.wg k) (rows I.wu k)
/-- The last norm and the error. -/
def r3 : FVec F S256x1 .f32 := k0_pay80 I.gt2 I.x2 (tiled I.fC) I.wd
def n3 : FVec F S256x1024 .f32 := k0_pay81 I.gt2 I.x2 (tiled I.fC) I.wd
def err : FVec F S256x1024 .f32 := k0_pay82 I.gt2 I.x2 (tiled I.fC) I.wd I.gfin I.tgt
/-- The gradients of the rows after the feed-forward and of its output. -/
def dx3 : FVec F S256x1024 .f32 := k0_pay88 I.r3 I.n3 I.gfin I.err
def dff : FVec F S256x1024 .bf16 := k0_pay91 I.gt2 I.r3 I.n3 I.gfin I.err
def dbC (k : Fin 11) : Vec F S256x256 .bf16 := k0_pay102 I.dff (rows I.wd k) (I.aC k)
def daC (k : Fin 11) : Vec F S256x256 .bf16 := k0_pay108 I.dff (rows I.wd k) (I.aC k) (I.bC k)
def dh : FVec F S256x1024 .f32 := k0_pay154 (tiled I.daC) I.wg (tiled I.dbC) I.wu
def r2 : FVec F S256x1 .f32 := k0_pay15 I.ms
def n2 : FVec F S256x1024 .f32 := k0_pay16 I.x2 I.ms

/-! The eleven blocks left. -/
def o11 : Vec F S1024x256 .bf16 := k0_pay19 I.sh2 I.sc2 I.gffn I.x2 I.ms
def o16 : Vec F S1024x256 .bf16 := k0_pay92 I.gt2 I.r3 I.n3 I.gfin I.err
def o17 : Vec F S256x1024 .f32 := k0_pay159 I.sc2 I.gffn I.r2 I.n2 I.dx3 I.dh
def o18 : Vec F S256x1024 .bf16 := k0_pay161 I.gt1 I.sc2 I.gffn I.r2 I.n2 I.dx3 I.dh
def o19 : Vec F S1024x256 .bf16 := k0_pay11 I.ym I.yp
def o20 : Vec F S256x512 .bf16 := k0_pay1 (k0_pay163 I.gt1 I.sc2 I.gffn I.r2 I.n2 I.dx3 I.dh I.wo)
def o21 : Vec F S256x512 .f32 := k0_pay2 (k0_pay162 I.gt1 I.sc2 I.gffn I.r2 I.n2 I.dx3 I.dh I.wo)
end Blk

end Cert.Kernel3Ideal.Value
-- ==== Proof.TokenPieces.lean ====
/-
  The pieces a grid point of the feed-forward call stores, read back: the blocks of `Blk`.
-/
module

public import proofs.«01_k».proof.Proof.TokenRun
public import proofs.«01_k».proof.Proof.TokenForm

@[expose] public section

set_option maxRecDepth 65536
set_option maxHeartbeats 8000000

noncomputable section

namespace Cert.Kernel3Ideal.Value

open Idealize.ShloMosaic Idealize.ShloMosaic.TcCoe Idealize.ShloMosaic.Tactic
open Cert.Kernel3Ideal Cert.Kernel3Ideal.Gen

variable {F : FTy → Type} [FloatOps F]

theorem hz : (![0, 0] : Fin 2 → ℕ) = fun _ => 0 := funext fun a => by fin_cases a <;> rfl

/-- A load of a buffer held whole reads the contents at the load's box; -/
theorem rd {S : Shape} {e : EltTy} (a : Memref sig .tc .vmem S e) (h : a.IsWhole) (x : Vec F S e) (R : Rect S) :
    View.readAt (Elt F) a.view R.toLoadRect (h.unread x) = View.ld x R := by
  rw [View.readAt_eq_ld, h.read_unread]
/-- and a whole load the contents. -/
theorem rdw {a b : ℕ} {e : EltTy} (m : Memref sig .tc .vmem ⟨2, ![a, b]⟩ e) (h : m.IsWhole) (x : Vec F ⟨2, ![a, b]⟩ e)
    (inb : ∀ t, (![0, 0] : Fin 2 → ℕ) t + (⟨2, ![a, b]⟩ : Shape).size t ≤ (⟨2, ![a, b]⟩ : Shape).size t) :
    View.readAt (Elt F) m.view (Rect.unit (s := ⟨2, ![a, b]⟩) ![0, 0] (⟨2, ![a, b]⟩ : Shape).size inb).toLoadRect (h.unread x) = x := by
  rw [rd, View.ld_unit_zero (S := ⟨2, ![a, b]⟩) hz]

/-- A load of one chunk of columns after the eleven stores reads the chunk. -/
theorem rdc (v : View sig .tc .vmem S256x2816 .bf16) (p : Fin 11 → Vec F S256x256 .bf16) (off : ℕ) (h : off % 256 = 0) (h' : off < 2816)
    (inb : ∀ a, (![0, off] : Fin 2 → ℕ) a + S256x256.size a ≤ S256x2816.size a) :
    v.readCov (Val := Elt F) (tiles p) (Rect.unit (s := S256x2816) ![0, off] S256x256.size inb).toLoadRect = p ⟨off / 256, by omega⟩ := by
  obtain ⟨k, rfl⟩ : ∃ k, off = 256 * k := ⟨off / 256, by omega⟩
  refine (readCov_tiles v p ⟨k, by omega⟩).trans (congrArg p (Fin.ext ?_))
  show k = 256 * k / 256
  omega

section
variable (c : Dev nD) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S1x6144 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1024x256 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S1024x256 .bf16) (harg17 : arg17.IsWhole) (arg18 : Memref sig .tc .vmem S256x1024 .f32) (harg18 : arg18.IsWhole) (arg19 : Memref sig .tc .vmem S256x1024 .bf16) (harg19 : arg19.IsWhole) (arg20 : Memref sig .tc .vmem S1024x256 .bf16) (harg20 : arg20.IsWhole) (arg21 : Memref sig .tc .vmem S256x512 .bf16) (harg21 : arg21.IsWhole) (arg22 : Memref sig .tc .vmem S256x512 .f32) (harg22 : arg22.IsWhole) (arg23 : Memref sig .tc .vmem S8x128 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S256x2816 .bf16) (harg30 : arg30.IsWhole)
  (I : Blk F)

theorem w_gt1 : kernelRun0_A.sl.r c arg4 harg4 I.cond = I.gt1 := by
  unfold kernelRun0_A.sl.r
  rw [rd]
  rfl
theorem w_sh2 : kernelRun0_A.sl.r_1 c arg4 harg4 I.cond = I.sh2 := by
  unfold kernelRun0_A.sl.r_1
  rw [rd]
  rfl
theorem w_sc2 : kernelRun0_A.sl.r_2 c arg4 harg4 I.cond = I.sc2 := by
  unfold kernelRun0_A.sl.r_2
  rw [rd]
  rfl
theorem w_gt2 : kernelRun0_A.sl.r_3 c arg4 harg4 I.cond = I.gt2 := by
  unfold kernelRun0_A.sl.r_3
  rw [rd]
  rfl
theorem w_gffn : kernelRun0_A.sl.r_4 c arg6 harg6 I.gffn = I.gffn := by
  unfold kernelRun0_A.sl.r_4
  exact rdw _ _ _ _
theorem w_gfin : kernelRun0_A.sl.r_22 c arg10 harg10 I.gfin = I.gfin := by
  unfold kernelRun0_A.sl.r_22
  exact rdw _ _ _ _
theorem w_x2 : kernelRun0_A.sl.r_6 c arg1 harg1 arg2 harg2 arg3 harg3 arg4 harg4 arg5 harg5 I.x I.ym I.yp I.cond I.wo = I.x2 := by
  unfold kernelRun0_A.sl.r_6
  rw [rd, rdw, rdw, rdw, rdw]
  rfl
theorem w_ms : kernelRun0_A.sl.r_7 c arg1 harg1 arg2 harg2 arg3 harg3 arg4 harg4 arg5 harg5 I.x I.ym I.yp I.cond I.wo = I.ms := by
  unfold kernelRun0_A.sl.r_7
  rw [rd, rdw, rdw, rdw, rdw]
  rfl
theorem w_hid : kernelRun0_A.sl.r_10 c arg1 harg1 arg2 harg2 arg3 harg3 arg4 harg4 arg5 harg5 arg6 harg6 I.x I.ym I.yp I.cond I.wo I.gffn = I.hid := by
  unfold kernelRun0_A.sl.r_10
  rw [w_sh2, w_sc2, w_gffn, w_x2, w_ms]
  rfl
theorem w_a : kernelRun0_A.sl.H12_11 c arg1 harg1 arg2 harg2 arg3 harg3 arg4 harg4 arg5 harg5 arg6 harg6 arg7 harg7 I.x I.ym I.yp I.cond I.wo I.gffn I.wg = tiles I.aC := by
  unfold kernelRun0_A.sl.H12_11 kernelRun0_A.sl.r_11 kernelRun0_A.sl.r_13
  simp only [w_gt1, w_sh2, w_sc2, w_gt2, w_gffn, w_x2, w_ms, w_hid, rd]
  rfl
theorem w_b : kernelRun0_A.sl.H13_11 c arg1 harg1 arg2 harg2 arg3 harg3 arg4 harg4 arg5 harg5 arg6 harg6 arg8 harg8 I.x I.ym I.yp I.cond I.wo I.gffn I.wu = tiles I.bC := by
  unfold kernelRun0_A.sl.H13_11 kernelRun0_A.sl.r_12 kernelRun0_A.sl.r_18
  simp only [w_gt1, w_sh2, w_sc2, w_gt2, w_gffn, w_x2, w_ms, w_hid, rd]
  rfl
theorem w_f : kernelRun0_A.sl.HS0_11 c arg1 harg1 arg2 harg2 arg3 harg3 arg4 harg4 arg5 harg5 arg6 harg6 arg7 harg7 arg8 harg8 I.x I.ym I.yp I.cond I.wo I.gffn I.wg I.wu = tiles I.fC := by
  unfold kernelRun0_A.sl.HS0_11 kernelRun0_A.sl.r_11 kernelRun0_A.sl.r_12 kernelRun0_A.sl.r_13 kernelRun0_A.sl.r_14 kernelRun0_A.sl.r_15 kernelRun0_A.sl.r_16 kernelRun0_A.sl.r_17
  simp only [w_gt1, w_sh2, w_sc2, w_gt2, w_gffn, w_x2, w_ms, w_hid, rd]
  rfl
theorem w_fread : kernelRun0_A.sl.v233 c arg1 harg1 arg2 harg2 arg3 harg3 arg4 harg4 arg5 harg5 arg6 harg6 arg7 harg7 arg8 harg8 arg30 I.x I.ym I.yp I.cond I.wo I.gffn I.wg I.wu = tiled I.fC := by
  unfold kernelRun0_A.sl.v233
  rw [w_f]
  exact readCov_tiles_whole _ _
theorem w_r3 : kernelRun0_A.sl.r_20 c arg1 harg1 arg2 harg2 arg3 harg3 arg4 harg4 arg5 harg5 arg6 harg6 arg7 harg7 arg8 harg8 arg9 harg9 arg30 I.x I.ym I.yp I.cond I.wo I.gffn I.wg I.wu I.wd = I.r3 := by
  unfold kernelRun0_A.sl.r_20
  rw [w_gt2, w_x2, w_fread, rdw]
  rfl
theorem w_n3 : kernelRun0_A.sl.r_21 c arg1 harg1 arg2 harg2 arg3 harg3 arg4 harg4 arg5 harg5 arg6 harg6 arg7 harg7 arg8 harg8 arg9 harg9 arg30 I.x I.ym I.yp I.cond I.wo I.gffn I.wg I.wu I.wd = I.n3 := by
  unfold kernelRun0_A.sl.r_21
  rw [w_gt2, w_x2, w_fread, rdw]
  rfl
theorem w_err : kernelRun0_A.sl.r_23 c arg1 harg1 arg2 harg2 arg3 harg3 arg4 harg4 arg5 harg5 arg6 harg6 arg7 harg7 arg8 harg8 arg9 harg9 arg10 harg10 arg11 harg11 arg30 I.x I.ym I.yp I.cond I.wo I.gffn I.wg I.wu I.wd I.gfin I.tgt = I.err := by
  unfold kernelRun0_A.sl.r_23
  rw [w_gt2, w_x2, w_fread, rdw, rdw, rdw]
  rfl
theorem w_dx3 : kernelRun0_A.sl.r_26 c arg1 harg1 arg2 harg2 arg3 harg3 arg4 harg4 arg5 harg5 arg6 harg6 arg7 harg7 arg8 harg8 arg9 harg9 arg10 harg10 arg11 harg11 arg30 I.x I.ym I.yp I.cond I.wo I.gffn I.wg I.wu I.wd I.gfin I.tgt = I.dx3 := by
  unfold kernelRun0_A.sl.r_26
  rw [w_r3, w_n3, w_gfin, w_err]
  rfl
theorem w_dff : kernelRun0_A.sl.r_27 c arg1 harg1 arg2 harg2 arg3 harg3 arg4 harg4 arg5 harg5 arg6 harg6 arg7 harg7 arg8 harg8 arg9 harg9 arg10 harg10 arg11 harg11 arg30 I.x I.ym I.yp I.cond I.wo I.gffn I.wg I.wu I.wd I.gfin I.tgt = I.dff := by
  unfold kernelRun0_A.sl.r_27
  rw [w_gt2, w_r3, w_n3, w_gfin, w_err]
  rfl
theorem w_dffT : kernelRun0_A.sl.r_28 c arg1 harg1 arg2 harg2 arg3 harg3 arg4 harg4 arg5 harg5 arg6 harg6 arg7 harg7 arg8 harg8 arg9 harg9 arg10 harg10 arg11 harg11 arg30 I.x I.ym I.yp I.cond I.wo I.gffn I.wg I.wu I.wd I.gfin I.tgt = I.o16 := by
  unfold kernelRun0_A.sl.r_28
  rw [w_gt2, w_r3, w_n3, w_gfin, w_err]
  rfl
theorem w_db : kernelRun0_A.sl.H15_11 c arg1 harg1 arg2 harg2 arg3 harg3 arg4 harg4 arg5 harg5 arg6 harg6 arg7 harg7 arg8 harg8 arg9 harg9 arg10 harg10 arg11 harg11 arg13 arg30 I.x I.ym I.yp I.cond I.wo I.gffn I.wg I.wu I.wd I.gfin I.tgt = tiles I.dbC := by
  unfold kernelRun0_A.sl.H15_11 kernelRun0_A.sl.r_33 kernelRun0_A.sl.r_38 kernelRun0_A.sl.r_39 kernelRun0_A.sl.r_43 kernelRun0_A.sl.v307 kernelRun0_A.sl.v331 kernelRun0_A.sl.v355 kernelRun0_A.sl.v379 kernelRun0_A.sl.v403 kernelRun0_A.sl.v427 kernelRun0_A.sl.v451 kernelRun0_A.sl.v475 kernelRun0_A.sl.v499 kernelRun0_A.sl.v523 kernelRun0_A.sl.v547
  simp only [w_a, w_dff, rd]
  rw [rdc _ I.aC 0 (by decide) (by decide), rdc _ I.aC 256 (by decide) (by decide), rdc _ I.aC 512 (by decide) (by decide), rdc _ I.aC 768 (by decide) (by decide), rdc _ I.aC 1024 (by decide) (by decide), rdc _ I.aC 1280 (by decide) (by decide), rdc _ I.aC 1536 (by decide) (by decide), rdc _ I.aC 1792 (by decide) (by decide), rdc _ I.aC 2048 (by decide) (by decide), rdc _ I.aC 2304 (by decide) (by decide), rdc _ I.aC 2560 (by decide) (by decide)]
  rfl
theorem w_da : kernelRun0_A.sl.H14_11 c arg1 harg1 arg2 harg2 arg3 harg3 arg4 harg4 arg5 harg5 arg6 harg6 arg7 harg7 arg8 harg8 arg9 harg9 arg10 harg10 arg11 harg11 arg13 arg14 arg30 I.x I.ym I.yp I.cond I.wo I.gffn I.wg I.wu I.wd I.gfin I.tgt = tiles I.daC := by
  unfold kernelRun0_A.sl.H14_11 kernelRun0_A.sl.r_29 kernelRun0_A.sl.r_30 kernelRun0_A.sl.r_31 kernelRun0_A.sl.r_32 kernelRun0_A.sl.r_34 kernelRun0_A.sl.r_35 kernelRun0_A.sl.r_36 kernelRun0_A.sl.r_37 kernelRun0_A.sl.r_39 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.v307 kernelRun0_A.sl.v331 kernelRun0_A.sl.v355 kernelRun0_A.sl.v379 kernelRun0_A.sl.v403 kernelRun0_A.sl.v427 kernelRun0_A.sl.v451 kernelRun0_A.sl.v475 kernelRun0_A.sl.v499 kernelRun0_A.sl.v523 kernelRun0_A.sl.v547 kernelRun0_A.sl.v310 kernelRun0_A.sl.v334 kernelRun0_A.sl.v358 kernelRun0_A.sl.v382 kernelRun0_A.sl.v406 kernelRun0_A.sl.v430 kernelRun0_A.sl.v454 kernelRun0_A.sl.v478 kernelRun0_A.sl.v502 kernelRun0_A.sl.v526 kernelRun0_A.sl.v550
  simp only [w_a, w_b, w_dff, rd]
  rw [rdc _ I.aC 0 (by decide) (by decide), rdc _ I.aC 256 (by decide) (by decide), rdc _ I.aC 512 (by decide) (by decide), rdc _ I.aC 768 (by decide) (by decide), rdc _ I.aC 1024 (by decide) (by decide), rdc _ I.aC 1280 (by decide) (by decide), rdc _ I.aC 1536 (by decide) (by decide), rdc _ I.aC 1792 (by decide) (by decide), rdc _ I.aC 2048 (by decide) (by decide), rdc _ I.aC 2304 (by decide) (by decide), rdc _ I.aC 2560 (by decide) (by decide)]
  rw [rdc _ I.bC 0 (by decide) (by decide), rdc _ I.bC 256 (by decide) (by decide), rdc _ I.bC 512 (by decide) (by decide), rdc _ I.bC 768 (by decide) (by decide), rdc _ I.bC 1024 (by decide) (by decide), rdc _ I.bC 1280 (by decide) (by decide), rdc _ I.bC 1536 (by decide) (by decide), rdc _ I.bC 1792 (by decide) (by decide), rdc _ I.bC 2048 (by decide) (by decide), rdc _ I.bC 2304 (by decide) (by decide), rdc _ I.bC 2560 (by decide) (by decide)]
  rfl
theorem w_daread : kernelRun0_A.sl.v568 c arg1 harg1 arg2 harg2 arg3 harg3 arg4 harg4 arg5 harg5 arg6 harg6 arg7 harg7 arg8 harg8 arg9 harg9 arg10 harg10 arg11 harg11 arg13 arg14 arg15 arg30 I.x I.ym I.yp I.cond I.wo I.gffn I.wg I.wu I.wd I.gfin I.tgt = tiled I.daC := by
  unfold kernelRun0_A.sl.v568
  rw [w_da]
  exact readCov_tiles_whole _ _
theorem w_dbread : kernelRun0_A.sl.v573 c arg1 harg1 arg2 harg2 arg3 harg3 arg4 harg4 arg5 harg5 arg6 harg6 arg7 harg7 arg8 harg8 arg9 harg9 arg10 harg10 arg11 harg11 arg13 arg16 arg30 I.x I.ym I.yp I.cond I.wo I.gffn I.wg I.wu I.wd I.gfin I.tgt = tiled I.dbC := by
  unfold kernelRun0_A.sl.v573
  rw [w_db]
  exact readCov_tiles_whole _ _
theorem w_dh : kernelRun0_A.sl.r_47 c arg1 harg1 arg2 harg2 arg3 harg3 arg4 harg4 arg5 harg5 arg6 harg6 arg7 harg7 arg8 harg8 arg9 harg9 arg10 harg10 arg11 harg11 arg13 arg14 arg15 arg16 arg30 I.x I.ym I.yp I.cond I.wo I.gffn I.wg I.wu I.wd I.gfin I.tgt = I.dh := by
  unfold kernelRun0_A.sl.r_47
  rw [w_daread, w_dbread, rdw, rdw]
  rfl
theorem w_r2 : kernelRun0_A.sl.r_8 c arg1 harg1 arg2 harg2 arg3 harg3 arg4 harg4 arg5 harg5 I.x I.ym I.yp I.cond I.wo = I.r2 := by
  unfold kernelRun0_A.sl.r_8
  rw [w_ms]
  rfl
theorem w_n2 : kernelRun0_A.sl.r_9 c arg1 harg1 arg2 harg2 arg3 harg3 arg4 harg4 arg5 harg5 I.x I.ym I.yp I.cond I.wo = I.n2 := by
  unfold kernelRun0_A.sl.r_9
  rw [w_x2, w_ms]
  rfl
theorem w_o20 : k0_pay1 (kernelRun0_A.sl.r_50 c arg1 harg1 arg2 harg2 arg3 harg3 arg4 harg4 arg5 harg5 arg6 harg6 arg7 harg7 arg8 harg8 arg9 harg9 arg10 harg10 arg11 harg11 arg13 arg14 arg15 arg16 arg30 I.x I.ym I.yp I.cond I.wo I.gffn I.wg I.wu I.wd I.gfin I.tgt) = I.o20 := by
  unfold kernelRun0_A.sl.r_50
  rw [w_gt1, w_sc2, w_gffn, w_r2, w_n2, w_dx3, w_dh, rdw]
  rfl
theorem w_o21 : k0_pay2 (kernelRun0_A.sl.r_49 c arg1 harg1 arg2 harg2 arg3 harg3 arg4 harg4 arg5 harg5 arg6 harg6 arg7 harg7 arg8 harg8 arg9 harg9 arg10 harg10 arg11 harg11 arg13 arg14 arg15 arg16 arg30 I.x I.ym I.yp I.cond I.wo I.gffn I.wg I.wu I.wd I.gfin I.tgt) = I.o21 := by
  unfold kernelRun0_A.sl.r_49
  rw [w_gt1, w_sc2, w_gffn, w_r2, w_n2, w_dx3, w_dh, rdw]
  rfl
theorem w_o11 : k0_pay19 (kernelRun0_A.sl.r_1 c arg4 harg4 I.cond) (kernelRun0_A.sl.r_2 c arg4 harg4 I.cond) (kernelRun0_A.sl.r_4 c arg6 harg6 I.gffn) (kernelRun0_A.sl.r_6 c arg1 harg1 arg2 harg2 arg3 harg3 arg4 harg4 arg5 harg5 I.x I.ym I.yp I.cond I.wo) (kernelRun0_A.sl.r_7 c arg1 harg1 arg2 harg2 arg3 harg3 arg4 harg4 arg5 harg5 I.x I.ym I.yp I.cond I.wo) = I.o11 := by
  rw [w_sh2, w_sc2, w_gffn, w_x2, w_ms]
  rfl
theorem w_o17 : k0_pay159 (kernelRun0_A.sl.r_2 c arg4 harg4 I.cond) (kernelRun0_A.sl.r_4 c arg6 harg6 I.gffn) (kernelRun0_A.sl.r_8 c arg1 harg1 arg2 harg2 arg3 harg3 arg4 harg4 arg5 harg5 I.x I.ym I.yp I.cond I.wo) (kernelRun0_A.sl.r_9 c arg1 harg1 arg2 harg2 arg3 harg3 arg4 harg4 arg5 harg5 I.x I.ym I.yp I.cond I.wo) (kernelRun0_A.sl.r_26 c arg1 harg1 arg2 harg2 arg3 harg3 arg4 harg4 arg5 harg5 arg6 harg6 arg7 harg7 arg8 harg8 arg9 harg9 arg10 harg10 arg11 harg11 arg30 I.x I.ym I.yp I.cond I.wo I.gffn I.wg I.wu I.wd I.gfin I.tgt) (kernelRun0_A.sl.r_47 c arg1 harg1 arg2 harg2 arg3 harg3 arg4 harg4 arg5 harg5 arg6 harg6 arg7 harg7 arg8 harg8 arg9 harg9 arg10 harg10 arg11 harg11 arg13 arg14 arg15 arg16 arg30 I.x I.ym I.yp I.cond I.wo I.gffn I.wg I.wu I.wd I.gfin I.tgt) = I.o17 := by
  rw [w_sc2, w_gffn, w_r2, w_n2, w_dx3, w_dh]
  rfl
theorem w_o18 : k0_pay161 (kernelRun0_A.sl.r c arg4 harg4 I.cond) (kernelRun0_A.sl.r_2 c arg4 harg4 I.cond) (kernelRun0_A.sl.r_4 c arg6 harg6 I.gffn) (kernelRun0_A.sl.r_8 c arg1 harg1 arg2 harg2 arg3 harg3 arg4 harg4 arg5 harg5 I.x I.ym I.yp I.cond I.wo) (kernelRun0_A.sl.r_9 c arg1 harg1 arg2 harg2 arg3 harg3 arg4 harg4 arg5 harg5 I.x I.ym I.yp I.cond I.wo) (kernelRun0_A.sl.r_26 c arg1 harg1 arg2 harg2 arg3 harg3 arg4 harg4 arg5 harg5 arg6 harg6 arg7 harg7 arg8 harg8 arg9 harg9 arg10 harg10 arg11 harg11 arg30 I.x I.ym I.yp I.cond I.wo I.gffn I.wg I.wu I.wd I.gfin I.tgt) (kernelRun0_A.sl.r_47 c arg1 harg1 arg2 harg2 arg3 harg3 arg4 harg4 arg5 harg5 arg6 harg6 arg7 harg7 arg8 harg8 arg9 harg9 arg10 harg10 arg11 harg11 arg13 arg14 arg15 arg16 arg30 I.x I.ym I.yp I.cond I.wo I.gffn I.wg I.wu I.wd I.gfin I.tgt) = I.o18 := by
  rw [w_gt1, w_sc2, w_gffn, w_r2, w_n2, w_dx3, w_dh]
  rfl
theorem w_o19 : k0_pay11 (View.readAt (Elt F) arg2.view (Rect.unit (s := S256x512) ![0, 0] S256x512.size inb_S256x512_S256x512_0_0).toLoadRect (harg2.unread I.ym)) (View.readAt (Elt F) arg3.view (Rect.unit (s := S256x512) ![0, 0] S256x512.size inb_S256x512_S256x512_0_0).toLoadRect (harg3.unread I.yp)) = I.o19 := by
  rw [rdw, rdw]
  rfl
end

end Cert.Kernel3Ideal.Value
-- ==== Proof.TokenPoint.lean ====
/-
  One grid point of the feed-forward call: it leaves the blocks of `Blk` in the eleven buffers of its results.
-/
module

public import proofs.«01_k».proof.Proof.TokenPieces

@[expose] public section

set_option maxRecDepth 65536
set_option maxHeartbeats 8000000

noncomputable section

namespace Cert.Kernel3Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (UR sig nD τ) ℕ

/-- One store of the whole buffer. -/
theorem whole {S : Shape} {e : EltTy} (c : Dev nD) (a : Memref sig .tc .vmem S e) {off : Fin S.rank → ℕ} (inb : ∀ t, off t + S.size t ≤ S.size t)
    (w d : Vec F S e) (L : List (View.Piece (Elt F) S e)) (hL : L = [⟨Rect.unit off S.size inb, w⟩]) (hd : w = d) : filled c a L ⊢ at_ c a d := by
  subst hL hd
  unfold filled at_ owns
  iintro ⟨%f, H⟩
  iexists _; isplitr
  swap
  · iexact H
  ipureintro
  exact View.read_writes_full _ _ _ _ _
/-- The eleven stores of the chunks of columns. -/
theorem chunks (c : Dev nD) (a : Memref sig .tc .vmem S256x2816 .bf16) (p : Fin 11 → Vec F S256x256 .bf16) (L : List (View.Piece (Elt F) S256x2816 .bf16))
    (hL : L = tiles p) : filled c a L ⊢ at_ c a (tiled p) := by
  subst hL
  unfold filled at_ owns
  iintro ⟨%f, H⟩
  iexists _; isplitr
  swap
  · iexact H
  ipureintro
  exact (View.read_writes_eq_canon _ _ _ (tiles_cover p)).trans (canon_tiles p)
/-- Whatever was stored. -/
theorem stored {S : Shape} {e : EltTy} (c : Dev nD) (a : Memref sig .tc .vmem S e) (L : List (View.Piece (Elt F) S e)) : filled c a L ⊢ any (F := F) c a := by
  unfold filled any owns
  iintro ⟨%f, H⟩
  iexists _; iexists _; isplitr
  swap
  · iexact H
  ipureintro
  rfl

section
variable (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S1x6144 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1024x256 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S1024x256 .bf16) (harg17 : arg17.IsWhole) (arg18 : Memref sig .tc .vmem S256x1024 .f32) (harg18 : arg18.IsWhole) (arg19 : Memref sig .tc .vmem S256x1024 .bf16) (harg19 : arg19.IsWhole) (arg20 : Memref sig .tc .vmem S1024x256 .bf16) (harg20 : arg20.IsWhole) (arg21 : Memref sig .tc .vmem S256x512 .bf16) (harg21 : arg21.IsWhole) (arg22 : Memref sig .tc .vmem S256x512 .f32) (harg22 : arg22.IsWhole) (arg23 : Memref sig .tc .vmem S8x128 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S1x1024 .f32) (harg28 : arg28.IsWhole) (arg29 : Memref sig .tc .vmem S1x1024 .f32) (harg29 : arg29.IsWhole) (arg30 : Memref sig .tc .vmem S256x2816 .bf16) (harg30 : arg30.IsWhole)
  (I : Blk F)

theorem point (K : PUnit → sProp 𝕄) :
    iprop(at_ c arg1 I.x ∗ at_ c arg2 I.ym ∗ at_ c arg3 I.yp ∗ at_ c arg4 I.cond ∗ at_ c arg5 I.wo ∗ at_ c arg6 I.gffn ∗ at_ c arg7 I.wg ∗ at_ c arg8 I.wu ∗ at_ c arg9 I.wd ∗ at_ c arg10 I.gfin ∗ at_ c arg11 I.tgt ∗ any (F := F) c arg12 ∗ any (F := F) c arg13 ∗ any (F := F) c arg14 ∗ any (F := F) c arg15 ∗ any (F := F) c arg16 ∗ any (F := F) c arg17 ∗ any (F := F) c arg18 ∗ any (F := F) c arg19 ∗ any (F := F) c arg20 ∗ any (F := F) c arg21 ∗ any (F := F) c arg22 ∗ any (F := F) c arg23 ∗ any (F := F) c arg24 ∗ any (F := F) c arg25 ∗ any (F := F) c arg26 ∗ any (F := F) c arg27 ∗ any (F := F) c arg28 ∗ any (F := F) c arg29 ∗ any (F := F) c arg30
        ∗ (iprop(at_ c arg1 I.x ∗ at_ c arg2 I.ym ∗ at_ c arg3 I.yp ∗ at_ c arg4 I.cond ∗ at_ c arg5 I.wo ∗ at_ c arg6 I.gffn ∗ at_ c arg7 I.wg ∗ at_ c arg8 I.wu ∗ at_ c arg9 I.wd ∗ at_ c arg10 I.gfin ∗ at_ c arg11 I.tgt ∗ at_ c arg12 I.o11 ∗ at_ c arg13 (tiled I.aC) ∗ at_ c arg14 (tiled I.bC) ∗ at_ c arg15 (tiled I.daC) ∗ at_ c arg16 (tiled I.dbC) ∗ at_ c arg17 I.o16 ∗ at_ c arg18 I.o17 ∗ at_ c arg19 I.o18 ∗ at_ c arg20 I.o19 ∗ at_ c arg21 I.o20 ∗ at_ c arg22 I.o21 ∗ any (F := F) c arg23 ∗ any (F := F) c arg24 ∗ any (F := F) c arg25 ∗ any (F := F) c arg26 ∗ any (F := F) c arg27 ∗ any (F := F) c arg28 ∗ any (F := F) c arg29 ∗ any (F := F) c arg30) -∗ K ⟨⟩))
      ⊢ wp frame (wpE (defs₀ (F := F)) Variants.none c none) Set.univ (cc0_ffn_fwd_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  by_cases hc0 : cond0_0 i
  · unfold any at_
    iintro ⟨H1, H2, H3, H4, H5, H6, H7, H8, H9, H10, H11, H12, H13, H14, H15, H16, H17, H18, H19, H20, H21, H22, H23, H24, H25, H26, H27, H28, H29, H30, Hk⟩
    iapply (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 I.x I.ym I.yp I.cond I.wo I.gffn I.wg I.wu I.wd I.gfin I.tgt).2.2.2.2.2.2.2.2.2.2.2.2.2.2.2.2.2.2.2 Set.univ K
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iintro ⟨H1, H2, H3, H4, H5, H6, H7, H8, H9, H10, H11, H12, H13, H14, H15, H16, H17, H18, H19, H20, H21, H22, H23, H24, H25, H26, H27, H28, H29, H30⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iapply (whole c arg12 _ _ _ _ rfl (w_o11 c arg1 harg1 arg2 harg2 arg3 harg3 arg4 harg4 arg5 harg5 arg6 harg6 I)); iexact H12
    isplitl [H13]; · iapply (chunks c arg13 _ _ (w_a c arg1 harg1 arg2 harg2 arg3 harg3 arg4 harg4 arg5 harg5 arg6 harg6 arg7 harg7 I)); iexact H13
    isplitl [H14]; · iapply (chunks c arg14 _ _ (w_b c arg1 harg1 arg2 harg2 arg3 harg3 arg4 harg4 arg5 harg5 arg6 harg6 arg8 harg8 I)); iexact H14
    isplitl [H15]; · iapply (chunks c arg15 _ _ (w_da c arg1 harg1 arg2 harg2 arg3 harg3 arg4 harg4 arg5 harg5 arg6 harg6 arg7 harg7 arg8 harg8 arg9 harg9 arg10 harg10 arg11 harg11 arg13 arg14 arg30 I)); iexact H15
    isplitl [H16]; · iapply (chunks c arg16 _ _ (w_db c arg1 harg1 arg2 harg2 arg3 harg3 arg4 harg4 arg5 harg5 arg6 harg6 arg7 harg7 arg8 harg8 arg9 harg9 arg10 harg10 arg11 harg11 arg13 arg30 I)); iexact H16
    isplitl [H17]; · iapply (whole c arg17 _ _ _ _ rfl (w_dffT c arg1 harg1 arg2 harg2 arg3 harg3 arg4 harg4 arg5 harg5 arg6 harg6 arg7 harg7 arg8 harg8 arg9 harg9 arg10 harg10 arg11 harg11 arg30 I)); iexact H17
    isplitl [H18]; · iapply (whole c arg18 _ _ _ _ rfl (w_o17 c arg1 harg1 arg2 harg2 arg3 harg3 arg4 harg4 arg5 harg5 arg6 harg6 arg7 harg7 arg8 harg8 arg9 harg9 arg10 harg10 arg11 harg11 arg13 arg14 arg15 arg16 arg30 I)); iexact H18
    isplitl [H19]; · iapply (whole c arg19 _ _ _ _ rfl (w_o18 c arg1 harg1 arg2 harg2 arg3 harg3 arg4 harg4 arg5 harg5 arg6 harg6 arg7 harg7 arg8 harg8 arg9 harg9 arg10 harg10 arg11 harg11 arg13 arg14 arg15 arg16 arg30 I)); iexact H19
    isplitl [H20]; · iapply (whole c arg20 _ _ _ _ rfl (w_o19 arg2 harg2 arg3 harg3 I)); iexact H20
    isplitl [H21]; · iapply (whole c arg21 _ _ _ _ rfl (w_o20 c arg1 harg1 arg2 harg2 arg3 harg3 arg4 harg4 arg5 harg5 arg6 harg6 arg7 harg7 arg8 harg8 arg9 harg9 arg10 harg10 arg11 harg11 arg13 arg14 arg15 arg16 arg30 I)); iexact H21
    isplitl [H22]; · iapply (whole c arg22 _ _ _ _ rfl (w_o21 c arg1 harg1 arg2 harg2 arg3 harg3 arg4 harg4 arg5 harg5 arg6 harg6 arg7 harg7 arg8 harg8 arg9 harg9 arg10 harg10 arg11 harg11 arg13 arg14 arg15 arg16 arg30 I)); iexact H22
    isplitl [H23]; · iapply (stored c arg23 _); iexact H23
    isplitl [H24]; · iapply (stored c arg24 _); iexact H24
    isplitl [H25]; · iapply (stored c arg25 _); iexact H25
    isplitl [H26]; · iapply (stored c arg26 _); iexact H26
    isplitl [H27]; · iapply (stored c arg27 _); iexact H27
    isplitl [H28]; · iapply (stored c arg28 _); iexact H28
    isplitl [H29]; · iapply (stored c arg29 _); iexact H29
    iapply (stored c arg30 _); iexact H30
  ·
    iintro ⟨H1, H2, H3, H4, H5, H6, H7, H8, H9, H10, H11, H12, H13, H14, H15, H16, H17, H18, H19, H20, H21, H22, H23, H24, H25, H26, H27, H28, H29, H30, Hk⟩
    iapply (laterPoint (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 I.x I.ym I.yp I.cond I.wo I.gffn I.wg I.wu I.wd I.gfin I.tgt).2.2.2.2.2.2.2.2.2.2.2 Set.univ K
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iintro ⟨H1, H2, H3, H4, H5, H6, H7, H8, H9, H10, H11, H12, H13, H14, H15, H16, H17, H18, H19, H20, H21, H22, H23, H24, H25, H26, H27, H28, H29, H30⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iapply (whole c arg12 _ _ _ _ rfl (w_o11 c arg1 harg1 arg2 harg2 arg3 harg3 arg4 harg4 arg5 harg5 arg6 harg6 I)); iexact H12
    isplitl [H13]; · iapply (chunks c arg13 _ _ (w_a c arg1 harg1 arg2 harg2 arg3 harg3 arg4 harg4 arg5 harg5 arg6 harg6 arg7 harg7 I)); iexact H13
    isplitl [H14]; · iapply (chunks c arg14 _ _ (w_b c arg1 harg1 arg2 harg2 arg3 harg3 arg4 harg4 arg5 harg5 arg6 harg6 arg8 harg8 I)); iexact H14
    isplitl [H15]; · iapply (chunks c arg15 _ _ (w_da c arg1 harg1 arg2 harg2 arg3 harg3 arg4 harg4 arg5 harg5 arg6 harg6 arg7 harg7 arg8 harg8 arg9 harg9 arg10 harg10 arg11 harg11 arg13 arg14 arg30 I)); iexact H15
    isplitl [H16]; · iapply (chunks c arg16 _ _ (w_db c arg1 harg1 arg2 harg2 arg3 harg3 arg4 harg4 arg5 harg5 arg6 harg6 arg7 harg7 arg8 harg8 arg9 harg9 arg10 harg10 arg11 harg11 arg13 arg30 I)); iexact H16
    isplitl [H17]; · iapply (whole c arg17 _ _ _ _ rfl (w_dffT c arg1 harg1 arg2 harg2 arg3 harg3 arg4 harg4 arg5 harg5 arg6 harg6 arg7 harg7 arg8 harg8 arg9 harg9 arg10 harg10 arg11 harg11 arg30 I)); iexact H17
    isplitl [H18]; · iapply (whole c arg18 _ _ _ _ rfl (w_o17 c arg1 harg1 arg2 harg2 arg3 harg3 arg4 harg4 arg5 harg5 arg6 harg6 arg7 harg7 arg8 harg8 arg9 harg9 arg10 harg10 arg11 harg11 arg13 arg14 arg15 arg16 arg30 I)); iexact H18
    isplitl [H19]; · iapply (whole c arg19 _ _ _ _ rfl (w_o18 c arg1 harg1 arg2 harg2 arg3 harg3 arg4 harg4 arg5 harg5 arg6 harg6 arg7 harg7 arg8 harg8 arg9 harg9 arg10 harg10 arg11 harg11 arg13 arg14 arg15 arg16 arg30 I)); iexact H19
    isplitl [H20]; · iapply (whole c arg20 _ _ _ _ rfl (w_o19 arg2 harg2 arg3 harg3 I)); iexact H20
    isplitl [H21]; · iapply (whole c arg21 _ _ _ _ rfl (w_o20 c arg1 harg1 arg2 harg2 arg3 harg3 arg4 harg4 arg5 harg5 arg6 harg6 arg7 harg7 arg8 harg8 arg9 harg9 arg10 harg10 arg11 harg11 arg13 arg14 arg15 arg16 arg30 I)); iexact H21
    isplitl [H22]; · iapply (whole c arg22 _ _ _ _ rfl (w_o21 c arg1 harg1 arg2 harg2 arg3 harg3 arg4 harg4 arg5 harg5 arg6 harg6 arg7 harg7 arg8 harg8 arg9 harg9 arg10 harg10 arg11 harg11 arg13 arg14 arg15 arg16 arg30 I)); iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    iexact H30
end

end Cert.Kernel3Ideal.Value
-- ==== Proof.TokenFrame.lean ====
/-
  The run of the feed-forward call: every execution ends, the arguments as they were, every semaphore at zero and the eleven
  results at the blocks the points leave. The seven running sums are left at some contents.
-/
module

public import proofs.«01_k».proof.Proof.TokenPoint

@[expose] public section

set_option maxRecDepth 65536
set_option maxHeartbeats 8000000

noncomputable section

namespace Cert.Kernel3Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks point `t` reads. -/
def blkAt (c : Dev nD) (t : Fin cfg0.N) : Blk F where
  x := iblk m c 0 t
  ym := iblk m c 1 t
  yp := iblk m c 2 t
  cond := iblk m c 3 t
  wo := iblk m c 4 t
  gffn := iblk m c 5 t
  wg := iblk m c 6 t
  wu := iblk m c 7 t
  wd := iblk m c 8 t
  gfin := iblk m c 9 t
  tgt := iblk m c 10 t

def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (blkAt m c t).o11
    | ⟨12, _⟩ => tiled (blkAt m c t).aC
    | ⟨13, _⟩ => tiled (blkAt m c t).bC
    | ⟨14, _⟩ => tiled (blkAt m c t).daC
    | ⟨15, _⟩ => tiled (blkAt m c t).dbC
    | ⟨16, _⟩ => (blkAt m c t).o16
    | ⟨17, _⟩ => (blkAt m c t).o17
    | ⟨18, _⟩ => (blkAt m c t).o18
    | ⟨19, _⟩ => (blkAt m c t).o19
    | ⟨20, _⟩ => (blkAt m c t).o20
    | ⟨21, _⟩ => (blkAt m c t).o21
    | ⟨n + 22, h⟩ => Pipeline.Dat.unnamed (cfg := cfg0) ⟨n + 22, h⟩ t
  Φ _ := Pipeline.ΦA spec0 c
  q _ := fullShare
  owed _ := 0

/-- The windows of the running sums. -/
def sums (w : Fin cfg0.W) : Bool := decide (22 ≤ w.val)

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (blkAt m c t).o11 := by dsimp only [dats]
theorem after0_12 (c : Dev nD) (t : Fin cfg0.N) : (dats m 0 c).after 12 t = tiled (blkAt m c t).aC := by dsimp only [dats]
theorem after0_13 (c : Dev nD) (t : Fin cfg0.N) : (dats m 0 c).after 13 t = tiled (blkAt m c t).bC := by dsimp only [dats]
theorem after0_14 (c : Dev nD) (t : Fin cfg0.N) : (dats m 0 c).after 14 t = tiled (blkAt m c t).daC := by dsimp only [dats]
theorem after0_15 (c : Dev nD) (t : Fin cfg0.N) : (dats m 0 c).after 15 t = tiled (blkAt m c t).dbC := by dsimp only [dats]
theorem after0_16 (c : Dev nD) (t : Fin cfg0.N) : (dats m 0 c).after 16 t = (blkAt m c t).o16 := by dsimp only [dats]
theorem after0_17 (c : Dev nD) (t : Fin cfg0.N) : (dats m 0 c).after 17 t = (blkAt m c t).o17 := by dsimp only [dats]
theorem after0_18 (c : Dev nD) (t : Fin cfg0.N) : (dats m 0 c).after 18 t = (blkAt m c t).o18 := by dsimp only [dats]
theorem after0_19 (c : Dev nD) (t : Fin cfg0.N) : (dats m 0 c).after 19 t = (blkAt m c t).o19 := by dsimp only [dats]
theorem after0_20 (c : Dev nD) (t : Fin cfg0.N) : (dats m 0 c).after 20 t = (blkAt m c t).o20 := by dsimp only [dats]
theorem after0_21 (c : Dev nD) (t : Fin cfg0.N) : (dats m 0 c).after 21 t = (blkAt m c t).o21 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

theorem body_obligation (c : Dev nD) : Pipeline.BodyObligation (dats (F := F) m 0 c) (defs₀ (F := F)) Variants.none () Set.univ sums := fun t => by
  rw [bigSep_W0, bigSep_W0]
  sl_whnfR [defs₀, Defs.onTc]
  simp only [before0_0, before0_1, before0_2, before0_3, before0_4, before0_5, before0_6, before0_7, before0_8, before0_9, before0_10]
  rw [show (dats m 0 c).owesAt () t.succ = (dats m 0 c).owesAt () t.castSucc from rfl, show (dats m 0 c).Φ t.succ = Pipeline.ΦA spec0 c from rfl,
    show (dats m 0 c).Φ t.castSucc = Pipeline.ΦA spec0 c from rfl, PhiA0_eq,
    after0_0, after0_1, after0_2, after0_3, after0_4, after0_5, after0_6, after0_7, after0_8, after0_9, after0_10, after0_11, after0_12, after0_13, after0_14, after0_15, after0_16, after0_17, after0_18, after0_19, after0_20, after0_21]
  simp only [show sums 0 = false from rfl, show sums 1 = false from rfl, show sums 2 = false from rfl, show sums 3 = false from rfl, show sums 4 = false from rfl, show sums 5 = false from rfl, show sums 6 = false from rfl, show sums 7 = false from rfl, show sums 8 = false from rfl, show sums 9 = false from rfl, show sums 10 = false from rfl, show sums 11 = false from rfl, show sums 12 = false from rfl, show sums 13 = false from rfl, show sums 14 = false from rfl, show sums 15 = false from rfl, show sums 16 = false from rfl, show sums 17 = false from rfl, show sums 18 = false from rfl, show sums 19 = false from rfl, show sums 20 = false from rfl, show sums 21 = false from rfl, show sums 22 = true from rfl, show sums 23 = true from rfl, show sums 24 = true from rfl, show sums 25 = true from rfl, show sums 26 = true from rfl, show sums 27 = true from rfl, show sums 28 = true from rfl]
  iintro ⟨⟨HS, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, H22, H23, H24, H25, H26, H27, H28⟩
  iapply (point c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (blkAt m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [HS]; · iexact HS
  iintro ⟨H0, H1, H2, H3, H4, H5, H6, H7, H8, H9, H10, H11, H12, H13, H14, H15, H16, H17, H18, H19, H20, H21, H22, H23, H24, H25, H26, H27, H28, HS⟩
  isplitl [HS Hp]
  · isplitl [HS]; · iexact HS
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-! ## The run -/

/-- What a run leaves: the results, and the arguments. -/
def Left (r : PUnit × MemSt nD τ sig (Elt F)) : Prop := ∀ c : Dev nD,
  (∀ w : Fin cfg0.W, w.val < 22 → r.2.mem (((cfg0.spec w).arr.view.loc (c : Thread nD τ))) = (dats m 0 c).arrAt w cfg0.N)
    ∧ ∀ b ∈ Pipeline.restRefs sig spec0, r.2.mem ((c : Thread nD τ).loc b) = V m c b

set_option backward.isDefEq.respectTransparency.types false in
theorem run_main : θ_run (defs (F := F)) (onTc (τ := τ) (main (F := F))) (s₀ m ρ) (fun r => Left m r ∧ r.2.sem = fun _ => 0) :=
  (θ_run (defs (F := F)) _ _).mono (fun r h => ⟨fun c => ⟨fun w hw => ((dats m 0 c).toRForget_arrAt_iff (by simp [sums]; omega) _ _).mp ((h.1 c).1 w), (h.1 c).2⟩, h.2⟩)
    (Pipeline.θ_run_frame_forget (Q' := fun r => Pipeline.RDat.FramePost cfg0 (fun c => (dats m 0 c).toRForget sums) (V m) r ∧ r.2.sem = fun _ => 0)
      cfgs (dats m) (0 : Fin 1) launch0 defs₀ Variants.none sums m ρ main
      (hbody := fun c => (body_obligation m c).loose) (hshare := fun c => (dats m 0 c).share_full fun _ => rfl)
      (howed := fun _ _ => rfl) (V := V m) (hmain := hmain m Variants.none) (hA := fun _ _ => rfl) (hΦ := fun _ _ => rfl))

/-- Every execution ends, the arguments as they were and every semaphore at zero. -/
theorem frame_main : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run (defs (F := F)) _ _).mono (fun r hr => ⟨fun c => by
    have h := hr.1 c
    exact ⟨(h.1 0 (by decide)).trans (((dats m 0 c).arrAt_in 0 rfl _).trans (V_main_arg0 m c)),
      (h.2 main_arg1 (Pipeline.mem_restRefs_of main_arg1 (by decide) (by decide))).trans (V_main_arg1 m c),
      (h.2 main_arg2 (Pipeline.mem_restRefs_of main_arg2 (by decide) (by decide))).trans (V_main_arg2 m c),
      (h.1 3 (by decide)).trans (((dats m 0 c).arrAt_in 3 rfl _).trans (V_main_arg3 m c)),
      (h.2 main_arg4 (Pipeline.mem_restRefs_of main_arg4 (by decide) (by decide))).trans (V_main_arg4 m c),
      (h.1 5 (by decide)).trans (((dats m 0 c).arrAt_in 5 rfl _).trans (V_main_arg5 m c)),
      (h.2 main_arg6 (Pipeline.mem_restRefs_of main_arg6 (by decide) (by decide))).trans (V_main_arg6 m c),
      (h.2 main_arg7 (Pipeline.mem_restRefs_of main_arg7 (by decide) (by decide))).trans (V_main_arg7 m c),
      (h.2 main_arg8 (Pipeline.mem_restRefs_of main_arg8 (by decide) (by decide))).trans (V_main_arg8 m c),
      (h.1 9 (by decide)).trans (((dats m 0 c).arrAt_in 9 rfl _).trans (V_main_arg9 m c)),
      (h.1 10 (by decide)).trans (((dats m 0 c).arrAt_in 10 rfl _).trans (V_main_arg10 m c))⟩, hr.2⟩) (run_main m ρ)

end Cert.Kernel3Ideal.Value
-- ==== Proof.Words3.lean ====
/-
  The feed-forward call as it runs has the same text as the call read over the extended reals.
-/
module

public import proofs.«01_k».proof.Defs

@[expose] public section

set_option maxRecDepth 65536
set_option maxHeartbeats 4000000

noncomputable section

open Idealize.ShloMosaic Idealize.ShloMosaic.TcCoe Idealize.SL.Sem

namespace Cert.Tokens

variable [hK : Cert.Kernel3.Facts] [hKI : Cert.Kernel3Ideal.Facts]

theorem body_eq : @Cert.Kernel3Ideal.cc0_ffn_fwd_bwd Bits _ hKI = Cert.Kernel3.cc0_ffn_fwd_bwd (F := Bits) := by rfl

theorem defs0_eq : @Cert.Kernel3Ideal.defs₀ Bits _ hKI = Cert.Kernel3.defs₀ (F := Bits) := by
  unfold Kernel3Ideal.defs₀ Kernel3.defs₀
  refine congrArg Defs.onTc (funext fun k => funext fun x => ?_)
  match k, x with
  | 0, (t, s) =>
    show @Cert.Kernel3Ideal.cc0_ffn_fwd_bwd Bits _ hKI _ _ _ _ _ _ _ _ _ _ _ _ _ _ _ _ _ _ _ _ _ _ _ _ _ _ _ _ _ _ _ _ _ _ _ _ _ _ _ _ _ _ _ _ _ _ _ _ _ _ _ _ _ _ _ _ _ _ _ _ _ = _
    rw [body_eq]
    rfl

theorem defs_eq : @Cert.Kernel3Ideal.defs Bits _ hKI = Cert.Kernel3.defs (F := Bits) :=
  congrArg (Pipeline.defs (Cert.Kernel3.pcfgs (F := Bits))) defs0_eq

theorem main_eq : @Cert.Kernel3Ideal.main Bits _ hKI = Cert.Kernel3.main (F := Bits) := by rfl

end Cert.Tokens
-- ==== Proof.Frames3.lean ====
/-
  The frames of the feed-forward call: every execution of each program ends, its arguments as they were and every semaphore
  counter at zero.
-/
module

public import proofs.«01_k».proof.Proof.TokenFrame
public import proofs.«01_k».proof.Proof.Words3
public import proofs.«01_k».proof.Proof.Gen.Kernel3
public import proofs.«01_k».proof.Proof.Gen.Reference3Ideal.Run
public import proofs.«01_k».proof.Proof.Gen.Reference3Ideal

@[expose] public section

set_option maxRecDepth 65536
set_option maxHeartbeats 4000000

noncomputable section

open Idealize.ShloMosaic Idealize.ShloMosaic.TcCoe Idealize.SL.Sem

namespace Cert.Proof

theorem frame_kernel3 : Cert.quiescent_Kernel3 (hKernel3 := Cert.Kernel3.Gen.facts) := by
  intro m ρ _
  have h := @Cert.Kernel3Ideal.Value.frame_main Bits _ m ρ
  rw [Tokens.defs_eq (hK := Cert.Kernel3.Gen.facts), Tokens.main_eq (hK := Cert.Kernel3.Gen.facts)] at h
  exact h

theorem frame_ideal3 : Cert.quiescent_Kernel3Ideal (hKernel3Ideal := Cert.Kernel3Ideal.Gen.facts) :=
  fun m ρ _ => Cert.Kernel3Ideal.Value.frame_main (F := Ideal) m ρ

theorem frame_reference3 : Cert.quiescent_Reference3Ideal (hReference3Ideal := Cert.Reference3Ideal.Gen.facts) := fun m ρ _ =>
  (θ_run Cert.Reference3Ideal.defs _ _).mono (fun r h => ⟨fun c => (h c).2.2.2.2.2.2.2.2.2.2.2, sem_eq_zero_of_no_sems (by decide) r.2⟩)
    (Cert.Reference3Ideal.Value.run (F := Ideal) m ρ)

theorem preserves3 : Cert.preserves_Kernel3_Kernel3Ideal := trivial

end Cert.Proof
-- ==== Proof.Token.lean ====
/-
  The second half of the layer and its gradient for 1 token, over the extended reals: what both the call's blocks and the
  reference's arrays hold in a token's row.
-/
module

public import Idealize.ShloMosaic.Lib.Pointwise

@[expose] public section

noncomputable section

open Idealize.ShloMosaic

namespace Cert.Token

/-- The logistic function on the extended reals. -/
def sig (x : EReal) : EReal := Ideal.div 1 (1 + Ideal.exp (-x))

/-- The numbers 1024, 1/1024 and 1e-6 as single-precision words. -/
def width : EReal := Ideal.ofBits .f32 0x44800000#32
def share : EReal := Ideal.ofBits .f32 0x3A800000#32
def eps : EReal := Ideal.ofBits .f32 0x358637BD#32

/-- The mean of the products of two rows. -/
def mean (u v : Fin 1024 → EReal) : EReal := Ideal.div (∑ k, u k * v k) width
/-- The reciprocal of a row's root mean square. -/
def rms (v : Fin 1024 → EReal) : EReal := Ideal.rsqrt (mean v v + eps)
/-- The gradient by a row of a gradient by the row over its root mean square. -/
def rmsGrad (n : Fin 1024 → EReal) (r : EReal) (d : Fin 1024 → EReal) (c : Fin 1024) : EReal := r * (d c - n c * mean d n)

/-- What every token shares: the gates, scales and shifts, the gains, and the five weight matrices. -/
structure Weights where
  gt1 : Fin 1024 → EReal
  sh2 : Fin 1024 → EReal
  sc2 : Fin 1024 → EReal
  gt2 : Fin 1024 → EReal
  gffn : Fin 1024 → EReal
  gfin : Fin 1024 → EReal
  wo : Fin 1024 → Fin 1024 → EReal
  wg : Fin 2816 → Fin 1024 → EReal
  wu : Fin 2816 → Fin 1024 → EReal
  wd : Fin 2816 → Fin 1024 → EReal

section
variable (P : Weights) (x cat t : Fin 1024 → EReal)

def x2 (c : Fin 1024) : EReal := x c + P.gt1 c * ∑ k, cat k * P.wo k c
def r2 : EReal := rms (x2 P x cat)
def n2 (c : Fin 1024) : EReal := x2 P x cat c * r2 P x cat
def h (c : Fin 1024) : EReal := n2 P x cat c * P.gffn c * (1 + P.sc2 c) + P.sh2 c
def a (f : Fin 2816) : EReal := ∑ k, h P x cat k * P.wg f k
def b (f : Fin 2816) : EReal := ∑ k, h P x cat k * P.wu f k
def act (f : Fin 2816) : EReal := a P x cat f * sig (a P x cat f) * b P x cat f
def x3 (c : Fin 1024) : EReal := x2 P x cat c + P.gt2 c * ∑ f, act P x cat f * P.wd f c
def r3 : EReal := rms (x3 P x cat)
def n3 (c : Fin 1024) : EReal := x3 P x cat c * r3 P x cat
def dy (c : Fin 1024) : EReal := (n3 P x cat c * P.gfin c - t c) * share
def dx3 (c : Fin 1024) : EReal := rmsGrad (n3 P x cat) (r3 P x cat) (fun k => dy P x cat t k * P.gfin k) c
def dff (c : Fin 1024) : EReal := dx3 P x cat t c * P.gt2 c
def df (f : Fin 2816) : EReal := ∑ k, dff P x cat t k * P.wd f k
def da (f : Fin 2816) : EReal :=
  df P x cat t f * b P x cat f * (sig (a P x cat f) * (1 + a P x cat f * (1 - sig (a P x cat f))))
def db (f : Fin 2816) : EReal := df P x cat t f * (a P x cat f * sig (a P x cat f))
def dh (c : Fin 1024) : EReal := (∑ f, da P x cat t f * P.wg f c) + ∑ f, db P x cat t f * P.wu f c
def dx2 (c : Fin 1024) : EReal :=
  dx3 P x cat t c + rmsGrad (n2 P x cat) (r2 P x cat) (fun k => dh P x cat t k * (P.gffn k * (1 + P.sc2 k))) c
def dmix (c : Fin 1024) : EReal := dx2 P x cat t c * P.gt1 c
def dcat (c : Fin 1024) : EReal := ∑ k, dmix P x cat t k * P.wo c k
end

/-! ## What the arguments give every token, and a token -/

abbrev Mat (a b : Nat) := FVec Ideal (⟨2, ![a, b]⟩ : Shape) .f32

/-- A row of a matrix. -/
def row {a b : Nat} (A : Mat a b) (s : Fin a) (c : Fin b) : EReal := A (ix2 s c)
/-- A row of two matrices beside each other. -/
def beside {a : Nat} (A B : Mat a 512) (s : Fin a) (c : Fin 1024) : EReal :=
  if hc : c.val < 512 then A (ix2 s ⟨c.val, hc⟩) else B (ix2 s ⟨c.val - 512, by omega⟩)
/-- What the tokens share, from the arguments: the modulation, the output projection, the gain of the feed-forward block, its three
    matrices, and the last gain. -/
def weights (M : Mat 1 6144) (Wo : Mat 1024 1024) (gffn : Mat 1 1024) (Wg Wu : Mat 1024 2816) (Wd : Mat 2816 1024) (gfin : Mat 1 1024) : Weights where
  gt1 c := M (ix2 0 ⟨2048 + c.val, by omega⟩)
  sh2 c := M (ix2 0 ⟨3072 + c.val, by omega⟩)
  sc2 c := M (ix2 0 ⟨4096 + c.val, by omega⟩)
  gt2 c := M (ix2 0 ⟨5120 + c.val, by omega⟩)
  gffn c := gffn (ix2 0 c)
  gfin c := gfin (ix2 0 c)
  wo k c := Wo (ix2 k c)
  wg f k := Wg (ix2 k f)
  wu f k := Wu (ix2 k f)
  wd f c := Wd (ix2 f c)

end Cert.Token

end
-- ==== Proof.TokenBlk.lean ====
/-
  The entries of the blocks the feed-forward call computes.
-/
module

public import Idealize.ShloMosaic.Lib.Pointwise
public import proofs.«01_k».proof.Proof.Token
public import proofs.«01_k».proof.Proof.Gen.Kernel3Ideal.Skeleton

@[expose] public section

set_option maxRecDepth 16384

noncomputable section

open Idealize.ShloMosaic Idealize.ShloMosaic.TcCoe

namespace Cert.Kernel3Ideal.Value

open Cert.Kernel3Ideal Cert.Kernel3Ideal.Gen

section
variable (v3 v4 v5 v6 v7 : Vec Ideal S1x1024 .f32) (v8 v10 : Vec Ideal S256x512 .bf16) (v17 : Vec Ideal S1024x1024 .bf16)
  (v20 : Vec Ideal S256x1024 .f32) (v23 : FVec Ideal S256x1024 .f32) (v30 : FVec Ideal S256x1 .f32) (r : Fin 256) (c : Fin 1024)

theorem pay12_apply : k0_pay12 v8 v10 v17 (ix2 r c) = ∑ k : Fin 1024, k0_pay10 v8 v10 (ix2 r k) * v17 (ix2 k c) := by
  unfold k0_pay12
  generalize k0_pay10 v8 v10 = q
  pointwise []
theorem pay13_apply : k0_pay13 v3 v8 v10 v17 v20 (ix2 r c) = v20 (ix2 r c) + v3 (ix2 0 c) * k0_pay12 v8 v10 v17 (ix2 r c) := by
  unfold k0_pay13
  generalize k0_pay12 v8 v10 v17 = q
  pointwise []
theorem pay14_apply : k0_pay14 v3 v8 v10 v17 v20 (ix2 r 0)
    = Token.mean (fun k => k0_pay13 v3 v8 v10 v17 v20 (ix2 r k)) (fun k => k0_pay13 v3 v8 v10 v17 v20 (ix2 r k)) + Token.eps := by
  unfold k0_pay14
  generalize k0_pay13 v3 v8 v10 v17 v20 = q
  pointwise [Token.mean, Token.width, Token.eps]
theorem pay15_apply : k0_pay15 v30 (ix2 r 0) = Ideal.rsqrt (v30 (ix2 r 0)) := by
  pointwise [k0_pay15]
theorem pay16_apply : k0_pay16 v23 v30 (ix2 r c) = v23 (ix2 r c) * Ideal.rsqrt (v30 (ix2 r 0)) := by
  pointwise [k0_pay16, k0_pay15]
theorem pay17_apply : k0_pay17 v4 v5 v7 v23 v30 (ix2 r c)
    = v23 (ix2 r c) * Ideal.rsqrt (v30 (ix2 r 0)) * v7 (ix2 0 c) * (1 + v5 (ix2 0 c)) + v4 (ix2 0 c) := by
  pointwise [k0_pay17, k0_pay16, k0_pay15]
theorem pay18_apply : k0_pay18 v4 v5 v7 v23 v30 (ix2 r c) = k0_pay17 v4 v5 v7 v23 v30 (ix2 r c) := by
  rfl
theorem pay19_apply : k0_pay19 v4 v5 v7 v23 v30 (ix2 c r) = k0_pay17 v4 v5 v7 v23 v30 (ix2 r c) := by
  unfold k0_pay19
  generalize k0_pay17 v4 v5 v7 v23 v30 = q
  pointwise []
theorem pay11_apply : k0_pay11 v8 v10 (ix2 c r) = k0_pay10 v8 v10 (ix2 r c) := by
  unfold k0_pay11
  generalize k0_pay10 v8 v10 = q
  pointwise []
end

section
variable (v6 v250 : Vec Ideal S1x1024 .f32) (v23 v253 v249 v254 : Vec Ideal S256x1024 .f32) (v247 : FVec Ideal S256x1 .f32)
  (v233 : Vec Ideal S256x2816 .bf16) (v234 : Vec Ideal S2816x1024 .bf16) (r : Fin 256) (c : Fin 1024)

theorem pay78_apply : k0_pay78 v233 v234 (ix2 r c) = ∑ f : Fin 2816, v233 (ix2 r f) * v234 (ix2 f c) := by
  pointwise [k0_pay78]
theorem pay79_apply : k0_pay79 v6 v23 v233 v234 (ix2 r c) = v23 (ix2 r c) + v6 (ix2 0 c) * k0_pay78 v233 v234 (ix2 r c) := by
  unfold k0_pay79
  generalize k0_pay78 v233 v234 = q
  pointwise []
theorem pay80_apply : k0_pay80 v6 v23 v233 v234 (ix2 r 0) = Token.rms (fun k => k0_pay79 v6 v23 v233 v234 (ix2 r k)) := by
  unfold k0_pay80
  generalize k0_pay79 v6 v23 v233 v234 = q
  pointwise [Token.rms, Token.mean, Token.width, Token.eps]
theorem pay81_apply : k0_pay81 v6 v23 v233 v234 (ix2 r c) = k0_pay79 v6 v23 v233 v234 (ix2 r c) * k0_pay80 v6 v23 v233 v234 (ix2 r 0) := by
  unfold k0_pay81
  generalize k0_pay79 v6 v23 v233 v234 = q
  generalize k0_pay80 v6 v23 v233 v234 = q'
  pointwise []
theorem pay82_apply : k0_pay82 v6 v23 v233 v234 v250 v253 (ix2 r c) = k0_pay81 v6 v23 v233 v234 (ix2 r c) * v250 (ix2 0 c) - v253 (ix2 r c) := by
  unfold k0_pay82
  generalize k0_pay81 v6 v23 v233 v234 = q
  pointwise []
theorem pay88_apply : k0_pay88 v247 v249 v250 v254 (ix2 r c)
    = Token.rmsGrad (fun k => v249 (ix2 r k)) (v247 (ix2 r 0)) (fun k => v254 (ix2 r k) * Token.share * v250 (ix2 0 k)) c := by
  pointwise [k0_pay88, k0_pay86, Token.rmsGrad, Token.mean, Token.width, Token.share]
theorem pay90_apply : k0_pay90 v6 v247 v249 v250 v254 (ix2 r c) = k0_pay88 v247 v249 v250 v254 (ix2 r c) * v6 (ix2 0 c) := by
  unfold k0_pay90
  generalize k0_pay88 v247 v249 v250 v254 = q
  pointwise []
theorem pay91_apply : k0_pay91 v6 v247 v249 v250 v254 (ix2 r c) = k0_pay90 v6 v247 v249 v250 v254 (ix2 r c) := by
  rfl
theorem pay92_apply : k0_pay92 v6 v247 v249 v250 v254 (ix2 c r) = k0_pay90 v6 v247 v249 v250 v254 (ix2 r c) := by
  unfold k0_pay92
  generalize k0_pay90 v6 v247 v249 v250 v254 = q
  pointwise []
end

/-! ## A chunk of 256 columns of the products -/

section
variable (h g w w' : Vec Ideal S256x1024 .bf16) (p q : Vec Ideal S256x256 .bf16) (r : Fin 256) (c : Fin 256)

/-- The chunk of a product with the rows of a weight matrix. -/
def chunk : FVec Ideal S256x256 .bf16 := k0_pay28 h w
def chunkAct : FVec Ideal S256x256 .bf16 := k0_pay34 h w w'
def chunkDb : FVec Ideal S256x256 .bf16 := k0_pay102 g w p
def chunkDa : FVec Ideal S256x256 .bf16 := k0_pay108 g w p q

theorem chunk_apply : chunk h w (ix2 r c) = ∑ k : Fin 1024, h (ix2 r k) * w (ix2 c k) := by
  pointwise [chunk, k0_pay28, k0_pay26]
theorem chunkAct_apply : chunkAct h w w' (ix2 r c) = chunk h w (ix2 r c) * Token.sig (chunk h w (ix2 r c)) * chunk h w' (ix2 r c) := by
  rw [chunk_apply, chunk_apply]
  pointwise [chunkAct, k0_pay34, k0_pay30, k0_pay31]
  rfl
theorem chunkDb_apply : chunkDb g w p (ix2 r c) = chunk g w (ix2 r c) * (p (ix2 r c) * Token.sig (p (ix2 r c))) := by
  rw [chunk_apply]
  pointwise [chunkDb, k0_pay102, k0_pay98, k0_pay99, k0_pay101]
  rfl
theorem chunkDa_apply : chunkDa g w p q (ix2 r c) = chunk g w (ix2 r c) * q (ix2 r c)
    * (Token.sig (p (ix2 r c)) * (1 + p (ix2 r c) * (1 - Token.sig (p (ix2 r c))))) := by
  rw [chunk_apply]
  pointwise [chunkDa, k0_pay108, k0_pay104, k0_pay105, k0_pay106]
  rfl
end

section
variable (v3 v5 v7 : Vec Ideal S1x1024 .f32) (v33 v290 v578 : FVec Ideal S256x1024 .f32) (v31 : FVec Ideal S256x1 .f32)
  (v568 v573 : Vec Ideal S256x2816 .bf16) (v570 v575 : Vec Ideal S2816x1024 .bf16) (v628 : Vec Ideal S1024x1024 .bf16)
  (v630 : FVec Ideal S256x1024 .f32) (v631 : FVec Ideal S256x512 .f32) (r : Fin 256) (c : Fin 1024) (e : Fin 512)

theorem pay154_apply : k0_pay154 v568 v570 v573 v575 (ix2 r c)
    = (∑ f : Fin 2816, v568 (ix2 r f) * v570 (ix2 f c)) + ∑ f : Fin 2816, v573 (ix2 r f) * v575 (ix2 f c) := by
  pointwise [k0_pay154]
theorem pay159_apply : k0_pay159 v5 v7 v31 v33 v290 v578 (ix2 r c) = v290 (ix2 r c)
    + Token.rmsGrad (fun k => v33 (ix2 r k)) (v31 (ix2 r 0)) (fun k => v578 (ix2 r k) * (v7 (ix2 0 k) * (1 + v5 (ix2 0 k)))) c := by
  pointwise [k0_pay159, Token.rmsGrad, Token.mean, Token.width]
theorem pay161_apply : k0_pay161 v3 v5 v7 v31 v33 v290 v578 (ix2 r c) = k0_pay159 v5 v7 v31 v33 v290 v578 (ix2 r c) * v3 (ix2 0 c) := by
  unfold k0_pay161
  generalize k0_pay159 v5 v7 v31 v33 v290 v578 = q
  pointwise []
theorem pay162_apply : k0_pay162 v3 v5 v7 v31 v33 v290 v578 v628 (ix2 r c)
    = ∑ k : Fin 1024, k0_pay161 v3 v5 v7 v31 v33 v290 v578 (ix2 r k) * v628 (ix2 c k) := by
  unfold k0_pay162
  generalize k0_pay161 v3 v5 v7 v31 v33 v290 v578 = q
  pointwise []
theorem pay1_apply : k0_pay1 v631 (ix2 r e) = v631 (ix2 r e) := by
  pointwise [k0_pay1]
theorem pay163_apply : k0_pay163 v3 v5 v7 v31 v33 v290 v578 v628 (ix2 r e)
    = k0_pay162 v3 v5 v7 v31 v33 v290 v578 v628 (ix2 r ⟨e.val, by omega⟩) := by
  unfold k0_pay163
  generalize k0_pay162 v3 v5 v7 v31 v33 v290 v578 v628 = q
  pointwise []
theorem pay2_apply : k0_pay2 v630 (ix2 r e) = v630 (ix2 r ⟨512 + e.val, by omega⟩) := by
  pointwise [k0_pay2]
end

end Cert.Kernel3Ideal.Value

end
-- ==== Proof.TokenVal.lean ====
/-
  What a grid point of the feed-forward call leaves, row by row: the mathematics of one token.
-/
module

public import proofs.«01_k».proof.Proof.TokenForm
public import proofs.«01_k».proof.Proof.TokenBlk

@[expose] public section

set_option maxRecDepth 16384

noncomputable section

namespace Cert.Kernel3Ideal.Value

open Idealize.ShloMosaic Idealize.ShloMosaic.TcCoe
open Cert.Kernel3Ideal Cert.Kernel3Ideal.Gen

theorem rows_apply (w : Vec Ideal S2816x1024 .bf16) (k : Fin 11) (q : Fin 256) (c : Fin 1024) :
    rows w k (ix2 q c) = w (ix2 ⟨256 * k.val + q.val, by have := k.isLt; have := q.isLt; omega⟩ c) := by
  refine congrArg w (funext fun a => Fin.ext ?_)
  fin_cases a
  · show 256 * k.val + 1 * q.val = 256 * k.val + q.val; omega
  · show 0 + 1 * c.val = c.val; omega
/-- The chunks of columns, read as one row. -/
theorem tiled_row (p : Fin 11 → Vec Ideal S256x256 .bf16) (r : Fin 256) (G : Fin 2816 → EReal)
    (h : ∀ (k : Fin 11) (q : Fin 256), p k (ix2 r q) = G ⟨256 * k.val + q.val, by have := k.isLt; have := q.isLt; omega⟩) (f : Fin 2816) :
    tiled p (ix2 r f) = G f := by
  refine (h ⟨f.val / 256, by have := f.isLt; omega⟩ ⟨f.val % 256, Nat.mod_lt _ (by omega)⟩).trans (congrArg G (Fin.ext ?_))
  show 256 * (f.val / 256) + f.val % 256 = f.val
  omega

namespace Blk
variable (I : Blk Ideal) (r : Fin 256) (c : Fin 1024) (k : Fin 11) (q : Fin 256) (f : Fin 2816) (e : Fin 512)

/-- What the tokens of a block share, and the rows of one. -/
def wt : Token.Weights where
  gt1 c := I.gt1 (ix2 0 c)
  sh2 c := I.sh2 (ix2 0 c)
  sc2 c := I.sc2 (ix2 0 c)
  gt2 c := I.gt2 (ix2 0 c)
  gffn c := I.gffn (ix2 0 c)
  gfin c := I.gfin (ix2 0 c)
  wo k c := I.wo (ix2 k c)
  wg f k := I.wg (ix2 f k)
  wu f k := I.wu (ix2 f k)
  wd f c := I.wd (ix2 f c)
def xr : Fin 1024 → EReal := fun c => I.x (ix2 r c)
def cr : Fin 1024 → EReal := fun c => k0_pay10 I.ym I.yp (ix2 r c)
def tr : Fin 1024 → EReal := fun c => I.tgt (ix2 r c)

theorem x2_apply : I.x2 (ix2 r c) = Token.x2 I.wt (I.xr r) (I.cr r) c := by
  unfold Blk.x2
  rw [pay13_apply, pay12_apply]
  rfl
theorem ms_apply : I.ms (ix2 r 0) = Token.mean (Token.x2 I.wt (I.xr r) (I.cr r)) (Token.x2 I.wt (I.xr r) (I.cr r)) + Token.eps := by
  unfold Blk.ms
  rw [pay14_apply]
  have h : (fun k => k0_pay13 I.gt1 I.ym I.yp I.wo I.x (ix2 r k)) = Token.x2 I.wt (I.xr r) (I.cr r) := funext fun k => x2_apply I r k
  rw [h]
theorem r2_apply : I.r2 (ix2 r 0) = Token.r2 I.wt (I.xr r) (I.cr r) := by
  unfold Blk.r2
  rw [pay15_apply, ms_apply]
  rfl
theorem n2_apply : I.n2 (ix2 r c) = Token.n2 I.wt (I.xr r) (I.cr r) c := by
  unfold Blk.n2
  rw [pay16_apply, ms_apply, x2_apply]
  rfl
theorem pre_apply : k0_pay17 I.sh2 I.sc2 I.gffn I.x2 I.ms (ix2 r c) = Token.h I.wt (I.xr r) (I.cr r) c := by
  rw [pay17_apply, ms_apply, x2_apply]
  rfl
theorem hid_apply : I.hid (ix2 r c) = Token.h I.wt (I.xr r) (I.cr r) c := (pay18_apply ..).trans (pre_apply I r c)
theorem o11_apply : I.o11 (ix2 c r) = Token.h I.wt (I.xr r) (I.cr r) c := (pay19_apply ..).trans (pre_apply I r c)
theorem o19_apply : I.o19 (ix2 c r) = I.cr r c := pay11_apply ..

theorem aC_apply : I.aC k (ix2 r q) = Token.a I.wt (I.xr r) (I.cr r) ⟨256 * k.val + q.val, by have := k.isLt; have := q.isLt; omega⟩ := by
  refine (chunk_apply I.hid (rows I.wg k) r q).trans ?_
  simp only [hid_apply, rows_apply]
  rfl
theorem bC_apply : I.bC k (ix2 r q) = Token.b I.wt (I.xr r) (I.cr r) ⟨256 * k.val + q.val, by have := k.isLt; have := q.isLt; omega⟩ := by
  refine (chunk_apply I.hid (rows I.wu k) r q).trans ?_
  simp only [hid_apply, rows_apply]
  rfl
theorem fC_apply : I.fC k (ix2 r q) = Token.act I.wt (I.xr r) (I.cr r) ⟨256 * k.val + q.val, by have := k.isLt; have := q.isLt; omega⟩ := by
  refine (chunkAct_apply I.hid (rows I.wg k) (rows I.wu k) r q).trans ?_
  rw [show chunk I.hid (rows I.wg k) (ix2 r q) = _ from aC_apply I r k q, show chunk I.hid (rows I.wu k) (ix2 r q) = _ from bC_apply I r k q]
  rfl
theorem a_apply : tiled I.aC (ix2 r f) = Token.a I.wt (I.xr r) (I.cr r) f := tiled_row _ r _ (aC_apply I r) f
theorem b_apply : tiled I.bC (ix2 r f) = Token.b I.wt (I.xr r) (I.cr r) f := tiled_row _ r _ (bC_apply I r) f
theorem f_apply : tiled I.fC (ix2 r f) = Token.act I.wt (I.xr r) (I.cr r) f := tiled_row _ r _ (fC_apply I r) f

theorem x3_apply : k0_pay79 I.gt2 I.x2 (tiled I.fC) I.wd (ix2 r c) = Token.x3 I.wt (I.xr r) (I.cr r) c := by
  rw [pay79_apply, pay78_apply, x2_apply]
  simp only [f_apply]
  rfl
theorem r3_apply : I.r3 (ix2 r 0) = Token.r3 I.wt (I.xr r) (I.cr r) := by
  unfold Blk.r3
  rw [pay80_apply]
  simp only [x3_apply]
  rfl
theorem n3_apply : I.n3 (ix2 r c) = Token.n3 I.wt (I.xr r) (I.cr r) c := by
  unfold Blk.n3
  rw [pay81_apply, x3_apply]
  exact congrArg (Token.x3 I.wt (I.xr r) (I.cr r) c * ·) (r3_apply I r)
theorem err_apply : I.err (ix2 r c) = Token.n3 I.wt (I.xr r) (I.cr r) c * I.wt.gfin c - I.tr r c := by
  unfold Blk.err
  rw [pay82_apply]
  exact congrArg (· * I.wt.gfin c - I.tr r c) (n3_apply I r c)
theorem dx3_apply : I.dx3 (ix2 r c) = Token.dx3 I.wt (I.xr r) (I.cr r) (I.tr r) c := by
  unfold Blk.dx3
  rw [pay88_apply, r3_apply]
  simp only [n3_apply, err_apply]
  rfl
theorem back_apply : k0_pay90 I.gt2 I.r3 I.n3 I.gfin I.err (ix2 r c) = Token.dff I.wt (I.xr r) (I.cr r) (I.tr r) c := by
  rw [pay90_apply]
  exact congrArg (· * I.wt.gt2 c) (dx3_apply I r c)
theorem dff_apply : I.dff (ix2 r c) = Token.dff I.wt (I.xr r) (I.cr r) (I.tr r) c := (pay91_apply ..).trans (back_apply I r c)
theorem o16_apply : I.o16 (ix2 c r) = Token.dff I.wt (I.xr r) (I.cr r) (I.tr r) c := (pay92_apply ..).trans (back_apply I r c)

theorem dfC_apply : chunk I.dff (rows I.wd k) (ix2 r q)
    = Token.df I.wt (I.xr r) (I.cr r) (I.tr r) ⟨256 * k.val + q.val, by have := k.isLt; have := q.isLt; omega⟩ := by
  refine (chunk_apply I.dff (rows I.wd k) r q).trans ?_
  simp only [dff_apply, rows_apply]
  rfl
theorem dbC_apply : I.dbC k (ix2 r q) = Token.db I.wt (I.xr r) (I.cr r) (I.tr r) ⟨256 * k.val + q.val, by have := k.isLt; have := q.isLt; omega⟩ := by
  refine (chunkDb_apply I.dff (rows I.wd k) (I.aC k) r q).trans ?_
  rw [dfC_apply, aC_apply]
  rfl
theorem daC_apply : I.daC k (ix2 r q) = Token.da I.wt (I.xr r) (I.cr r) (I.tr r) ⟨256 * k.val + q.val, by have := k.isLt; have := q.isLt; omega⟩ := by
  refine (chunkDa_apply I.dff (rows I.wd k) (I.aC k) (I.bC k) r q).trans ?_
  rw [dfC_apply, aC_apply, bC_apply]
  rfl
theorem da_apply : tiled I.daC (ix2 r f) = Token.da I.wt (I.xr r) (I.cr r) (I.tr r) f := tiled_row _ r _ (daC_apply I r) f
theorem db_apply : tiled I.dbC (ix2 r f) = Token.db I.wt (I.xr r) (I.cr r) (I.tr r) f := tiled_row _ r _ (dbC_apply I r) f
theorem dh_apply : I.dh (ix2 r c) = Token.dh I.wt (I.xr r) (I.cr r) (I.tr r) c := by
  unfold Blk.dh
  rw [pay154_apply]
  simp only [da_apply, db_apply]
  rfl
theorem o17_apply : I.o17 (ix2 r c) = Token.dx2 I.wt (I.xr r) (I.cr r) (I.tr r) c := by
  unfold Blk.o17
  rw [pay159_apply, dx3_apply, r2_apply]
  simp only [n2_apply, dh_apply]
  rfl
theorem o18_apply : I.o18 (ix2 r c) = Token.dmix I.wt (I.xr r) (I.cr r) (I.tr r) c := by
  unfold Blk.o18
  rw [pay161_apply]
  exact congrArg (· * I.wt.gt1 c) (o17_apply I r c)
theorem dcat_apply : k0_pay162 I.gt1 I.sc2 I.gffn I.r2 I.n2 I.dx3 I.dh I.wo (ix2 r c) = Token.dcat I.wt (I.xr r) (I.cr r) (I.tr r) c := by
  rw [pay162_apply]
  exact Finset.sum_congr rfl fun k _ => congrArg (· * I.wo (ix2 c k)) (o18_apply I r k)
theorem o20_apply : I.o20 (ix2 r e) = Token.dcat I.wt (I.xr r) (I.cr r) (I.tr r) ⟨e.val, by have := e.isLt; omega⟩ := by
  unfold Blk.o20
  rw [pay1_apply, pay163_apply, dcat_apply]
theorem o21_apply : I.o21 (ix2 r e) = Token.dcat I.wt (I.xr r) (I.cr r) (I.tr r) ⟨512 + e.val, by have := e.isLt; omega⟩ := by
  unfold Blk.o21
  rw [pay2_apply, dcat_apply]
end Blk

end Cert.Kernel3Ideal.Value
-- ==== Proof.TokenOut.lean ====
/-
  The arrays the feed-forward call leaves: the entries of the blocks a point reads, from the arguments, and the eleven results, whose
  rows (or columns, of those turned over) are what the token's mathematics gives.
-/
module

public import proofs.«01_k».proof.Proof.TokenFrame
public import proofs.«01_k».proof.Proof.TokenVal

@[expose] public section

set_option maxRecDepth 65536

noncomputable section

namespace Cert.Kernel3Ideal.Value

open Cert.Kernel3Ideal Cert.Kernel3Ideal.Gen Idealize.ShloMosaic Idealize.ShloMosaic.TcCoe Idealize.ShloMosaic.Tactic

/-- Token `r` of the block of point `t`. -/
def tok (t : Fin cfg0.N) (r : Fin 256) : Fin 4096 := ⟨256 * t.val + r.val, by have := (show t.val < 16 from t.isLt); omega⟩

theorem idxIn : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val, 0] :=
  (by decide +kernel : ∀ t : Fin grid0.N, _)

theorem idxOut : ∀ t : Fin cfg0.N, win0_11.index t = ![0, t.val]
    ∧ win0_12.index t = ![t.val, 0]
    ∧ win0_13.index t = ![t.val, 0]
    ∧ win0_14.index t = ![t.val, 0]
    ∧ win0_15.index t = ![t.val, 0]
    ∧ win0_16.index t = ![0, t.val]
    ∧ win0_17.index t = ![t.val, 0]
    ∧ win0_18.index t = ![t.val, 0]
    ∧ win0_19.index t = ![0, t.val]
    ∧ win0_20.index t = ![t.val, 0]
    ∧ win0_21.index t = ![t.val, 0] :=
  (by decide +kernel : ∀ t : Fin grid0.N, _)

section
variable {F : FTy → Type} [FloatOps F] (t : Fin cfg0.N)

theorem emb0 (r : Fin 256) (j : Fin 1024) (X : Vec F S4096x1024 .f32) : X ((win0_0.blk t).view.emb (ix2 r j)) = X (ix2 (tok t r) j) := by
  have hk : (tok t r).val = 256 * t.val + r.val := rfl
  generalize tok t r = k at hk ⊢
  blk_ext [idxIn t]
theorem emb1 (r : Fin 256) (j : Fin 512) (X : Vec F S4096x512 .bf16) : X ((win0_1.blk t).view.emb (ix2 r j)) = X (ix2 (tok t r) j) := by
  have hk : (tok t r).val = 256 * t.val + r.val := rfl
  generalize tok t r = k at hk ⊢
  blk_ext [idxIn t]
theorem emb2 (r : Fin 256) (j : Fin 512) (X : Vec F S4096x512 .bf16) : X ((win0_2.blk t).view.emb (ix2 r j)) = X (ix2 (tok t r) j) := by
  have hk : (tok t r).val = 256 * t.val + r.val := rfl
  generalize tok t r = k at hk ⊢
  blk_ext [idxIn t]
theorem emb3 (i : Fin 1) (j : Fin 6144) (X : Vec F S1x6144 .f32) : X ((win0_3.blk t).view.emb (ix2 i j)) = X (ix2 i j) := by
  blk_ext [idxIn t]
theorem emb4 (i : Fin 1024) (j : Fin 1024) (X : Vec F S1024x1024 .bf16) : X ((win0_4.blk t).view.emb (ix2 i j)) = X (ix2 i j) := by
  blk_ext [idxIn t]
theorem emb5 (i : Fin 1) (j : Fin 1024) (X : Vec F S1x1024 .f32) : X ((win0_5.blk t).view.emb (ix2 i j)) = X (ix2 i j) := by
  blk_ext [idxIn t]
theorem emb6 (i : Fin 2816) (j : Fin 1024) (X : Vec F S2816x1024 .bf16) : X ((win0_6.blk t).view.emb (ix2 i j)) = X (ix2 i j) := by
  blk_ext [idxIn t]
theorem emb7 (i : Fin 2816) (j : Fin 1024) (X : Vec F S2816x1024 .bf16) : X ((win0_7.blk t).view.emb (ix2 i j)) = X (ix2 i j) := by
  blk_ext [idxIn t]
theorem emb8 (i : Fin 2816) (j : Fin 1024) (X : Vec F S2816x1024 .bf16) : X ((win0_8.blk t).view.emb (ix2 i j)) = X (ix2 i j) := by
  blk_ext [idxIn t]
theorem emb9 (i : Fin 1) (j : Fin 1024) (X : Vec F S1x1024 .f32) : X ((win0_9.blk t).view.emb (ix2 i j)) = X (ix2 i j) := by
  blk_ext [idxIn t]
theorem emb10 (r : Fin 256) (j : Fin 1024) (X : Vec F S4096x1024 .f32) : X ((win0_10.blk t).view.emb (ix2 r j)) = X (ix2 (tok t r) j) := by
  have hk : (tok t r).val = 256 * t.val + r.val := rfl
  generalize tok t r = k at hk ⊢
  blk_ext [idxIn t]
theorem emb11 (i : Fin 1024) (r : Fin 256) (X : Vec F S1024x4096 .bf16) : X ((win0_11.blk t).view.emb (ix2 i r)) = X (ix2 i (tok t r)) := by
  have hk : (tok t r).val = 256 * t.val + r.val := rfl
  generalize tok t r = k at hk ⊢
  blk_ext [idxOut t]
theorem emb12 (r : Fin 256) (j : Fin 2816) (X : Vec F S4096x2816 .bf16) : X ((win0_12.blk t).view.emb (ix2 r j)) = X (ix2 (tok t r) j) := by
  have hk : (tok t r).val = 256 * t.val + r.val := rfl
  generalize tok t r = k at hk ⊢
  blk_ext [idxOut t]
theorem emb13 (r : Fin 256) (j : Fin 2816) (X : Vec F S4096x2816 .bf16) : X ((win0_13.blk t).view.emb (ix2 r j)) = X (ix2 (tok t r) j) := by
  have hk : (tok t r).val = 256 * t.val + r.val := rfl
  generalize tok t r = k at hk ⊢
  blk_ext [idxOut t]
theorem emb14 (r : Fin 256) (j : Fin 2816) (X : Vec F S4096x2816 .bf16) : X ((win0_14.blk t).view.emb (ix2 r j)) = X (ix2 (tok t r) j) := by
  have hk : (tok t r).val = 256 * t.val + r.val := rfl
  generalize tok t r = k at hk ⊢
  blk_ext [idxOut t]
theorem emb15 (r : Fin 256) (j : Fin 2816) (X : Vec F S4096x2816 .bf16) : X ((win0_15.blk t).view.emb (ix2 r j)) = X (ix2 (tok t r) j) := by
  have hk : (tok t r).val = 256 * t.val + r.val := rfl
  generalize tok t r = k at hk ⊢
  blk_ext [idxOut t]
theorem emb16 (i : Fin 1024) (r : Fin 256) (X : Vec F S1024x4096 .bf16) : X ((win0_16.blk t).view.emb (ix2 i r)) = X (ix2 i (tok t r)) := by
  have hk : (tok t r).val = 256 * t.val + r.val := rfl
  generalize tok t r = k at hk ⊢
  blk_ext [idxOut t]
theorem emb17 (r : Fin 256) (j : Fin 1024) (X : Vec F S4096x1024 .f32) : X ((win0_17.blk t).view.emb (ix2 r j)) = X (ix2 (tok t r) j) := by
  have hk : (tok t r).val = 256 * t.val + r.val := rfl
  generalize tok t r = k at hk ⊢
  blk_ext [idxOut t]
theorem emb18 (r : Fin 256) (j : Fin 1024) (X : Vec F S4096x1024 .bf16) : X ((win0_18.blk t).view.emb (ix2 r j)) = X (ix2 (tok t r) j) := by
  have hk : (tok t r).val = 256 * t.val + r.val := rfl
  generalize tok t r = k at hk ⊢
  blk_ext [idxOut t]
theorem emb19 (i : Fin 1024) (r : Fin 256) (X : Vec F S1024x4096 .bf16) : X ((win0_19.blk t).view.emb (ix2 i r)) = X (ix2 i (tok t r)) := by
  have hk : (tok t r).val = 256 * t.val + r.val := rfl
  generalize tok t r = k at hk ⊢
  blk_ext [idxOut t]
theorem emb20 (r : Fin 256) (j : Fin 512) (X : Vec F S4096x512 .bf16) : X ((win0_20.blk t).view.emb (ix2 r j)) = X (ix2 (tok t r) j) := by
  have hk : (tok t r).val = 256 * t.val + r.val := rfl
  generalize tok t r = k at hk ⊢
  blk_ext [idxOut t]
theorem emb21 (r : Fin 256) (j : Fin 512) (X : Vec F S4096x512 .f32) : X ((win0_21.blk t).view.emb (ix2 r j)) = X (ix2 (tok t r) j) := by
  have hk : (tok t r).val = 256 * t.val + r.val := rfl
  generalize tok t r = k at hk ⊢
  blk_ext [idxOut t]
end

/-! ## The blocks a point reads -/

section
variable (m : (ℓ : Loc nD τ sig) → Buf (Elt Ideal) ℓ) (c : Dev nD)

abbrev argX : Token.Mat 4096 1024 := m ((c : Thread nD τ).loc main_arg0)
abbrev argYm : Token.Mat 4096 512 := m ((c : Thread nD τ).loc main_arg1)
abbrev argYp : Token.Mat 4096 512 := m ((c : Thread nD τ).loc main_arg2)
abbrev argM : Token.Mat 1 6144 := m ((c : Thread nD τ).loc main_arg3)
abbrev argWo : Token.Mat 1024 1024 := m ((c : Thread nD τ).loc main_arg4)
abbrev argGffn : Token.Mat 1 1024 := m ((c : Thread nD τ).loc main_arg5)
abbrev argWg : Token.Mat 1024 2816 := m ((c : Thread nD τ).loc main_arg6)
abbrev argWu : Token.Mat 1024 2816 := m ((c : Thread nD τ).loc main_arg7)
abbrev argWd : Token.Mat 2816 1024 := m ((c : Thread nD τ).loc main_arg8)
abbrev argGfin : Token.Mat 1 1024 := m ((c : Thread nD τ).loc main_arg9)
abbrev argT : Token.Mat 4096 1024 := m ((c : Thread nD τ).loc main_arg10)

/-- What the tokens share, and the rows of a token. -/
def wts : Token.Weights := Token.weights (argM m c) (argWo m c) (argGffn m c) (argWg m c) (argWu m c) (argWd m c) (argGfin m c)
def rowX (s : Fin 4096) : Fin 1024 → EReal := Token.row (argX m c) s
def rowC (s : Fin 4096) : Fin 1024 → EReal := Token.beside (argYm m c) (argYp m c) s
def rowT (s : Fin 4096) : Fin 1024 → EReal := Token.row (argT m c) s

theorem V0 : V m c main_v0 = (truncf .bf16 (argYm m c : FVec Ideal S4096x512 .f32) bitsLt_bf16_f32 : FVec Ideal S4096x512 .bf16) := by
  simp only [V, hostOps0, List.flatten_cons, List.flatten_nil, List.append_nil, List.cons_append, List.nil_append]
  entry_read
  rfl
theorem V1 : V m c main_v1 = (truncf .bf16 (argYp m c : FVec Ideal S4096x512 .f32) bitsLt_bf16_f32 : FVec Ideal S4096x512 .bf16) := by
  simp only [V, hostOps0, List.flatten_cons, List.flatten_nil, List.append_nil, List.cons_append, List.nil_append]
  entry_read
  rfl
theorem V2 : V m c main_v2 = (truncf .bf16 (argWo m c : FVec Ideal S1024x1024 .f32) bitsLt_bf16_f32 : FVec Ideal S1024x1024 .bf16) := by
  simp only [V, hostOps0, List.flatten_cons, List.flatten_nil, List.append_nil, List.cons_append, List.nil_append]
  entry_read
  rfl
theorem V7 : V m c main_v7 = (truncf .bf16 (argWd m c : FVec Ideal S2816x1024 .f32) bitsLt_bf16_f32 : FVec Ideal S2816x1024 .bf16) := by
  simp only [V, hostOps0, List.flatten_cons, List.flatten_nil, List.append_nil, List.cons_append, List.nil_append]
  entry_read
  rfl
theorem V4 : V m c main_v4 = (truncf .bf16 (transpose S2816x1024 [1, 0] (argWg m c : FVec Ideal S1024x2816 .f32) transposes_S1024x2816_S2816x1024_1_0) bitsLt_bf16_f32 : FVec Ideal S2816x1024 .bf16) := by
  simp only [V, hostOps0, List.flatten_cons, List.flatten_nil, List.append_nil, List.cons_append, List.nil_append]
  entry_read
  rfl
theorem V6 : V m c main_v6 = (truncf .bf16 (transpose S2816x1024 [1, 0] (argWu m c : FVec Ideal S1024x2816 .f32) transposes_S1024x2816_S2816x1024_1_0) bitsLt_bf16_f32 : FVec Ideal S2816x1024 .bf16) := by
  simp only [V, hostOps0, List.flatten_cons, List.flatten_nil, List.append_nil, List.cons_append, List.nil_append]
  entry_read
  rfl

variable (t : Fin cfg0.N) (r : Fin 256)

theorem x_at (j : Fin 1024) : (blkAt m c t).x (ix2 r j) = argX m c (ix2 (tok t r) j) := by
  refine (emb0 t r j (V m c main_arg0)).trans ?_
  rw [V_main_arg0]
theorem tgt_at (j : Fin 1024) : (blkAt m c t).tgt (ix2 r j) = argT m c (ix2 (tok t r) j) := by
  refine (emb10 t r j (V m c main_arg10)).trans ?_
  rw [V_main_arg10]
theorem cond_at (i : Fin 1) (j : Fin 6144) : (blkAt m c t).cond (ix2 i j) = argM m c (ix2 i j) := by
  refine (emb3 t i j (V m c main_arg3)).trans ?_
  rw [V_main_arg3]
theorem gffn_at (i : Fin 1) (j : Fin 1024) : (blkAt m c t).gffn (ix2 i j) = argGffn m c (ix2 i j) := by
  refine (emb5 t i j (V m c main_arg5)).trans ?_
  rw [V_main_arg5]
theorem gfin_at (i : Fin 1) (j : Fin 1024) : (blkAt m c t).gfin (ix2 i j) = argGfin m c (ix2 i j) := by
  refine (emb9 t i j (V m c main_arg9)).trans ?_
  rw [V_main_arg9]
theorem ym_at (j : Fin 512) : (blkAt m c t).ym (ix2 r j) = argYm m c (ix2 (tok t r) j) := by
  refine (emb1 t r j (V m c main_v0)).trans ?_
  rw [V0]
  rfl
theorem yp_at (j : Fin 512) : (blkAt m c t).yp (ix2 r j) = argYp m c (ix2 (tok t r) j) := by
  refine (emb2 t r j (V m c main_v1)).trans ?_
  rw [V1]
  rfl
theorem wo_at (i j : Fin 1024) : (blkAt m c t).wo (ix2 i j) = argWo m c (ix2 i j) := by
  refine (emb4 t i j (V m c main_v2)).trans ?_
  rw [V2]
  rfl
theorem wg_at (i : Fin 2816) (j : Fin 1024) : (blkAt m c t).wg (ix2 i j) = argWg m c (ix2 j i) := by
  refine (emb6 t i j (V m c main_v4)).trans ?_
  rw [V4]
  generalize argWg m c = q
  pointwise []
theorem wu_at (i : Fin 2816) (j : Fin 1024) : (blkAt m c t).wu (ix2 i j) = argWu m c (ix2 j i) := by
  refine (emb7 t i j (V m c main_v6)).trans ?_
  rw [V6]
  generalize argWu m c = q
  pointwise []
theorem wd_at (i : Fin 2816) (j : Fin 1024) : (blkAt m c t).wd (ix2 i j) = argWd m c (ix2 i j) := by
  refine (emb8 t i j (V m c main_v7)).trans ?_
  rw [V7]
  rfl

/-- A slice of the modulation. -/
theorem modul_at (X : Vec Ideal S1x6144 .f32) (o : Nat) (h) (j : Fin 1024) (k : Fin 6144) (hk : k.val = o + j.val) :
    (View.ld X (Rect.unit (s := S1x6144) ![0, o] S1x1024.size h) : Vec Ideal S1x1024 .f32) (ix2 0 j) = X (ix2 0 k) := by
  refine congrArg X (funext fun d => Fin.ext ?_)
  match d with
  | ⟨0, _⟩ => rfl
  | ⟨1, _⟩ =>
    show o + 1 * j.val = k.val
    omega

theorem wt_eq : (blkAt m c t).wt = wts m c := by
  unfold Blk.wt wts Token.weights
  congr 1
  · funext j; exact (modul_at _ 2048 _ j ⟨2048 + j.val, by omega⟩ rfl).trans (cond_at m c t 0 _)
  · funext j; exact (modul_at _ 3072 _ j ⟨3072 + j.val, by omega⟩ rfl).trans (cond_at m c t 0 _)
  · funext j; exact (modul_at _ 4096 _ j ⟨4096 + j.val, by omega⟩ rfl).trans (cond_at m c t 0 _)
  · funext j; exact (modul_at _ 5120 _ j ⟨5120 + j.val, by omega⟩ rfl).trans (cond_at m c t 0 _)
  · funext j; exact gffn_at m c t 0 j
  · funext j; exact gfin_at m c t 0 j
  · funext i j; exact wo_at m c t i j
  · funext i j; exact wg_at m c t i j
  · funext i j; exact wu_at m c t i j
  · funext i j; exact wd_at m c t i j

theorem xr_eq : (blkAt m c t).xr r = rowX m c (tok t r) := funext fun j => x_at m c t r j
theorem tr_eq : (blkAt m c t).tr r = rowT m c (tok t r) := funext fun j => tgt_at m c t r j

/-- The two halves beside each other. -/
theorem cat_at (A B : Vec Ideal S256x512 .bf16) (j : Fin 1024) :
    k0_pay10 A B (ix2 r j) = if hc : j.val < 512 then A (ix2 r ⟨j.val, hc⟩) else B (ix2 r ⟨j.val - 512, by omega⟩) := by
  pointwise [k0_pay10]

theorem cr_eq : (blkAt m c t).cr r = rowC m c (tok t r) := by
  funext j
  refine (cat_at r _ _ j).trans ?_
  unfold rowC Token.beside
  split
  · exact ym_at m c t r _
  · exact yp_at m c t r _

/-! ## The results -/

theorem at2 {a b : Nat} {α : Type} (f g : (⟨2, ![a, b]⟩ : Shape).Idx → α) (h : ∀ i j, f (ix2 i j) = g (ix2 i j)) (y : (⟨2, ![a, b]⟩ : Shape).Idx) : f y = g y := by
  rw [← ix2_eta y]; exact h _ _

end

section
variable (m : (ℓ : Loc nD τ sig) → Buf (Elt Ideal) ℓ) (c : Dev nD)

theorem arr11 (G : Vec Ideal S1024x4096 .bf16) (h : ∀ (s : Fin 4096) (j : Fin 1024), G (ix2 j s) = Token.h (wts m c) (rowX m c s) (rowC m c s) j) : (dats m 0 c).arrAt 11 cfg0.N = G := by
  refine (dats m 0 c).arrAt_eq_of_covers 11 _ (by decide +kernel) fun t hf y => ?_
  blk_simp
  rw [after0_11]
  refine at2 _ (fun y => G ((win0_11.blk t).view.emb y)) (fun j r => ?_) y
  refine ((blkAt m c t).o11_apply r j).trans ?_
  rw [wt_eq, xr_eq, cr_eq]
  exact ((h (tok t r) j).symm).trans (emb11 t j r G).symm
theorem arr12 (G : Vec Ideal S4096x2816 .bf16) (h : ∀ (s : Fin 4096) (j : Fin 2816), G (ix2 s j) = Token.a (wts m c) (rowX m c s) (rowC m c s) j) : (dats m 0 c).arrAt 12 cfg0.N = G := by
  refine (dats m 0 c).arrAt_eq_of_covers 12 _ (by decide +kernel) fun t hf y => ?_
  blk_simp
  rw [after0_12]
  refine at2 _ (fun y => G ((win0_12.blk t).view.emb y)) (fun r j => ?_) y
  refine ((blkAt m c t).a_apply r j).trans ?_
  rw [wt_eq, xr_eq, cr_eq]
  exact ((h (tok t r) j).symm).trans (emb12 t r j G).symm
theorem arr13 (G : Vec Ideal S4096x2816 .bf16) (h : ∀ (s : Fin 4096) (j : Fin 2816), G (ix2 s j) = Token.b (wts m c) (rowX m c s) (rowC m c s) j) : (dats m 0 c).arrAt 13 cfg0.N = G := by
  refine (dats m 0 c).arrAt_eq_of_covers 13 _ (by decide +kernel) fun t hf y => ?_
  blk_simp
  rw [after0_13]
  refine at2 _ (fun y => G ((win0_13.blk t).view.emb y)) (fun r j => ?_) y
  refine ((blkAt m c t).b_apply r j).trans ?_
  rw [wt_eq, xr_eq, cr_eq]
  exact ((h (tok t r) j).symm).trans (emb13 t r j G).symm
theorem arr14 (G : Vec Ideal S4096x2816 .bf16) (h : ∀ (s : Fin 4096) (j : Fin 2816), G (ix2 s j) = Token.da (wts m c) (rowX m c s) (rowC m c s) (rowT m c s) j) : (dats m 0 c).arrAt 14 cfg0.N = G := by
  refine (dats m 0 c).arrAt_eq_of_covers 14 _ (by decide +kernel) fun t hf y => ?_
  blk_simp
  rw [after0_14]
  refine at2 _ (fun y => G ((win0_14.blk t).view.emb y)) (fun r j => ?_) y
  refine ((blkAt m c t).da_apply r j).trans ?_
  rw [wt_eq, xr_eq, cr_eq, tr_eq]
  exact ((h (tok t r) j).symm).trans (emb14 t r j G).symm
theorem arr15 (G : Vec Ideal S4096x2816 .bf16) (h : ∀ (s : Fin 4096) (j : Fin 2816), G (ix2 s j) = Token.db (wts m c) (rowX m c s) (rowC m c s) (rowT m c s) j) : (dats m 0 c).arrAt 15 cfg0.N = G := by
  refine (dats m 0 c).arrAt_eq_of_covers 15 _ (by decide +kernel) fun t hf y => ?_
  blk_simp
  rw [after0_15]
  refine at2 _ (fun y => G ((win0_15.blk t).view.emb y)) (fun r j => ?_) y
  refine ((blkAt m c t).db_apply r j).trans ?_
  rw [wt_eq, xr_eq, cr_eq, tr_eq]
  exact ((h (tok t r) j).symm).trans (emb15 t r j G).symm
theorem arr16 (G : Vec Ideal S1024x4096 .bf16) (h : ∀ (s : Fin 4096) (j : Fin 1024), G (ix2 j s) = Token.dff (wts m c) (rowX m c s) (rowC m c s) (rowT m c s) j) : (dats m 0 c).arrAt 16 cfg0.N = G := by
  refine (dats m 0 c).arrAt_eq_of_covers 16 _ (by decide +kernel) fun t hf y => ?_
  blk_simp
  rw [after0_16]
  refine at2 _ (fun y => G ((win0_16.blk t).view.emb y)) (fun j r => ?_) y
  refine ((blkAt m c t).o16_apply r j).trans ?_
  rw [wt_eq, xr_eq, cr_eq, tr_eq]
  exact ((h (tok t r) j).symm).trans (emb16 t j r G).symm
theorem arr17 (G : Vec Ideal S4096x1024 .f32) (h : ∀ (s : Fin 4096) (j : Fin 1024), G (ix2 s j) = Token.dx2 (wts m c) (rowX m c s) (rowC m c s) (rowT m c s) j) : (dats m 0 c).arrAt 17 cfg0.N = G := by
  refine (dats m 0 c).arrAt_eq_of_covers 17 _ (by decide +kernel) fun t hf y => ?_
  blk_simp
  rw [after0_17]
  refine at2 _ (fun y => G ((win0_17.blk t).view.emb y)) (fun r j => ?_) y
  refine ((blkAt m c t).o17_apply r j).trans ?_
  rw [wt_eq, xr_eq, cr_eq, tr_eq]
  exact ((h (tok t r) j).symm).trans (emb17 t r j G).symm
theorem arr18 (G : Vec Ideal S4096x1024 .bf16) (h : ∀ (s : Fin 4096) (j : Fin 1024), G (ix2 s j) = Token.dmix (wts m c) (rowX m c s) (rowC m c s) (rowT m c s) j) : (dats m 0 c).arrAt 18 cfg0.N = G := by
  refine (dats m 0 c).arrAt_eq_of_covers 18 _ (by decide +kernel) fun t hf y => ?_
  blk_simp
  rw [after0_18]
  refine at2 _ (fun y => G ((win0_18.blk t).view.emb y)) (fun r j => ?_) y
  refine ((blkAt m c t).o18_apply r j).trans ?_
  rw [wt_eq, xr_eq, cr_eq, tr_eq]
  exact ((h (tok t r) j).symm).trans (emb18 t r j G).symm
theorem arr19 (G : Vec Ideal S1024x4096 .bf16) (h : ∀ (s : Fin 4096) (j : Fin 1024), G (ix2 j s) = rowC m c s j) : (dats m 0 c).arrAt 19 cfg0.N = G := by
  refine (dats m 0 c).arrAt_eq_of_covers 19 _ (by decide +kernel) fun t hf y => ?_
  blk_simp
  rw [after0_19]
  refine at2 _ (fun y => G ((win0_19.blk t).view.emb y)) (fun j r => ?_) y
  refine ((blkAt m c t).o19_apply r j).trans ?_
  rw [cr_eq]
  exact ((h (tok t r) j).symm).trans (emb19 t j r G).symm
theorem arr20 (G : Vec Ideal S4096x512 .bf16) (h : ∀ (s : Fin 4096) (j : Fin 512), G (ix2 s j) = Token.dcat (wts m c) (rowX m c s) (rowC m c s) (rowT m c s) ⟨j.val, by omega⟩) : (dats m 0 c).arrAt 20 cfg0.N = G := by
  refine (dats m 0 c).arrAt_eq_of_covers 20 _ (by decide +kernel) fun t hf y => ?_
  blk_simp
  rw [after0_20]
  refine at2 _ (fun y => G ((win0_20.blk t).view.emb y)) (fun r j => ?_) y
  refine ((blkAt m c t).o20_apply r j).trans ?_
  rw [wt_eq, xr_eq, cr_eq, tr_eq]
  exact ((h (tok t r) j).symm).trans (emb20 t r j G).symm
theorem arr21 (G : Vec Ideal S4096x512 .f32) (h : ∀ (s : Fin 4096) (j : Fin 512), G (ix2 s j) = Token.dcat (wts m c) (rowX m c s) (rowC m c s) (rowT m c s) ⟨512 + j.val, by omega⟩) : (dats m 0 c).arrAt 21 cfg0.N = G := by
  refine (dats m 0 c).arrAt_eq_of_covers 21 _ (by decide +kernel) fun t hf y => ?_
  blk_simp
  rw [after0_21]
  refine at2 _ (fun y => G ((win0_21.blk t).view.emb y)) (fun r j => ?_) y
  refine ((blkAt m c t).o21_apply r j).trans ?_
  rw [wt_eq, xr_eq, cr_eq, tr_eq]
  exact ((h (tok t r) j).symm).trans (emb21 t r j G).symm
end

end Cert.Kernel3Ideal.Value

end
-- ==== Proof.TokenRef.lean ====
/-
  The entries of the arrays of the feed-forward call's reference: a token's row holds what the token's mathematics gives.
-/
module

public import Idealize.ShloMosaic.Lib.Pointwise
public import proofs.«01_k».proof.Proof.Token
public import proofs.«01_k».proof.Proof.Gen.Reference3Ideal.Run

@[expose] public section

set_option maxRecDepth 16384

noncomputable section

open Idealize.ShloMosaic Idealize.ShloMosaic.TcCoe Idealize.SL.Sem Idealize.ShloMosaic.StableHlo

namespace Cert.Reference3Ideal.Value

open Cert.Reference3Ideal Cert.Reference3Ideal.Gen
open Cert.Token (Mat)

section
variable (V0 : Valuation τ sig (Elt Ideal))

abbrev aX : Mat 4096 1024 := V0 (Proc.devRef .tc main_arg0)
abbrev aYm : Mat 4096 512 := V0 (Proc.devRef .tc main_arg1)
abbrev aYp : Mat 4096 512 := V0 (Proc.devRef .tc main_arg2)
abbrev aM : Mat 1 6144 := V0 (Proc.devRef .tc main_arg3)
abbrev aWo : Mat 1024 1024 := V0 (Proc.devRef .tc main_arg4)
abbrev aGf : Mat 1 1024 := V0 (Proc.devRef .tc main_arg5)
abbrev aWg : Mat 1024 2816 := V0 (Proc.devRef .tc main_arg6)
abbrev aWu : Mat 1024 2816 := V0 (Proc.devRef .tc main_arg7)
abbrev aWd : Mat 2816 1024 := V0 (Proc.devRef .tc main_arg8)
abbrev aGl : Mat 1 1024 := V0 (Proc.devRef .tc main_arg9)
abbrev aT : Mat 4096 1024 := V0 (Proc.devRef .tc main_arg10)

/-- What the tokens share, and the three rows of token `s`. -/
abbrev wt : Token.Weights := Token.weights (aM V0) (aWo V0) (aGf V0) (aWg V0) (aWu V0) (aWd V0) (aGl V0)
abbrev xr (s : Fin 4096) : Fin 1024 → EReal := Token.row (aX V0) s
abbrev cr (s : Fin 4096) : Fin 1024 → EReal := Token.beside (aYm V0) (aYp V0) s
abbrev tr (s : Fin 4096) : Fin 1024 → EReal := Token.row (aT V0) s

variable (s : Fin 4096) (c : Fin 1024) (f : Fin 2816)

theorem cat_apply : (res_main_v6 V0 : Mat 4096 1024) (ix2 s c) = cr V0 s c := by
  unfold res_main_v6
  generalize hp1 : (V0 (Proc.devRef .tc main_arg1) : Mat 4096 512) = p1
  generalize hp2 : (V0 (Proc.devRef .tc main_arg2) : Mat 4096 512) = p2
  pointwise []
  subst hp1
  subst hp2
  rfl

theorem gt1_apply : (res_main_v2 V0 : Mat 1 1024) (ix2 0 c) = (wt V0).gt1 c := by
  unfold res_main_v2
  generalize hp3 : (V0 (Proc.devRef .tc main_arg3) : Mat 1 6144) = p3
  pointwise []
  subst hp3
  rfl

theorem sc2_apply : (res_main_v4 V0 : Mat 1 1024) (ix2 0 c) = (wt V0).sc2 c := by
  unfold res_main_v4
  generalize hp3 : (V0 (Proc.devRef .tc main_arg3) : Mat 1 6144) = p3
  pointwise []
  subst hp3
  rfl

theorem gt2_apply : (res_main_v5 V0 : Mat 1 1024) (ix2 0 c) = (wt V0).gt2 c := by
  unfold res_main_v5
  generalize hp3 : (V0 (Proc.devRef .tc main_arg3) : Mat 1 6144) = p3
  pointwise []
  subst hp3
  rfl

theorem x2_apply : (res_main_v10 V0 : Mat 4096 1024) (ix2 s c) = Token.x2 (wt V0) (xr V0 s) (cr V0 s) c := by
  have e6 := cat_apply V0 s
  have e2 := gt1_apply V0
  unfold res_main_v10
  generalize (res_main_v6 V0 : Mat 4096 1024) = q6 at e6 ⊢
  generalize (res_main_v2 V0 : Mat 1 1024) = q2 at e2 ⊢
  generalize hp0 : (V0 (Proc.devRef .tc main_arg0) : Mat 4096 1024) = p0
  generalize hp4 : (V0 (Proc.devRef .tc main_arg4) : Mat 1024 1024) = p4
  pointwise []
  simp only [e6, e2]
  subst hp0
  subst hp4
  rfl

theorem r2_apply : (res_main_v18 V0 : Mat 4096 1) (ix2 s 0) = Token.r2 (wt V0) (xr V0 s) (cr V0 s) := by
  have e10 := x2_apply V0 s
  unfold res_main_v18
  generalize (res_main_v10 V0 : Mat 4096 1024) = q10 at e10 ⊢
  pointwise []
  simp only [e10]
  rfl

theorem n2_apply : (res_main_v20 V0 : Mat 4096 1024) (ix2 s c) = Token.n2 (wt V0) (xr V0 s) (cr V0 s) c := by
  have e10 := x2_apply V0 s
  have e18 := r2_apply V0 s
  unfold res_main_v20
  generalize (res_main_v10 V0 : Mat 4096 1024) = q10 at e10 ⊢
  generalize (res_main_v18 V0 : Mat 4096 1) = q18 at e18 ⊢
  pointwise []
  simp only [e10, e18]
  rfl

theorem h_apply : (res_main_v28 V0 : Mat 4096 1024) (ix2 s c) = Token.h (wt V0) (xr V0 s) (cr V0 s) c := by
  have e20 := n2_apply V0 s
  have e4 := sc2_apply V0
  unfold res_main_v28
  generalize (res_main_v20 V0 : Mat 4096 1024) = q20 at e20 ⊢
  generalize (res_main_v4 V0 : Mat 1 1024) = q4 at e4 ⊢
  generalize hp5 : (V0 (Proc.devRef .tc main_arg5) : Mat 1 1024) = p5
  generalize hp3 : (V0 (Proc.devRef .tc main_arg3) : Mat 1 6144) = p3
  pointwise []
  simp only [e20, e4]
  subst hp5
  subst hp3
  rfl

theorem a_apply : (res_main_v29 V0 : Mat 4096 2816) (ix2 s f) = Token.a (wt V0) (xr V0 s) (cr V0 s) f := by
  have e28 := h_apply V0 s
  unfold res_main_v29
  generalize (res_main_v28 V0 : Mat 4096 1024) = q28 at e28 ⊢
  generalize hp6 : (V0 (Proc.devRef .tc main_arg6) : Mat 1024 2816) = p6
  pointwise []
  simp only [e28]
  subst hp6
  rfl

theorem b_apply : (res_main_v30 V0 : Mat 4096 2816) (ix2 s f) = Token.b (wt V0) (xr V0 s) (cr V0 s) f := by
  have e28 := h_apply V0 s
  unfold res_main_v30
  generalize (res_main_v28 V0 : Mat 4096 1024) = q28 at e28 ⊢
  generalize hp7 : (V0 (Proc.devRef .tc main_arg7) : Mat 1024 2816) = p7
  pointwise []
  simp only [e28]
  subst hp7
  rfl

theorem sig_apply : (res_main_v36 V0 : Mat 4096 2816) (ix2 s f) = Token.sig (Token.a (wt V0) (xr V0 s) (cr V0 s) f) := by
  have e29 := a_apply V0 s
  unfold res_main_v36
  generalize (res_main_v29 V0 : Mat 4096 2816) = q29 at e29 ⊢
  pointwise []
  simp only [e29]
  rfl

theorem x3_apply : (res_main_v42 V0 : Mat 4096 1024) (ix2 s c) = Token.x3 (wt V0) (xr V0 s) (cr V0 s) c := by
  have e10 := x2_apply V0 s
  have e5 := gt2_apply V0
  have e29 := a_apply V0 s
  have e36 := sig_apply V0 s
  have e30 := b_apply V0 s
  unfold res_main_v42
  generalize (res_main_v10 V0 : Mat 4096 1024) = q10 at e10 ⊢
  generalize (res_main_v5 V0 : Mat 1 1024) = q5 at e5 ⊢
  generalize (res_main_v29 V0 : Mat 4096 2816) = q29 at e29 ⊢
  generalize (res_main_v36 V0 : Mat 4096 2816) = q36 at e36 ⊢
  generalize (res_main_v30 V0 : Mat 4096 2816) = q30 at e30 ⊢
  generalize hp8 : (V0 (Proc.devRef .tc main_arg8) : Mat 2816 1024) = p8
  pointwise []
  simp only [e10, e5, e29, e36, e30]
  subst hp8
  rfl

theorem r3_apply : (res_main_v50 V0 : Mat 4096 1) (ix2 s 0) = Token.r3 (wt V0) (xr V0 s) (cr V0 s) := by
  have e42 := x3_apply V0 s
  unfold res_main_v50
  generalize (res_main_v42 V0 : Mat 4096 1024) = q42 at e42 ⊢
  pointwise []
  simp only [e42]
  rfl

theorem n3_apply : (res_main_v52 V0 : Mat 4096 1024) (ix2 s c) = Token.n3 (wt V0) (xr V0 s) (cr V0 s) c := by
  have e42 := x3_apply V0 s
  have e50 := r3_apply V0 s
  unfold res_main_v52
  generalize (res_main_v42 V0 : Mat 4096 1024) = q42 at e42 ⊢
  generalize (res_main_v50 V0 : Mat 4096 1) = q50 at e50 ⊢
  pointwise []
  simp only [e42, e50]
  rfl

theorem dyg_apply : (res_main_v59 V0 : Mat 4096 1024) (ix2 s c) = Token.dy (wt V0) (xr V0 s) (cr V0 s) (tr V0 s) c * (wt V0).gfin c := by
  have e52 := n3_apply V0 s
  unfold res_main_v59
  generalize (res_main_v52 V0 : Mat 4096 1024) = q52 at e52 ⊢
  generalize hp9 : (V0 (Proc.devRef .tc main_arg9) : Mat 1 1024) = p9
  generalize hp10 : (V0 (Proc.devRef .tc main_arg10) : Mat 4096 1024) = p10
  pointwise []
  simp only [e52]
  subst hp9
  subst hp10
  rfl

theorem dx3_apply : (res_main_v69 V0 : Mat 4096 1024) (ix2 s c) = Token.dx3 (wt V0) (xr V0 s) (cr V0 s) (tr V0 s) c := by
  have e52 := n3_apply V0 s
  have e50 := r3_apply V0 s
  have e59 := dyg_apply V0 s
  unfold res_main_v69
  generalize (res_main_v52 V0 : Mat 4096 1024) = q52 at e52 ⊢
  generalize (res_main_v50 V0 : Mat 4096 1) = q50 at e50 ⊢
  generalize (res_main_v59 V0 : Mat 4096 1024) = q59 at e59 ⊢
  pointwise []
  simp only [e52, e50, e59]
  rfl

theorem dff_apply : (res_main_v71 V0 : Mat 4096 1024) (ix2 s c) = Token.dff (wt V0) (xr V0 s) (cr V0 s) (tr V0 s) c := by
  have e69 := dx3_apply V0 s
  have e5 := gt2_apply V0
  unfold res_main_v71
  generalize (res_main_v69 V0 : Mat 4096 1024) = q69 at e69 ⊢
  generalize (res_main_v5 V0 : Mat 1 1024) = q5 at e5 ⊢
  pointwise []
  simp only [e69, e5]
  rfl

theorem df_apply : (res_main_v73 V0 : Mat 4096 2816) (ix2 s f) = Token.df (wt V0) (xr V0 s) (cr V0 s) (tr V0 s) f := by
  have e71 := dff_apply V0 s
  unfold res_main_v73
  generalize (res_main_v71 V0 : Mat 4096 1024) = q71 at e71 ⊢
  generalize hp8 : (V0 (Proc.devRef .tc main_arg8) : Mat 2816 1024) = p8
  pointwise []
  simp only [e71]
  subst hp8
  rfl

theorem da_apply : (res_main_v81 V0 : Mat 4096 2816) (ix2 s f) = Token.da (wt V0) (xr V0 s) (cr V0 s) (tr V0 s) f := by
  have e73 := df_apply V0 s
  have e30 := b_apply V0 s
  have e36 := sig_apply V0 s
  have e29 := a_apply V0 s
  unfold res_main_v81
  generalize (res_main_v73 V0 : Mat 4096 2816) = q73 at e73 ⊢
  generalize (res_main_v30 V0 : Mat 4096 2816) = q30 at e30 ⊢
  generalize (res_main_v36 V0 : Mat 4096 2816) = q36 at e36 ⊢
  generalize (res_main_v29 V0 : Mat 4096 2816) = q29 at e29 ⊢
  pointwise []
  simp only [e73, e30, e36, e29]
  rfl

theorem db_apply : (res_main_v83 V0 : Mat 4096 2816) (ix2 s f) = Token.db (wt V0) (xr V0 s) (cr V0 s) (tr V0 s) f := by
  have e73 := df_apply V0 s
  have e29 := a_apply V0 s
  have e36 := sig_apply V0 s
  unfold res_main_v83
  generalize (res_main_v73 V0 : Mat 4096 2816) = q73 at e73 ⊢
  generalize (res_main_v29 V0 : Mat 4096 2816) = q29 at e29 ⊢
  generalize (res_main_v36 V0 : Mat 4096 2816) = q36 at e36 ⊢
  pointwise []
  simp only [e73, e29, e36]
  rfl

theorem dhg_apply : (res_main_v93 V0 : Mat 4096 1024) (ix2 s c) = Token.dh (wt V0) (xr V0 s) (cr V0 s) (tr V0 s) c * ((wt V0).gffn c * (1 + (wt V0).sc2 c)) := by
  have e81 := da_apply V0 s
  have e83 := db_apply V0 s
  have e4 := sc2_apply V0
  unfold res_main_v93
  generalize (res_main_v81 V0 : Mat 4096 2816) = q81 at e81 ⊢
  generalize (res_main_v83 V0 : Mat 4096 2816) = q83 at e83 ⊢
  generalize (res_main_v4 V0 : Mat 1 1024) = q4 at e4 ⊢
  generalize hp5 : (V0 (Proc.devRef .tc main_arg5) : Mat 1 1024) = p5
  generalize hp6 : (V0 (Proc.devRef .tc main_arg6) : Mat 1024 2816) = p6
  generalize hp7 : (V0 (Proc.devRef .tc main_arg7) : Mat 1024 2816) = p7
  pointwise []
  simp only [e81, e83, e4]
  subst hp5
  subst hp6
  subst hp7
  rfl

theorem dmix_apply : (res_main_v106 V0 : Mat 4096 1024) (ix2 s c) = Token.dmix (wt V0) (xr V0 s) (cr V0 s) (tr V0 s) c := by
  have e69 := dx3_apply V0 s
  have e18 := r2_apply V0 s
  have e93 := dhg_apply V0 s
  have e20 := n2_apply V0 s
  have e2 := gt1_apply V0
  unfold res_main_v106
  generalize (res_main_v69 V0 : Mat 4096 1024) = q69 at e69 ⊢
  generalize (res_main_v18 V0 : Mat 4096 1) = q18 at e18 ⊢
  generalize (res_main_v93 V0 : Mat 4096 1024) = q93 at e93 ⊢
  generalize (res_main_v20 V0 : Mat 4096 1024) = q20 at e20 ⊢
  generalize (res_main_v2 V0 : Mat 1 1024) = q2 at e2 ⊢
  pointwise []
  simp only [e69, e18, e93, e20, e2]
  rfl

theorem dcat_apply : (res_main_v108 V0 : Mat 4096 1024) (ix2 s c) = Token.dcat (wt V0) (xr V0 s) (cr V0 s) (tr V0 s) c := by
  have e106 := dmix_apply V0 s
  unfold res_main_v108
  generalize (res_main_v106 V0 : Mat 4096 1024) = q106 at e106 ⊢
  generalize hp4 : (V0 (Proc.devRef .tc main_arg4) : Mat 1024 1024) = p4
  pointwise []
  simp only [e106]
  subst hp4
  rfl

end

end Cert.Reference3Ideal.Value

end
-- ==== Proof.TokenRefOut.lean ====
/-
  The eleven results of the feed-forward call's reference, entry by entry: what the token's mathematics gives, cast, turned over or cut.
-/
module

public import Idealize.ShloMosaic.Lib.Pointwise
public import proofs.«01_k».proof.Proof.TokenRef

@[expose] public section

set_option maxRecDepth 16384

noncomputable section

open Idealize.ShloMosaic Idealize.ShloMosaic.TcCoe Idealize.SL.Sem Idealize.ShloMosaic.StableHlo

namespace Cert.Reference3Ideal.Value

open Cert.Reference3Ideal Cert.Reference3Ideal.Gen
open Cert.Token (Mat)

/-! ## Casting, turning over, cutting -/

section
variable (X : Mat 4096 1024) (Y : Mat 4096 2816) (s : Fin 4096) (c : Fin 1024) (f : Fin 2816) (e : Fin 512)

theorem turn_at : (truncf .bf16 (transpose S1024x4096 [1, 0] X transposes_S4096x1024_S1024x4096_1_0) bitsLt_bf16_f32 : FVec Ideal S1024x4096 .bf16) (ix2 c s) = X (ix2 s c) := by
  pointwise []
theorem cast_at : (truncf .bf16 X bitsLt_bf16_f32 : FVec Ideal S4096x1024 .bf16) (ix2 s c) = X (ix2 s c) := by
  pointwise []
theorem castF_at : (truncf .bf16 Y bitsLt_bf16_f32 : FVec Ideal S4096x2816 .bf16) (ix2 s f) = Y (ix2 s f) := by
  pointwise []
theorem left_at : (truncf .bf16 (extractStridedSlice S4096x512 ![0, 0] X slices_S4096x1024_S4096x512_0_0) bitsLt_bf16_f32 : FVec Ideal S4096x512 .bf16) (ix2 s e) = X (ix2 s ⟨e.val, by omega⟩) := by
  pointwise []
theorem right_at : (extractStridedSlice S4096x512 ![0, 512] X slices_S4096x1024_S4096x512_0_512 : FVec Ideal S4096x512 .f32) (ix2 s e) = X (ix2 s ⟨512 + e.val, by omega⟩) := by
  pointwise []
end

section
variable (V0 : Valuation τ sig (Elt Ideal)) (s : Fin 4096) (c : Fin 1024)

theorem dx2_apply : (addf (res_main_v69 V0) (mulf (broadcastInDim S4096x1024 ![0, 1] bcast_S4096x1_S4096x1024_0_1 (res_main_v18 V0)) (subf (res_main_v93 V0) (mulf (res_main_v20 V0)
      (broadcastInDim S4096x1024 ![0, 1] bcast_S4096x1_S4096x1024_0_1 (Host.divf (broadcastInDim S4096x1 ![0] bcast_S4096_S4096x1_0 (Host.reduceAdd (mulf (res_main_v93 V0) (res_main_v20 V0))
        (constant S_ .f32 0x00000000#32) reducesTo_S4096x1024_S4096_d1 h_S_)) (broadcastInDim S4096x1 ![] bcast_S_S4096x1 (constant S_ .f32 0x44800000#32))))))) : Mat 4096 1024) (ix2 s c)
    = Token.dx2 (wt V0) (xr V0 s) (cr V0 s) (tr V0 s) c := by
  have e69 := dx3_apply V0 s
  have e18 := r2_apply V0 s
  have e93 := dhg_apply V0 s
  have e20 := n2_apply V0 s
  generalize (res_main_v69 V0 : Mat 4096 1024) = q69 at e69 ⊢
  generalize (res_main_v18 V0 : Mat 4096 1) = q18 at e18 ⊢
  generalize (res_main_v93 V0 : Mat 4096 1024) = q93 at e93 ⊢
  generalize (res_main_v20 V0 : Mat 4096 1024) = q20 at e20 ⊢
  pointwise []
  simp only [e69, e18, e93, e20]
  rfl
end

end Cert.Reference3Ideal.Value

end
-- ==== Proof.Algebraic3.lean ====
/-
  From the same arguments the feed-forward call and its reference leave the same eleven arrays.
-/
module

public import proofs.«01_k».proof.Defs
public import proofs.«01_k».proof.Proof.Gen.Reference3Ideal
public import proofs.«01_k».proof.Proof.TokenOut
public import proofs.«01_k».proof.Proof.TokenRefOut

@[expose] public section

set_option maxRecDepth 16384
set_option maxHeartbeats 4000000

noncomputable section

open Idealize.ShloMosaic Idealize.ShloMosaic.TcCoe Idealize.SL.Sem

namespace Cert.Proof

open Cert.Reference3Ideal.Value (turn_at cast_at castF_at left_at right_at h_apply a_apply b_apply da_apply db_apply dff_apply dx2_apply dmix_apply cat_apply dcat_apply)

theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Value.dats m 0 c).arrAt 11 Cert.Kernel3Ideal.cfg0.N,
    fun c => (Cert.Kernel3Ideal.Value.dats m 0 c).arrAt 12 Cert.Kernel3Ideal.cfg0.N,
    fun c => (Cert.Kernel3Ideal.Value.dats m 0 c).arrAt 13 Cert.Kernel3Ideal.cfg0.N,
    fun c => (Cert.Kernel3Ideal.Value.dats m 0 c).arrAt 14 Cert.Kernel3Ideal.cfg0.N,
    fun c => (Cert.Kernel3Ideal.Value.dats m 0 c).arrAt 15 Cert.Kernel3Ideal.cfg0.N,
    fun c => (Cert.Kernel3Ideal.Value.dats m 0 c).arrAt 16 Cert.Kernel3Ideal.cfg0.N,
    fun c => (Cert.Kernel3Ideal.Value.dats m 0 c).arrAt 17 Cert.Kernel3Ideal.cfg0.N,
    fun c => (Cert.Kernel3Ideal.Value.dats m 0 c).arrAt 18 Cert.Kernel3Ideal.cfg0.N,
    fun c => (Cert.Kernel3Ideal.Value.dats m 0 c).arrAt 19 Cert.Kernel3Ideal.cfg0.N,
    fun c => (Cert.Kernel3Ideal.Value.dats m 0 c).arrAt 20 Cert.Kernel3Ideal.cfg0.N,
    fun c => (Cert.Kernel3Ideal.Value.dats m 0 c).arrAt 21 Cert.Kernel3Ideal.cfg0.N, ?_, ?_⟩
  · refine (θ_run Cert.Kernel3Ideal.defs _ _).mono (fun r hr c => ?_) (Cert.Kernel3Ideal.Value.run_main m g)
    have h := hr.1 c
    exact ⟨h.1 11 (by decide), h.1 12 (by decide), h.1 13 (by decide), h.1 14 (by decide), h.1 15 (by decide), h.1 16 (by decide), h.1 17 (by decide), h.1 18 (by decide), h.1 19 (by decide), h.1 20 (by decide), h.1 21 (by decide),
      (h.1 0 (by decide)).trans (((Cert.Kernel3Ideal.Value.dats m 0 c).arrAt_in 0 rfl _).trans (Cert.Kernel3Ideal.Gen.V_main_arg0 m c)),
      (h.2 Cert.Kernel3Ideal.main_arg1 (Pipeline.mem_restRefs_of Cert.Kernel3Ideal.main_arg1 (by decide) (by decide))).trans (Cert.Kernel3Ideal.Gen.V_main_arg1 m c),
      (h.2 Cert.Kernel3Ideal.main_arg2 (Pipeline.mem_restRefs_of Cert.Kernel3Ideal.main_arg2 (by decide) (by decide))).trans (Cert.Kernel3Ideal.Gen.V_main_arg2 m c),
      (h.1 3 (by decide)).trans (((Cert.Kernel3Ideal.Value.dats m 0 c).arrAt_in 3 rfl _).trans (Cert.Kernel3Ideal.Gen.V_main_arg3 m c)),
      (h.2 Cert.Kernel3Ideal.main_arg4 (Pipeline.mem_restRefs_of Cert.Kernel3Ideal.main_arg4 (by decide) (by decide))).trans (Cert.Kernel3Ideal.Gen.V_main_arg4 m c),
      (h.1 5 (by decide)).trans (((Cert.Kernel3Ideal.Value.dats m 0 c).arrAt_in 5 rfl _).trans (Cert.Kernel3Ideal.Gen.V_main_arg5 m c)),
      (h.2 Cert.Kernel3Ideal.main_arg6 (Pipeline.mem_restRefs_of Cert.Kernel3Ideal.main_arg6 (by decide) (by decide))).trans (Cert.Kernel3Ideal.Gen.V_main_arg6 m c),
      (h.2 Cert.Kernel3Ideal.main_arg7 (Pipeline.mem_restRefs_of Cert.Kernel3Ideal.main_arg7 (by decide) (by decide))).trans (Cert.Kernel3Ideal.Gen.V_main_arg7 m c),
      (h.2 Cert.Kernel3Ideal.main_arg8 (Pipeline.mem_restRefs_of Cert.Kernel3Ideal.main_arg8 (by decide) (by decide))).trans (Cert.Kernel3Ideal.Gen.V_main_arg8 m c),
      (h.1 9 (by decide)).trans (((Cert.Kernel3Ideal.Value.dats m 0 c).arrAt_in 9 rfl _).trans (Cert.Kernel3Ideal.Gen.V_main_arg9 m c)),
      (h.1 10 (by decide)).trans (((Cert.Kernel3Ideal.Value.dats m 0 c).arrAt_in 10 rfl _).trans (Cert.Kernel3Ideal.Gen.V_main_arg10 m c))⟩
  · refine (θ_run Cert.Reference3Ideal.defs _ _).mono (fun r h c => ?_) (Cert.Reference3Ideal.Value.run (F := Ideal) m' g')
    obtain ⟨e0, e1, e2, e3, e4, e5, e6, e7, e8, e9, e10⟩ := hagree c
    obtain ⟨h11, h12, h13, h14, h15, h16, h17, h18, h19, h20, h21, hrest⟩ := h c
    have hw : Cert.Reference3Ideal.Value.wt (StableHlo.launchContents m' c) = Cert.Kernel3Ideal.Value.wts m c := by
      show Token.weights (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))
        (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6))
        (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8))
        (m' ((c.tc : Thread Cert.Reference3Ideal.nD Cert.Reference3Ideal.τ).loc Cert.Reference3Ideal.main_arg9)) = _
      rw [e3, e4, e5, e6, e7, e8, e9]
      rfl
    have hx : ∀ s, Cert.Reference3Ideal.Value.xr (StableHlo.launchContents m' c) s = Cert.Kernel3Ideal.Value.rowX m c s := fun s => by
      show Token.row (m' ((c.tc : Thread Cert.Reference3Ideal.nD Cert.Reference3Ideal.τ).loc Cert.Reference3Ideal.main_arg0)) s = _
      rw [e0]
      rfl
    have hc : ∀ s, Cert.Reference3Ideal.Value.cr (StableHlo.launchContents m' c) s = Cert.Kernel3Ideal.Value.rowC m c s := fun s => by
      show Token.beside (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) s = _
      rw [e1, e2]
      rfl
    have ht : ∀ s, Cert.Reference3Ideal.Value.tr (StableHlo.launchContents m' c) s = Cert.Kernel3Ideal.Value.rowT m c s := fun s => by
      show Token.row (m' ((c.tc : Thread Cert.Reference3Ideal.nD Cert.Reference3Ideal.τ).loc Cert.Reference3Ideal.main_arg10)) s = _
      rw [e10]
      rfl
    refine ⟨h11.trans ?_, h12.trans ?_, h13.trans ?_, h14.trans ?_, h15.trans ?_, h16.trans ?_, h17.trans ?_, h18.trans ?_, h19.trans ?_, h20.trans ?_, h21.trans ?_, hrest⟩
    · refine (Cert.Kernel3Ideal.Value.arr11 m c _ fun s j => ?_).symm
      refine ((turn_at _ s j).trans (h_apply _ s j)).trans ?_
      rw [hw, hx, hc]
    · refine (Cert.Kernel3Ideal.Value.arr12 m c _ fun s j => ?_).symm
      refine ((castF_at _ s j).trans (a_apply _ s j)).trans ?_
      rw [hw, hx, hc]
    · refine (Cert.Kernel3Ideal.Value.arr13 m c _ fun s j => ?_).symm
      refine ((castF_at _ s j).trans (b_apply _ s j)).trans ?_
      rw [hw, hx, hc]
    · refine (Cert.Kernel3Ideal.Value.arr14 m c _ fun s j => ?_).symm
      refine ((castF_at _ s j).trans (da_apply _ s j)).trans ?_
      rw [hw, hx, hc, ht]
    · refine (Cert.Kernel3Ideal.Value.arr15 m c _ fun s j => ?_).symm
      refine ((castF_at _ s j).trans (db_apply _ s j)).trans ?_
      rw [hw, hx, hc, ht]
    · refine (Cert.Kernel3Ideal.Value.arr16 m c _ fun s j => ?_).symm
      refine ((turn_at _ s j).trans (dff_apply _ s j)).trans ?_
      rw [hw, hx, hc, ht]
    · refine (Cert.Kernel3Ideal.Value.arr17 m c _ fun s j => ?_).symm
      refine (dx2_apply _ s j).trans ?_
      rw [hw, hx, hc, ht]
    · refine (Cert.Kernel3Ideal.Value.arr18 m c _ fun s j => ?_).symm
      refine ((cast_at _ s j).trans (dmix_apply _ s j)).trans ?_
      rw [hw, hx, hc, ht]
    · refine (Cert.Kernel3Ideal.Value.arr19 m c _ fun s j => ?_).symm
      refine ((turn_at _ s j).trans (cat_apply _ s j)).trans ?_
      rw [hc]
    · refine (Cert.Kernel3Ideal.Value.arr20 m c _ fun s j => ?_).symm
      refine ((left_at _ s j).trans (dcat_apply _ s _)).trans ?_
      rw [hw, hx, hc, ht]
    · refine (Cert.Kernel3Ideal.Value.arr21 m c _ fun s j => ?_).symm
      refine ((right_at _ s j).trans (dcat_apply _ s _)).trans ?_
      rw [hw, hx, hc, ht]

end Cert.Proof

end
-- ==== Proof.lean ====
/-
  The certificate: the stated facts of the programs and of the precondition, the frames, the comparison of each kernel with
  its idealisation, and the agreement of each idealised kernel with its reference.
-/
module

public import proofs.«01_k».proof.Defs
public import proofs.«01_k».proof.Proof.Frames
public import proofs.«01_k».proof.Proof.Algebraic
public import proofs.«01_k».proof.Proof.Algebraic2
public import proofs.«01_k».proof.Proof.Frames3
public import proofs.«01_k».proof.Proof.Algebraic3

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite.facts,
    frame_kernel, frame_ideal, frame_ideal_finite, frame_reference, frame_reference_finite, frame_kernel2, frame_ideal2, frame_reference2, frame_kernel3, frame_ideal3, frame_reference3,
    preserves, algebraic, preserves2, algebraic2, preserves3, algebraic3⟩

end Cert.Proof

end
